-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)) (v4 : (c : Dev Cert.Kernel2Ideal.nD) → Buf (Elt Ideal) ((c.tc : Thread Cert.Kernel2Ideal.nD Cert.Kernel2Ideal.τ).loc Cert.Kernel2Ideal.main_v24_4)) (v5 : (c : Dev Cert.Kernel2Ideal.nD) → Buf (Elt Ideal) ((c.tc : Thread Cert.Kernel2Ideal.nD Cert.Kernel2Ideal.τ).loc Cert.Kernel2Ideal.main_v24_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_v24_4) = v4 c
          ∧ r.2.mem ((c.tc : Thread Cert.Kernel2Ideal.nD Cert.Kernel2Ideal.τ).loc Cert.Kernel2Ideal.main_v24_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v87) = v2 c
          ∧ r.2.mem ((c.tc : Thread Cert.Reference2Ideal.nD Cert.Reference2Ideal.τ).loc Cert.Reference2Ideal.main_v89) = v3 c
          ∧ r.2.mem ((c.tc : Thread Cert.Reference2Ideal.nD Cert.Reference2Ideal.τ).loc Cert.Reference2Ideal.main_v91) = v4 c
          ∧ r.2.mem ((c.tc : Thread Cert.Reference2Ideal.nD Cert.Reference2Ideal.τ).loc Cert.Reference2Ideal.main_v92) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v53) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)) (v3 : (c : Dev Cert.Kernel6Ideal.nD) → Buf (Elt Ideal) ((c.tc : Thread Cert.Kernel6Ideal.nD Cert.Kernel6Ideal.τ).loc Cert.Kernel6Ideal.main_v12_3)) (v4 : (c : Dev Cert.Kernel6Ideal.nD) → Buf (Elt Ideal) ((c.tc : Thread Cert.Kernel6Ideal.nD Cert.Kernel6Ideal.τ).loc Cert.Kernel6Ideal.main_v12_4)) (v5 : (c : Dev Cert.Kernel6Ideal.nD) → Buf (Elt Ideal) ((c.tc : Thread Cert.Kernel6Ideal.nD Cert.Kernel6Ideal.τ).loc Cert.Kernel6Ideal.main_v12_5)) (v6 : (c : Dev Cert.Kernel6Ideal.nD) → Buf (Elt Ideal) ((c.tc : Thread Cert.Kernel6Ideal.nD Cert.Kernel6Ideal.τ).loc Cert.Kernel6Ideal.main_v12_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_v12_3) = v3 c
          ∧ r.2.mem ((c.tc : Thread Cert.Kernel6Ideal.nD Cert.Kernel6Ideal.τ).loc Cert.Kernel6Ideal.main_v12_4) = v4 c
          ∧ r.2.mem ((c.tc : Thread Cert.Kernel6Ideal.nD Cert.Kernel6Ideal.τ).loc Cert.Kernel6Ideal.main_v12_5) = v5 c
          ∧ r.2.mem ((c.tc : Thread Cert.Kernel6Ideal.nD Cert.Kernel6Ideal.τ).loc Cert.Kernel6Ideal.main_v12_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v35) = v0 c
          ∧ r.2.mem ((c.tc : Thread Cert.Reference6Ideal.nD Cert.Reference6Ideal.τ).loc Cert.Reference6Ideal.main_v104) = v1 c
          ∧ r.2.mem ((c.tc : Thread Cert.Reference6Ideal.nD Cert.Reference6Ideal.τ).loc Cert.Reference6Ideal.main_v102) = v2 c
          ∧ r.2.mem ((c.tc : Thread Cert.Reference6Ideal.nD Cert.Reference6Ideal.τ).loc Cert.Reference6Ideal.main_v39) = v3 c
          ∧ r.2.mem ((c.tc : Thread Cert.Reference6Ideal.nD Cert.Reference6Ideal.τ).loc Cert.Reference6Ideal.main_v94) = v4 c
          ∧ r.2.mem ((c.tc : Thread Cert.Reference6Ideal.nD Cert.Reference6Ideal.τ).loc Cert.Reference6Ideal.main_v105) = v5 c
          ∧ r.2.mem ((c.tc : Thread Cert.Reference6Ideal.nD Cert.Reference6Ideal.τ).loc Cert.Reference6Ideal.main_v81) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
-- ==== Pre_finite5.lean ====
abbrev S8x4096x1024 : Shape := ⟨3, ![8, 4096, 1024]⟩
abbrev S1024 : Shape := ⟨1, ![1024]⟩
abbrev S16x64 : Shape := ⟨2, ![16, 64]⟩
abbrev S1024x1024 : Shape := ⟨2, ![1024, 1024]⟩
abbrev S8x9216 : Shape := ⟨2, ![8, 9216]⟩
abbrev S_ : Shape := ⟨0, ![]⟩

class Facts : Prop where
  bcast_S_S8x4096x1024 : S_.BroadcastsInDim S8x4096x1024 (![] : Fin 0 → Fin S8x4096x1024.rank)
  bcast_S_S16x64 : S_.BroadcastsInDim S16x64 (![] : Fin 0 → Fin S16x64.rank)

variable [Facts]

def fn {F : FTy → Type} [FloatOps F] (main_arg0 : FVec F S8x4096x1024 .f32) (main_arg1 : FVec F S8x4096x1024 .f32) (main_arg2 : FVec F S8x4096x1024 .f32) (main_arg3 : FVec F S8x4096x1024 .f32) (main_arg4 : FVec F S8x4096x1024 .f32) (main_arg5 : FVec F S1024 .f32) (main_arg6 : FVec F S1024 .f32) (main_arg7 : FVec F S16x64 .f32) (main_arg8 : FVec F S1024x1024 .f32) (main_arg9 : FVec F S8x4096x1024 .f32) (main_arg10 : FVec F S8x9216 .f32) : IVec S8x4096x1024 1 × IVec S8x4096x1024 1 × IVec S8x4096x1024 1 × IVec S16x64 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x4096x1024 .f32 := Host.absf main_arg1
  let main_cst_0 : FVec F S_ .f32 := constant S_ .f32 0x7F800000#32
  let main_v4 : FVec F S8x4096x1024 .f32 := broadcastInDim S8x4096x1024 ![] bcast_S_S8x4096x1024 main_cst_0
  let main_v5 : IVec S8x4096x1024 1 := cmpf .olt main_v3 main_v4
  let main_v6 : FVec F S8x4096x1024 .f32 := Host.absf main_arg2
  let main_cst_1 : FVec F S_ .f32 := constant S_ .f32 0x7F800000#32
  let main_v7 : FVec F S8x4096x1024 .f32 := broadcastInDim S8x4096x1024 ![] bcast_S_S8x4096x1024 main_cst_1
  let main_v8 : IVec S8x4096x1024 1 := cmpf .olt main_v6 main_v7
  let main_v9 : FVec F S16x64 .f32 := Host.absf main_arg7
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  (main_v2, main_v5, main_v8, main_v11)
-- ==== Pre_finite6.lean ====
abbrev S8x4096x1024 : Shape := ⟨3, ![8, 4096, 1024]⟩
abbrev S8x9216 : Shape := ⟨2, ![8, 9216]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩

class Facts : Prop where
  bcast_S_S8x4096x1024 : S_.BroadcastsInDim S8x4096x1024 (![] : Fin 0 → Fin S8x4096x1024.rank)
  bcast_S_S8x9216 : S_.BroadcastsInDim S8x9216 (![] : Fin 0 → Fin S8x9216.rank)
  bcast_S_S6x1024 : S_.BroadcastsInDim S6x1024 (![] : Fin 0 → Fin S6x1024.rank)
  bcast_S_S3x1024x1024 : S_.BroadcastsInDim S3x1024x1024 (![] : Fin 0 → Fin S3x1024x1024.rank)
  bcast_S_S1024 : S_.BroadcastsInDim S1024 (![] : Fin 0 → Fin S1024.rank)

variable [Facts]

def fn {F : FTy → Type} [FloatOps F] (main_arg0 : FVec F S8x4096x1024 .f32) (main_arg1 : FVec F S8x9216 .f32) (main_arg2 : FVec F S6x1024 .f32) (main_arg3 : FVec F S3x1024x1024 .f32) (main_arg4 : FVec F S1024 .f32) (main_arg5 : FVec F S1024x64 .f32) (main_arg6 : FVec F S64x1024 .f32) (main_arg7 : FVec F S1024 .f32) (main_arg8 : FVec F S1024x64 .f32) (main_arg9 : FVec F S64x1024 .f32) (main_arg10 : FVec F S1024x160 .f32) (main_arg11 : FVec F S160x1024 .f32) (main_arg12 : FVec F S1024 .f32) (main_arg13 : FVec F S1024 .f32) : IVec S8x4096x1024 1 × IVec S8x9216 1 × IVec S6x1024 1 × IVec S3x1024x1024 1 × IVec S1024 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S8x9216 .f32 := Host.absf main_arg1
  let main_cst_0 : FVec F S_ .f32 := constant S_ .f32 0x7F800000#32
  let main_v4 : FVec F S8x9216 .f32 := broadcastInDim S8x9216 ![] bcast_S_S8x9216 main_cst_0
  let main_v5 : IVec S8x9216 1 := cmpf .olt main_v3 main_v4
  let main_v6 : FVec F S6x1024 .f32 := Host.absf main_arg2
  let main_cst_1 : FVec F S_ .f32 := constant S_ .f32 0x7F800000#32
  let main_v7 : FVec F S6x1024 .f32 := broadcastInDim S6x1024 ![] bcast_S_S6x1024 main_cst_1
  let main_v8 : IVec S6x1024 1 := cmpf .olt main_v6 main_v7
  let main_v9 : FVec F S3x1024x1024 .f32 := Host.absf main_arg3
  let main_cst_2 : FVec F S_ .f32 := constant S_ .f32 0x7F800000#32
  let main_v10 : FVec F S3x1024x1024 .f32 := broadcastInDim S3x1024x1024 ![] bcast_S_S3x1024x1024 main_cst_2
  let main_v11 : IVec S3x1024x1024 1 := cmpf .olt main_v9 main_v10
  let main_v12 : FVec F S1024 .f32 := Host.absf main_arg12
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  (main_v2, main_v5, main_v8, main_v11, main_v14)
-- ==== Kernel.lean ====
abbrev S8x4096x1024 : Shape := ⟨3, ![8, 4096, 1024]⟩
abbrev S8x9216 : Shape := ⟨2, ![8, 9216]⟩
abbrev S1024x5632 : Shape := ⟨2, ![1024, 5632]⟩
abbrev S2816x1024 : Shape := ⟨2, ![2816, 1024]⟩
abbrev S8x9x1x1024 : Shape := ⟨4, ![8, 9, 1, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 8
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x5632, .f32⟩
  | .hbm, ⟨3, _⟩ => ⟨S2816x1024, .f32⟩
  | .hbm, ⟨4, _⟩ => ⟨S8x9x1x1024, .f32⟩
  | .hbm, ⟨5, _⟩ => ⟨S1024x5632, .bf16⟩
  | .hbm, ⟨6, _⟩ => ⟨S2816x1024, .bf16⟩
  | .hbm, ⟨7, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x4096x1024 : Shape := ⟨3, ![8, 4096, 1024]⟩
abbrev S8x9216 : Shape := ⟨2, ![8, 9216]⟩
abbrev S1024x5632 : Shape := ⟨2, ![1024, 5632]⟩
abbrev S2816x1024 : Shape := ⟨2, ![2816, 1024]⟩
abbrev S8x1024 : Shape := ⟨2, ![8, 1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S8x4096x5632 : Shape := ⟨3, ![8, 4096, 5632]⟩
abbrev S8x4096x2816 : Shape := ⟨3, ![8, 4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x5632, .f32⟩
  | .hbm, ⟨3, _⟩ => ⟨S2816x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1x1024, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S8x1x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x4096x1024, .f32⟩
  | .hbm, ⟨35, _⟩ => ⟨S8x4096x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x5632, .f32⟩
  | .hbm, ⟨40, _⟩ => ⟨S8x4096x2816, .f32⟩
  | .hbm, ⟨41, _⟩ => ⟨S8x4096x2816, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S_, .f32⟩
  | .hbm, ⟨48, _⟩ => ⟨S8x4096x2816, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x9216 : Shape := ⟨2, ![8, 9216]⟩
abbrev S1024x2120 : Shape := ⟨2, ![1024, 2120]⟩
abbrev S64 : Shape := ⟨1, ![64]⟩
abbrev S8x9x1x1024 : Shape := ⟨4, ![8, 9, 1, 1024]⟩
abbrev S1024x1024 : Shape := ⟨2, ![1024, 1024]⟩
abbrev S1024x256 : Shape := ⟨2, ![1024, 256]⟩
abbrev S1024x4x64 : Shape := ⟨3, ![1024, 4, 64]⟩
abbrev S_ : Shape := ⟨0, ![]⟩
abbrev S1024x4x128 : Shape := ⟨3, ![1024, 4, 128]⟩
abbrev S1024x512 : Shape := ⟨2, ![1024, 512]⟩
abbrev S256x1024 : Shape := ⟨2, ![256, 1024]⟩
abbrev S512x1024 : Shape := ⟨2, ![512, 1024]⟩
abbrev S1024x64 : Shape := ⟨2, ![1024, 64]⟩
abbrev S1024x128 : Shape := ⟨2, ![1024, 128]⟩
abbrev S1024x8 : Shape := ⟨2, ![1024, 8]⟩
abbrev S8x1024 : Shape := ⟨2, ![8, 1024]⟩
abbrev S16x1024 : Shape := ⟨2, ![16, 1024]⟩
abbrev S1808x1024 : Shape := ⟨2, ![1808, 1024]⟩
abbrev S1024x640 : Shape := ⟨2, ![1024, 640]⟩
abbrev S64x1 : Shape := ⟨2, ![64, 1]⟩
abbrev S128 : Shape := ⟨1, ![128]⟩
abbrev S1x128 : Shape := ⟨2, ![1, 128]⟩
abbrev S8x1024x4096 : Shape := ⟨3, ![8, 1024, 4096]⟩
abbrev S8x4096x512 : Shape := ⟨3, ![8, 4096, 512]⟩
abbrev S8x16x256x256 : Shape := ⟨4, ![8, 16, 256, 256]⟩
abbrev S8x512x4096 : Shape := ⟨3, ![8, 512, 4096]⟩
abbrev S8x4096x128 : Shape := ⟨3, ![8, 4096, 128]⟩
abbrev S8x8x4096 : Shape := ⟨3, ![8, 8, 4096]⟩
abbrev S1x512x1024 : Shape := ⟨3, ![1, 512, 1024]⟩
abbrev S1x1x1x1024 : Shape := ⟨4, ![1, 1, 1, 1024]⟩
abbrev S1x1024x512 : Shape := ⟨3, ![1, 1024, 512]⟩
abbrev S1x512x512 : Shape := ⟨3, ![1, 512, 512]⟩
abbrev S1x2x256x256 : Shape := ⟨4, ![1, 2, 256, 256]⟩
abbrev S1x512x128 : Shape := ⟨3, ![1, 512, 128]⟩
abbrev S1x8x512 : Shape := ⟨3, ![1, 8, 512]⟩
abbrev S1x1024 : Shape := ⟨2, ![1, 1024]⟩
abbrev S512 : Shape := ⟨1, ![512]⟩
abbrev S512x1 : Shape := ⟨2, ![512, 1]⟩
abbrev S1808x512 : Shape := ⟨2, ![1808, 512]⟩
abbrev S16x64x512 : Shape := ⟨3, ![16, 64, 512]⟩
abbrev S16x512 : Shape := ⟨2, ![16, 512]⟩
abbrev S16x1x512 : Shape := ⟨3, ![16, 1, 512]⟩
abbrev S1x64x1 : Shape := ⟨3, ![1, 64, 1]⟩
abbrev S256x256 : Shape := ⟨2, ![256, 256]⟩
abbrev S1x1x256x256 : Shape := ⟨4, ![1, 1, 256, 256]⟩
abbrev S512x512 : Shape := ⟨2, ![512, 512]⟩
abbrev S8x512 : Shape := ⟨2, ![8, 512]⟩
abbrev S512x640 : Shape := ⟨2, ![512, 640]⟩
abbrev S512x128 : Shape := ⟨2, ![512, 128]⟩

abbrev nBuf : Space → Nat
  | .hbm => 46
  | .vmem => 23
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S8x9x1x1024, .f32⟩
  | .hbm, ⟨7, _⟩ => ⟨S1024x2120, .bf16⟩
  | .hbm, ⟨8, _⟩ => ⟨S1024x1024, .bf16⟩
  | .hbm, ⟨9, _⟩ => ⟨S1024x1024, .bf16⟩
  | .hbm, ⟨10, _⟩ => ⟨S1024x256, .bf16⟩
  | .hbm, ⟨11, _⟩ => ⟨S1024x4x64, .bf16⟩
  | .hbm, ⟨12, _⟩ => ⟨S_, .i32⟩
  | .hbm, ⟨13, _⟩ => ⟨S_, .bf16⟩
  | .hbm, ⟨14, _⟩ => ⟨S1024x4x128, .bf16⟩
  | .hbm, ⟨15, _⟩ => ⟨S1024x512, .bf16⟩
  | .hbm, ⟨16, _⟩ => ⟨S1024x256, .bf16⟩
  | .hbm, ⟨17, _⟩ => ⟨S256x1024, .bf16⟩
  | .hbm, ⟨18, _⟩ => ⟨S1024x512, .bf16⟩
  | .hbm, ⟨19, _⟩ => ⟨S512x1024, .bf16⟩
  | .hbm, ⟨20, _⟩ => ⟨S1024x64, .bf16⟩
  | .hbm, ⟨21, _⟩ => ⟨S_, .i32⟩
  | .hbm, ⟨22, _⟩ => ⟨S_, .bf16⟩
  | .hbm, ⟨23, _⟩ => ⟨S1024x128, .bf16⟩
  | .hbm, ⟨24, _⟩ => ⟨S1024x8, .bf16⟩
  | .hbm, ⟨25, _⟩ => ⟨S8x1024, .bf16⟩
  | .hbm, ⟨26, _⟩ => ⟨S_, .i32⟩
  | .hbm, ⟨27, _⟩ => ⟨S_, .bf16⟩
  | .hbm, ⟨28, _⟩ => ⟨S16x1024, .bf16⟩
  | .hbm, ⟨29, _⟩ => ⟨S1808x1024, .bf16⟩
  | .hbm, ⟨30, _⟩ => ⟨S1024x640, .bf16⟩
  | .hbm, ⟨31, _⟩ => ⟨S64x1, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S8x1024x4096, .bf16⟩
  | .hbm, ⟨41, _⟩ => ⟨S8x4096x512, .bf16⟩
  | .hbm, ⟨42, _⟩ => ⟨S8x16x256x256, .bf16⟩
  | .hbm, ⟨43, _⟩ => ⟨S8x512x4096, .bf16⟩
  | .hbm, ⟨44, _⟩ => ⟨S8x4096x128, .bf16⟩
  | .hbm, ⟨45, _⟩ => ⟨S8x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1808x1024, .bf16⟩
  | .local _ .vmem, ⟨7, _⟩ => ⟨S1024x640, .bf16⟩
  | .local _ .vmem, ⟨8, _⟩ => ⟨S64x1, .f32⟩
  | .local _ .vmem, ⟨9, _⟩ => ⟨S1x128, .f32⟩
  | .local _ .vmem, ⟨10, _⟩ => ⟨S1x128, .f32⟩
  | .local _ .vmem, ⟨11, _⟩ => ⟨S1x1024x512, .bf16⟩
  | .local _ .vmem, ⟨12, _⟩ => ⟨S1x1024x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x2x256x256, .bf16⟩
  | .local _ .vmem, ⟨16, _⟩ => ⟨S1x2x256x256, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x128, .bf16⟩
  | .local _ .vmem, ⟨20, _⟩ => ⟨S1x512x128, .bf16⟩
  | .local _ .vmem, ⟨21, _⟩ => ⟨S1x8x512, .f32⟩
  | .local _ .vmem, ⟨22, _⟩ => ⟨S1x8x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_call1_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_call2_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_call3_v0 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_call4_v0 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1808x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4096x1024 : Shape := ⟨3, ![8, 4096, 1024]⟩
abbrev S8x9216 : Shape := ⟨2, ![8, 9216]⟩
abbrev S1024x2120 : Shape := ⟨2, ![1024, 2120]⟩
abbrev S64 : Shape := ⟨1, ![64]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4096x2120 : Shape := ⟨3, ![8, 4096, 2120]⟩
abbrev S8x4096x256 : Shape := ⟨3, ![8, 4096, 256]⟩
abbrev S8x4096x512 : Shape := ⟨3, ![8, 4096, 512]⟩
abbrev S8x4096x64 : Shape := ⟨3, ![8, 4096, 64]⟩
abbrev S8x4096x8 : Shape := ⟨3, ![8, 4096, 8]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S1x1x1x64 : Shape := ⟨4, ![1, 1, 1, 64]⟩
abbrev S8x4096x4x64 : Shape := ⟨4, ![8, 4096, 4, 64]⟩
abbrev S8x4096x4 : Shape := ⟨3, ![8, 4096, 4]⟩
abbrev S8x4096x4x1 : Shape := ⟨4, ![8, 4096, 4, 1]⟩
abbrev S1x1x64 : Shape := ⟨3, ![1, 1, 64]⟩
abbrev S8x1024x4096 : Shape := ⟨3, ![8, 1024, 4096]⟩
abbrev S8x4096x4x128 : Shape := ⟨4, ![8, 4096, 4, 128]⟩
abbrev S8x16x256x256 : Shape := ⟨4, ![8, 16, 256, 256]⟩
abbrev S8x512x4096 : Shape := ⟨3, ![8, 512, 4096]⟩
abbrev S8x4096x128 : Shape := ⟨3, ![8, 4096, 128]⟩
abbrev S8x8x4096 : Shape := ⟨3, ![8, 8, 4096]⟩

abbrev nBuf : Space → Nat
  | .hbm => 118
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S1024x2120, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S8x4096x1, .f32⟩
  | .hbm, ⟨26, _⟩ => ⟨S8x4096x1024, .f32⟩
  | .hbm, ⟨27, _⟩ => ⟨S8x4096x1024, .f32⟩
  | .hbm, ⟨28, _⟩ => ⟨S8x1x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x1x1024, .f32⟩
  | .hbm, ⟨35, _⟩ => ⟨S8x4096x1024, .f32⟩
  | .hbm, ⟨36, _⟩ => ⟨S8x4096x1024, .f32⟩
  | .hbm, ⟨37, _⟩ => ⟨S8x4096x2120, .f32⟩
  | .hbm, ⟨38, _⟩ => ⟨S8x4096x1024, .f32⟩
  | .hbm, ⟨39, _⟩ => ⟨S8x4096x256, .f32⟩
  | .hbm, ⟨40, _⟩ => ⟨S8x4096x256, .f32⟩
  | .hbm, ⟨41, _⟩ => ⟨S8x4096x512, .f32⟩
  | .hbm, ⟨42, _⟩ => ⟨S8x4096x64, .f32⟩
  | .hbm, ⟨43, _⟩ => ⟨S8x4096x8, .f32⟩
  | .hbm, ⟨44, _⟩ => ⟨S8x4096x16x64, .f32⟩
  | .hbm, ⟨45, _⟩ => ⟨S8x4096x16x64, .f32⟩
  | .hbm, ⟨46, _⟩ => ⟨S_, .f32⟩
  | .hbm, ⟨47, _⟩ => ⟨S8x4096x16, .f32⟩
  | .hbm, ⟨48, _⟩ => ⟨S8x4096x16x1, .f32⟩
  | .hbm, ⟨49, _⟩ => ⟨S_, .f32⟩
  | .hbm, ⟨50, _⟩ => ⟨S8x4096x16x1, .f32⟩
  | .hbm, ⟨51, _⟩ => ⟨S8x4096x16x1, .f32⟩
  | .hbm, ⟨52, _⟩ => ⟨S_, .f32⟩
  | .hbm, ⟨53, _⟩ => ⟨S8x4096x16x1, .f32⟩
  | .hbm, ⟨54, _⟩ => ⟨S8x4096x16x1, .f32⟩
  | .hbm, ⟨55, _⟩ => ⟨S8x4096x16x1, .f32⟩
  | .hbm, ⟨56, _⟩ => ⟨S8x4096x16x64, .f32⟩
  | .hbm, ⟨57, _⟩ => ⟨S8x4096x16x64, .f32⟩
  | .hbm, ⟨58, _⟩ => ⟨S1x1x1x64, .f32⟩
  | .hbm, ⟨59, _⟩ => ⟨S8x4096x16x64, .f32⟩
  | .hbm, ⟨60, _⟩ => ⟨S8x4096x16x64, .f32⟩
  | .hbm, ⟨61, _⟩ => ⟨S8x4096x4x64, .f32⟩
  | .hbm, ⟨62, _⟩ => ⟨S8x4096x4x64, .f32⟩
  | .hbm, ⟨63, _⟩ => ⟨S_, .f32⟩
  | .hbm, ⟨64, _⟩ => ⟨S8x4096x4, .f32⟩
  | .hbm, ⟨65, _⟩ => ⟨S8x4096x4x1, .f32⟩
  | .hbm, ⟨66, _⟩ => ⟨S_, .f32⟩
  | .hbm, ⟨67, _⟩ => ⟨S8x4096x4x1, .f32⟩
  | .hbm, ⟨68, _⟩ => ⟨S8x4096x4x1, .f32⟩
  | .hbm, ⟨69, _⟩ => ⟨S_, .f32⟩
  | .hbm, ⟨70, _⟩ => ⟨S8x4096x4x1, .f32⟩
  | .hbm, ⟨71, _⟩ => ⟨S8x4096x4x1, .f32⟩
  | .hbm, ⟨72, _⟩ => ⟨S8x4096x4x1, .f32⟩
  | .hbm, ⟨73, _⟩ => ⟨S8x4096x4x64, .f32⟩
  | .hbm, ⟨74, _⟩ => ⟨S8x4096x4x64, .f32⟩
  | .hbm, ⟨75, _⟩ => ⟨S1x1x1x64, .f32⟩
  | .hbm, ⟨76, _⟩ => ⟨S8x4096x4x64, .f32⟩
  | .hbm, ⟨77, _⟩ => ⟨S8x4096x4x64, .f32⟩
  | .hbm, ⟨78, _⟩ => ⟨S8x4096x64, .f32⟩
  | .hbm, ⟨79, _⟩ => ⟨S_, .f32⟩
  | .hbm, ⟨80, _⟩ => ⟨S8x4096, .f32⟩
  | .hbm, ⟨81, _⟩ => ⟨S8x4096x1, .f32⟩
  | .hbm, ⟨82, _⟩ => ⟨S_, .f32⟩
  | .hbm, ⟨83, _⟩ => ⟨S8x4096x1, .f32⟩
  | .hbm, ⟨84, _⟩ => ⟨S8x4096x1, .f32⟩
  | .hbm, ⟨85, _⟩ => ⟨S_, .f32⟩
  | .hbm, ⟨86, _⟩ => ⟨S8x4096x1, .f32⟩
  | .hbm, ⟨87, _⟩ => ⟨S8x4096x1, .f32⟩
  | .hbm, ⟨88, _⟩ => ⟨S8x4096x1, .f32⟩
  | .hbm, ⟨89, _⟩ => ⟨S8x4096x64, .f32⟩
  | .hbm, ⟨90, _⟩ => ⟨S8x4096x64, .f32⟩
  | .hbm, ⟨91, _⟩ => ⟨S1x1x64, .f32⟩
  | .hbm, ⟨92, _⟩ => ⟨S8x4096x64, .f32⟩
  | .hbm, ⟨93, _⟩ => ⟨S8x4096x64, .f32⟩
  | .hbm, ⟨94, _⟩ => ⟨S_, .f32⟩
  | .hbm, ⟨95, _⟩ => ⟨S8x4096x8, .f32⟩
  | .hbm, ⟨96, _⟩ => ⟨S8x4096x8, .f32⟩
  | .hbm, ⟨97, _⟩ => ⟨S_, .f32⟩
  | .hbm, ⟨98, _⟩ => ⟨S8x4096x16x64, .f32⟩
  | .hbm, ⟨99, _⟩ => ⟨S8x4096x16x64, .f32⟩
  | .hbm, ⟨100, _⟩ => ⟨S8x4096x1024, .f32⟩
  | .hbm, ⟨101, _⟩ => ⟨S8x1024x4096, .f32⟩
  | .hbm, ⟨102, _⟩ => ⟨S8x1024x4096, .bf16⟩
  | .hbm, ⟨103, _⟩ => ⟨S_, .i32⟩
  | .hbm, ⟨104, _⟩ => ⟨S_, .f32⟩
  | .hbm, ⟨105, _⟩ => ⟨S8x4096x4x128, .f32⟩
  | .hbm, ⟨106, _⟩ => ⟨S8x4096x512, .f32⟩
  | .hbm, ⟨107, _⟩ => ⟨S8x4096x512, .bf16⟩
  | .hbm, ⟨108, _⟩ => ⟨S8x16x256x256, .f32⟩
  | .hbm, ⟨109, _⟩ => ⟨S8x16x256x256, .f32⟩
  | .hbm, ⟨110, _⟩ => ⟨S8x16x256x256, .bf16⟩
  | .hbm, ⟨111, _⟩ => ⟨S8x512x4096, .f32⟩
  | .hbm, ⟨112, _⟩ => ⟨S8x512x4096, .bf16⟩
  | .hbm, ⟨113, _⟩ => ⟨S_, .i32⟩
  | .hbm, ⟨114, _⟩ => ⟨S_, .f32⟩
  | .hbm, ⟨115, _⟩ => ⟨S8x4096x128, .f32⟩
  | .hbm, ⟨116, _⟩ => ⟨S8x4096x128, .bf16⟩
  | .hbm, ⟨117, _⟩ => ⟨S8x8x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_12 : Ref sig .tc := ⟨.hbm, 94, rfl⟩
abbrev main_v75 : Ref sig .tc := ⟨.hbm, 95, rfl⟩
abbrev main_v76 : Ref sig .tc := ⟨.hbm, 96, rfl⟩
abbrev main_cst_13 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_c : Ref sig .tc := ⟨.hbm, 103, rfl⟩
abbrev main_call0_v0 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_c_14 : Ref sig .tc := ⟨.hbm, 113, rfl⟩
abbrev main_call1_v0 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩

abbrev nD : Nat := 1
abbrev τ : Topo := Topo.v7x

variable {F : FTy → Type} [FloatOps F]
-- ==== Kernel3.lean ====
abbrev S8x1024x4096 : Shape := ⟨3, ![8, 1024, 4096]⟩
abbrev S1024x1024 : Shape := ⟨2, ![1024, 1024]⟩
abbrev S8x4096x1024 : Shape := ⟨3, ![8, 4096, 1024]⟩
abbrev S8x9216 : Shape := ⟨2, ![8, 9216]⟩
abbrev S8x9x1x1024 : Shape := ⟨4, ![8, 9, 1, 1024]⟩
abbrev S1x1024x512 : Shape := ⟨3, ![1, 1024, 512]⟩
abbrev S1x512x1024 : Shape := ⟨3, ![1, 512, 1024]⟩
abbrev S1x1x1x1024 : Shape := ⟨4, ![1, 1, 1, 1024]⟩
abbrev S512x1024 : Shape := ⟨2, ![512, 1024]⟩
abbrev S1x1024 : Shape := ⟨2, ![1, 1024]⟩
abbrev S1024x512 : Shape := ⟨2, ![1024, 512]⟩

abbrev nBuf : Space → Nat
  | .hbm => 7
  | .vmem => 9
  | .smem => 0
  | _ => 0

abbrev bufTy : (tb : Table) → Fin (tcTables nBuf tb) → BufTy
  | .hbm, ⟨0, _⟩ => ⟨S8x1024x4096, .bf16⟩
  | .hbm, ⟨1, _⟩ => ⟨S1024x1024, .f32⟩
  | .hbm, ⟨2, _⟩ => ⟨S8x4096x1024, .f32⟩
  | .hbm, ⟨3, _⟩ => ⟨S8x9216, .f32⟩
  | .hbm, ⟨4, _⟩ => ⟨S8x9x1x1024, .f32⟩
  | .hbm, ⟨5, _⟩ => ⟨S1024x1024, .bf16⟩
  | .hbm, ⟨6, _⟩ => ⟨S8x4096x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x512x1024, .f32⟩
  | .local _ .vmem, ⟨8, _⟩ => ⟨S1x512x1024, .f32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x1024x4096 : Shape := ⟨3, ![8, 1024, 4096]⟩
abbrev S1024x1024 : Shape := ⟨2, ![1024, 1024]⟩
abbrev S8x4096x1024 : Shape := ⟨3, ![8, 4096, 1024]⟩
abbrev S8x9216 : Shape := ⟨2, ![8, 9216]⟩
abbrev S8x1024 : Shape := ⟨2, ![8, 1024]⟩
abbrev S8x1x1024 : Shape := ⟨3, ![8, 1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x1024x4096, .bf16⟩
  | .hbm, ⟨1, _⟩ => ⟨S1024x1024, .f32⟩
  | .hbm, ⟨2, _⟩ => ⟨S8x4096x1024, .f32⟩
  | .hbm, ⟨3, _⟩ => ⟨S8x9216, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x4096x1024, .bf16⟩
  | .hbm, ⟨14, _⟩ => ⟨S8x4096x1024, .f32⟩
  | .hbm, ⟨15, _⟩ => ⟨S8x1x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | _, _ => ⟨S8x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel4.lean ====
abbrev S8x1024 : Shape := ⟨2, ![8, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x8x9216 : Shape := ⟨3, ![2, 8, 9216]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x8x9216, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x1024 : Shape := ⟨2, ![8, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S8x9216 : Shape := ⟨2, ![8, 9216]⟩
abbrev S1x9216 : Shape := ⟨2, ![1, 9216]⟩
abbrev S9216 : Shape := ⟨1, ![9216]⟩
abbrev S1x8x9216 : Shape := ⟨3, ![1, 8, 9216]⟩
abbrev S2x8x9216 : Shape := ⟨3, ![2, 8, 9216]⟩

abbrev nBuf : Space → Nat
  | .hbm => 31
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x9216, .f32⟩
  | .hbm, ⟨2, _⟩ => ⟨S2x9216, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x9216, .f32⟩
  | .hbm, ⟨13, _⟩ => ⟨S1024x9216, .f32⟩
  | .hbm, ⟨14, _⟩ => ⟨S8x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S8x9216, .f32⟩
  | .hbm, ⟨19, _⟩ => ⟨S8x9216, .f32⟩
  | .hbm, ⟨20, _⟩ => ⟨S1x1024x9216, .f32⟩
  | .hbm, ⟨21, _⟩ => ⟨S1024x9216, .f32⟩
  | .hbm, ⟨22, _⟩ => ⟨S8x9216, .f32⟩
  | .hbm, ⟨23, _⟩ => ⟨S1x9216, .f32⟩
  | .hbm, ⟨24, _⟩ => ⟨S9216, .f32⟩
  | .hbm, ⟨25, _⟩ => ⟨S1x9216, .f32⟩
  | .hbm, ⟨26, _⟩ => ⟨S8x9216, .f32⟩
  | .hbm, ⟨27, _⟩ => ⟨S8x9216, .f32⟩
  | .hbm, ⟨28, _⟩ => ⟨S1x8x9216, .f32⟩
  | .hbm, ⟨29, _⟩ => ⟨S1x8x9216, .f32⟩
  | .hbm, ⟨30, _⟩ => ⟨S2x8x9216, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel5.lean ====
abbrev S8x4096x1024 : Shape := ⟨3, ![8, 4096, 1024]⟩
abbrev S1024 : Shape := ⟨1, ![1024]⟩
abbrev S16x64 : Shape := ⟨2, ![16, 64]⟩
abbrev S1024x1024 : Shape := ⟨2, ![1024, 1024]⟩
abbrev S8x9216 : Shape := ⟨2, ![8, 9216]⟩
abbrev S2048x16 : Shape := ⟨2, ![2048, 16]⟩
abbrev S48x1024 : Shape := ⟨2, ![48, 1024]⟩
abbrev S8x9x1x1024 : Shape := ⟨4, ![8, 9, 1, 1024]⟩
abbrev S1x1024 : Shape := ⟨2, ![1, 1024]⟩
abbrev S1x256x1024 : Shape := ⟨3, ![1, 256, 1024]⟩
abbrev S1x1x1x1024 : Shape := ⟨4, ![1, 1, 1, 1024]⟩
abbrev S256x1024 : Shape := ⟨2, ![256, 1024]⟩
abbrev S256x2048 : Shape := ⟨2, ![256, 2048]⟩
abbrev S256x16 : Shape := ⟨2, ![256, 16]⟩
abbrev S256x48 : Shape := ⟨2, ![256, 48]⟩

abbrev nBuf : Space → Nat
  | .hbm => 19
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1024, .f32⟩
  | .hbm, ⟨6, _⟩ => ⟨S1024, .f32⟩
  | .hbm, ⟨7, _⟩ => ⟨S16x64, .f32⟩
  | .hbm, ⟨8, _⟩ => ⟨S1024x1024, .f32⟩
  | .hbm, ⟨9, _⟩ => ⟨S8x4096x1024, .f32⟩
  | .hbm, ⟨10, _⟩ => ⟨S8x9216, .f32⟩
  | .hbm, ⟨11, _⟩ => ⟨S2048x16, .bf16⟩
  | .hbm, ⟨12, _⟩ => ⟨S48x1024, .bf16⟩
  | .hbm, ⟨13, _⟩ => ⟨S8x9x1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x1024, .bf16⟩
  | .hbm, ⟨18, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S2048x16, .bf16⟩
  | .local _ .vmem, ⟨14, _⟩ => ⟨S48x1024, .bf16⟩
  | .local _ .vmem, ⟨15, _⟩ => ⟨S1024x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x256x1024, .f32⟩
  | .local _ .vmem, ⟨21, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S48x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x4096x1024 : Shape := ⟨3, ![8, 4096, 1024]⟩
abbrev S1024 : Shape := ⟨1, ![1024]⟩
abbrev S16x64 : Shape := ⟨2, ![16, 64]⟩
abbrev S1024x1024 : Shape := ⟨2, ![1024, 1024]⟩
abbrev S8x9216 : Shape := ⟨2, ![8, 9216]⟩
abbrev S8x1024 : Shape := ⟨2, ![8, 1024]⟩
abbrev S8x4096x16x64 : Shape := ⟨4, ![8, 4096, 16, 64]⟩
abbrev S_ : Shape := ⟨0, ![]⟩
abbrev S8x4096x16 : Shape := ⟨3, ![8, 4096, 16]⟩
abbrev S8x4096x16x1 : Shape := ⟨4, ![8, 4096, 16, 1]⟩
abbrev S1x1x1024 : Shape := ⟨3, ![1, 1, 1024]⟩
abbrev S1x1x16x64 : Shape := ⟨4, ![1, 1, 16, 64]⟩
abbrev S8x1x1024 : Shape := ⟨3, ![8, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1024, .f32⟩
  | .hbm, ⟨6, _⟩ => ⟨S1024, .f32⟩
  | .hbm, ⟨7, _⟩ => ⟨S16x64, .f32⟩
  | .hbm, ⟨8, _⟩ => ⟨S1024x1024, .f32⟩
  | .hbm, ⟨9, _⟩ => ⟨S8x4096x1024, .f32⟩
  | .hbm, ⟨10, _⟩ => ⟨S8x9216, .f32⟩
  | .hbm, ⟨11, _⟩ => ⟨S8x1024, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x4096x16x64, .f32⟩
  | .hbm, ⟨21, _⟩ => ⟨S8x4096x16x64, .f32⟩
  | .hbm, ⟨22, _⟩ => ⟨S8x4096x16x64, .f32⟩
  | .hbm, ⟨23, _⟩ => ⟨S8x4096x16x64, .f32⟩
  | .hbm, ⟨24, _⟩ => ⟨S_, .f32⟩
  | .hbm, ⟨25, _⟩ => ⟨S8x4096x16, .f32⟩
  | .hbm, ⟨26, _⟩ => ⟨S8x4096x16x1, .f32⟩
  | .hbm, ⟨27, _⟩ => ⟨S_, .f32⟩
  | .hbm, ⟨28, _⟩ => ⟨S8x4096x16x1, .f32⟩
  | .hbm, ⟨29, _⟩ => ⟨S8x4096x16x1, .f32⟩
  | .hbm, ⟨30, _⟩ => ⟨S8x4096x16x64, .f32⟩
  | .hbm, ⟨31, _⟩ => ⟨S8x4096x16x64, .f32⟩
  | .hbm, ⟨32, _⟩ => ⟨S8x4096x16x64, .f32⟩
  | .hbm, ⟨33, _⟩ => ⟨S_, .f32⟩
  | .hbm, ⟨34, _⟩ => ⟨S8x4096x16, .f32⟩
  | .hbm, ⟨35, _⟩ => ⟨S8x4096x16x1, .f32⟩
  | .hbm, ⟨36, _⟩ => ⟨S_, .f32⟩
  | .hbm, ⟨37, _⟩ => ⟨S8x4096x16x1, .f32⟩
  | .hbm, ⟨38, _⟩ => ⟨S8x4096x16x1, .f32⟩
  | .hbm, ⟨39, _⟩ => ⟨S8x4096x16x64, .f32⟩
  | .hbm, ⟨40, _⟩ => ⟨S8x4096x16x64, .f32⟩
  | .hbm, ⟨41, _⟩ => ⟨S_, .f32⟩
  | .hbm, ⟨42, _⟩ => ⟨S8x4096x16x1, .f32⟩
  | .hbm, ⟨43, _⟩ => ⟨S8x4096x16x1, .f32⟩
  | .hbm, ⟨44, _⟩ => ⟨S8x4096x16x1, .f32⟩
  | .hbm, ⟨45, _⟩ => ⟨S8x4096x16x64, .f32⟩
  | .hbm, ⟨46, _⟩ => ⟨S8x4096x16x64, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S8x4096x16x64, .f32⟩
  | .hbm, ⟨55, _⟩ => ⟨S1x1x16x64, .f32⟩
  | .hbm, ⟨56, _⟩ => ⟨S8x4096x16x64, .f32⟩
  | .hbm, ⟨57, _⟩ => ⟨S8x4096x16x64, .f32⟩
  | .hbm, ⟨58, _⟩ => ⟨S_, .f32⟩
  | .hbm, ⟨59, _⟩ => ⟨S8x4096x16, .f32⟩
  | .hbm, ⟨60, _⟩ => ⟨S8x4096x16x1, .f32⟩
  | .hbm, ⟨61, _⟩ => ⟨S8x4096x16x64, .f32⟩
  | .hbm, ⟨62, _⟩ => ⟨S8x4096x16x64, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== Kernel6.lean ====
abbrev S8x4096x1024 : Shape := ⟨3, ![8, 4096, 1024]⟩
abbrev S8x9216 : Shape := ⟨2, ![8, 9216]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S2048x16 : Shape := ⟨2, ![2048, 16]⟩
abbrev S48x1024 : Shape := ⟨2, ![48, 1024]⟩
abbrev S8x9x1x1024 : Shape := ⟨4, ![8, 9, 1, 1024]⟩
abbrev S1x1024 : Shape := ⟨2, ![1, 1024]⟩
abbrev S1x256x1024 : Shape := ⟨3, ![1, 256, 1024]⟩
abbrev S1x8x1024 : Shape := ⟨3, ![1, 8, 1024]⟩
abbrev S1x1x1x1024 : Shape := ⟨4, ![1, 1, 1, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S256x64 : Shape := ⟨2, ![256, 64]⟩
abbrev S256x160 : Shape := ⟨2, ![256, 160]⟩
abbrev S1x1024x1024 : Shape := ⟨3, ![1, 1024, 1024]⟩
abbrev S1024x1024 : Shape := ⟨2, ![1024, 1024]⟩
abbrev S256x2048 : Shape := ⟨2, ![256, 2048]⟩
abbrev S256x16 : Shape := ⟨2, ![256, 16]⟩
abbrev S256x48 : Shape := ⟨2, ![256, 48]⟩

abbrev nBuf : Space → Nat
  | .hbm => 35
  | .vmem => 36
  | .smem => 0
  | _ => 0

abbrev bufTy : (tb : Table) → Fin (tcTables nBuf tb) → BufTy
  | .hbm, ⟨0, _⟩ => ⟨S8x4096x1024, .f32⟩
  | .hbm, ⟨1, _⟩ => ⟨S8x9216, .f32⟩
  | .hbm, ⟨2, _⟩ => ⟨S6x1024, .f32⟩
  | .hbm, ⟨3, _⟩ => ⟨S3x1024x1024, .f32⟩
  | .hbm, ⟨4, _⟩ => ⟨S1024, .f32⟩
  | .hbm, ⟨5, _⟩ => ⟨S1024x64, .f32⟩
  | .hbm, ⟨6, _⟩ => ⟨S64x1024, .f32⟩
  | .hbm, ⟨7, _⟩ => ⟨S1024, .f32⟩
  | .hbm, ⟨8, _⟩ => ⟨S1024x64, .f32⟩
  | .hbm, ⟨9, _⟩ => ⟨S64x1024, .f32⟩
  | .hbm, ⟨10, _⟩ => ⟨S1024x160, .f32⟩
  | .hbm, ⟨11, _⟩ => ⟨S160x1024, .f32⟩
  | .hbm, ⟨12, _⟩ => ⟨S1024, .f32⟩
  | .hbm, ⟨13, _⟩ => ⟨S1024, .f32⟩
  | .hbm, ⟨14, _⟩ => ⟨S2048x16, .bf16⟩
  | .hbm, ⟨15, _⟩ => ⟨S48x1024, .bf16⟩
  | .hbm, ⟨16, _⟩ => ⟨S8x9x1x1024, .f32⟩
  | .hbm, ⟨17, _⟩ => ⟨S3x1024x1024, .bf16⟩
  | .hbm, ⟨18, _⟩ => ⟨S1x1024, .f32⟩
  | .hbm, ⟨19, _⟩ => ⟨S1024x64, .bf16⟩
  | .hbm, ⟨20, _⟩ => ⟨S64x1024, .bf16⟩
  | .hbm, ⟨21, _⟩ => ⟨S1x1024, .f32⟩
  | .hbm, ⟨22, _⟩ => ⟨S1024x64, .bf16⟩
  | .hbm, ⟨23, _⟩ => ⟨S64x1024, .bf16⟩
  | .hbm, ⟨24, _⟩ => ⟨S1024x160, .bf16⟩
  | .hbm, ⟨25, _⟩ => ⟨S160x1024, .bf16⟩
  | .hbm, ⟨26, _⟩ => ⟨S1x1024, .f32⟩
  | .hbm, ⟨27, _⟩ => ⟨S1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S6x1024, .f32⟩
  | .local _ .vmem, ⟨9, _⟩ => ⟨S3x1024x1024, .bf16⟩
  | .local _ .vmem, ⟨10, _⟩ => ⟨S1x1024, .f32⟩
  | .local _ .vmem, ⟨11, _⟩ => ⟨S1024x64, .bf16⟩
  | .local _ .vmem, ⟨12, _⟩ => ⟨S64x1024, .bf16⟩
  | .local _ .vmem, ⟨13, _⟩ => ⟨S1x1024, .f32⟩
  | .local _ .vmem, ⟨14, _⟩ => ⟨S1024x64, .bf16⟩
  | .local _ .vmem, ⟨15, _⟩ => ⟨S64x1024, .bf16⟩
  | .local _ .vmem, ⟨16, _⟩ => ⟨S1024x160, .bf16⟩
  | .local _ .vmem, ⟨17, _⟩ => ⟨S160x1024, .bf16⟩
  | .local _ .vmem, ⟨18, _⟩ => ⟨S1x1024, .f32⟩
  | .local _ .vmem, ⟨19, _⟩ => ⟨S1x1024, .f32⟩
  | .local _ .vmem, ⟨20, _⟩ => ⟨S2048x16, .bf16⟩
  | .local _ .vmem, ⟨21, _⟩ => ⟨S48x1024, .bf16⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S1x256x1024, .f32⟩
  | .local _ .vmem, ⟨33, _⟩ => ⟨S1x256x1024, .f32⟩
  | .local _ .vmem, ⟨34, _⟩ => ⟨S1x256x1024, .f32⟩
  | .local _ .vmem, ⟨35, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12_0 : Ref sig .tc := ⟨.hbm, 28, rfl⟩
abbrev main_v12_1 : Ref sig .tc := ⟨.hbm, 29, rfl⟩
abbrev main_v12_2 : Ref sig .tc := ⟨.hbm, 30, rfl⟩
abbrev main_v12_3 : Ref sig .tc := ⟨.hbm, 31, rfl⟩
abbrev main_v12_4 : Ref sig .tc := ⟨.hbm, 32, rfl⟩
abbrev main_v12_5 : Ref sig .tc := ⟨.hbm, 33, rfl⟩
abbrev main_v12_6 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_stg23_1 : Ref sig .tc := ⟨.vmem, 33, rfl⟩
abbrev cc0_stg24_0 : Ref sig .tc := ⟨.vmem, 34, rfl⟩
abbrev cc0_stg24_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32
abbrev cc0_sem23_1 : DmaSem sig := 33
abbrev cc0_sem24_0 : DmaSem sig := 34
abbrev cc0_sem24_1 : DmaSem sig := 35

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x160 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S160x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2048x16 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S48x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== Reference6Ideal.lean ====
abbrev S8x4096x1024 : Shape := ⟨3, ![8, 4096, 1024]⟩
abbrev S8x9216 : Shape := ⟨2, ![8, 9216]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S8x1024 : Shape := ⟨2, ![8, 1024]⟩
abbrev S_ : Shape := ⟨0, ![]⟩
abbrev S8x4096 : Shape := ⟨2, ![8, 4096]⟩
abbrev S8x4096x1 : Shape := ⟨3, ![8, 4096, 1]⟩
abbrev S8x1x1024 : Shape := ⟨3, ![8, 1, 1024]⟩
abbrev S8x4095x1024 : Shape := ⟨3, ![8, 4095, 1024]⟩
abbrev S1x8x4096x1024 : Shape := ⟨4, ![1, 8, 4096, 1024]⟩
abbrev S6x1x1x1024 : Shape := ⟨4, ![6, 1, 1, 1024]⟩
abbrev S6x8x4096x1024 : Shape := ⟨4, ![6, 8, 4096, 1024]⟩
abbrev S3x8x4096x1024 : Shape := ⟨4, ![3, 8, 4096, 1024]⟩
abbrev S8x4096x64 : Shape := ⟨3, ![8, 4096, 64]⟩
abbrev S1x1x1024 : Shape := ⟨3, ![1, 1, 1024]⟩
abbrev S8x4096x160 : Shape := ⟨3, ![8, 4096, 160]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩

abbrev nBuf : Space → Nat
  | .hbm => 135
  | .vmem => 0
  | .smem => 0
  | _ => 0

abbrev hbmTy0_0 (i : Nat) : BufTy := match i % 128 with
  | 0 => ⟨S8x4096x1024, .f32⟩
  | 1 => ⟨S8x9216, .f32⟩
  | 2 => ⟨S6x1024, .f32⟩
  | 3 => ⟨S3x1024x1024, .f32⟩
  | 4 => ⟨S1024, .f32⟩
  | 5 => ⟨S1024x64, .f32⟩
  | 6 => ⟨S64x1024, .f32⟩
  | 7 => ⟨S1024, .f32⟩
  | 8 => ⟨S1024x64, .f32⟩
  | 9 => ⟨S64x1024, .f32⟩
  | 10 => ⟨S1024x160, .f32⟩
  | 11 => ⟨S160x1024, .f32⟩
  | 12 => ⟨S1024, .f32⟩
  | 13 => ⟨S1024, .f32⟩
  | 14 => ⟨S8x1024, .f32⟩
  | 15 => ⟨S8x1024, .f32⟩
  | 16 => ⟨S8x4096x1024, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x1024, .f32⟩
  | 28 => ⟨S8x4096x1024, .f32⟩
  | 29 => ⟨S8x1x1024, .f32⟩
  | 30 => ⟨S_, .f32⟩
  | 31 => ⟨S8x1x1024, .f32⟩
  | 32 => ⟨S8x1x1024, .f32⟩
  | 33 => ⟨S8x4096x1024, .f32⟩
  | 34 => ⟨S8x4096x1024, .f32⟩
  | 35 => ⟨S8x1x1024, .f32⟩
  | 36 => ⟨S8x4096x1024, .f32⟩
  | 37 => ⟨S8x4096x1024, .f32⟩
  | 38 => ⟨S_, .f32⟩
  | 39 => ⟨S8x1x1024, .f32⟩
  | 40 => ⟨S8x4095x1024, .f32⟩
  | 41 => ⟨S8x4096x1024, .f32⟩
  | 42 => ⟨S8x4096x1024, .f32⟩
  | 43 => ⟨S1x8x4096x1024, .f32⟩
  | 44 => ⟨S1x8x4096x1024, .f32⟩
  | 45 => ⟨S6x1x1x1024, .f32⟩
  | 46 => ⟨S6x8x4096x1024, .f32⟩
  | 47 => ⟨S6x8x4096x1024, .f32⟩
  | 48 => ⟨S6x8x4096x1024, .f32⟩
  | 49 => ⟨S6x8x4096x1024, .f32⟩
  | 50 => ⟨S6x8x4096x1024, .f32⟩
  | 51 => ⟨S3x8x4096x1024, .f32⟩
  | 52 => ⟨S3x8x4096x1024, .f32⟩
  | 53 => ⟨S1x8x4096x1024, .f32⟩
  | 54 => ⟨S8x4096x1024, .f32⟩
  | 55 => ⟨S1x8x4096x1024, .f32⟩
  | 56 => ⟨S8x4096x1024, .f32⟩
  | 57 => ⟨S1x8x4096x1024, .f32⟩
  | 58 => ⟨S8x4096x1024, .f32⟩
  | 59 => ⟨S1x8x4096x1024, .f32⟩
  | 60 => ⟨S8x4096x1024, .f32⟩
  | 61 => ⟨S8x4096x64, .f32⟩
  | 62 => ⟨S8x4096x64, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S_, .f32⟩
  | 69 => ⟨S8x4096x1024, .f32⟩
  | 70 => ⟨S8x4096x1024, .f32⟩
  | 71 => ⟨S8x4096x1024, .f32⟩
  | 72 => ⟨S8x4096x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S_, .f32⟩
  | 78 => ⟨S8x4096x1024, .f32⟩
  | 79 => ⟨S8x4096x1024, .f32⟩
  | 80 => ⟨S1x8x4096x1024, .f32⟩
  | 81 => ⟨S8x4096x1024, .f32⟩
  | 82 => ⟨S8x4096x64, .f32⟩
  | 83 => ⟨S8x4096x1024, .f32⟩
  | 84 => ⟨S1x1x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S_, .f32⟩
  | 90 => ⟨S8x4096x1024, .f32⟩
  | 91 => ⟨S8x4096x1024, .f32⟩
  | 92 => ⟨S_, .f32⟩
  | 93 => ⟨S8x4096x1024, .f32⟩
  | 94 => ⟨S8x4096x1024, .f32⟩
  | 95 => ⟨S1x8x4096x1024, .f32⟩
  | 96 => ⟨S8x4096x1024, .f32⟩
  | 97 => ⟨S8x4096x160, .f32⟩
  | 98 => ⟨S8x4096x160, .f32⟩
  | 99 => ⟨S8x4096x160, .f32⟩
  | 100 => ⟨S_, .f32⟩
  | 101 => ⟨S8x4096x160, .f32⟩
  | 102 => ⟨S8x4096x160, .f32⟩
  | 103 => ⟨S_, .f32⟩
  | 104 => ⟨S8x4096x160, .f32⟩
  | 105 => ⟨S8x4096x160, .f32⟩
  | 106 => ⟨S8x4096x1024, .f32⟩
  | 107 => ⟨S1x1x1024, .f32⟩
  | 108 => ⟨S8x4096x1024, .f32⟩
  | 109 => ⟨S8x4096x1024, .f32⟩
  | 110 => ⟨S8x4096x16x64, .f32⟩
  | 111 => ⟨S8x4096x16x64, .f32⟩
  | 112 => ⟨S_, .f32⟩
  | 113 => ⟨S8x4096x16, .f32⟩
  | 114 => ⟨S8x4096x16x1, .f32⟩
  | 115 => ⟨S8x4096x16x1, .f32⟩
  | 116 => ⟨S_, .f32⟩
  | 117 => ⟨S8x4096x16x1, .f32⟩
  | 118 => ⟨S8x4096x16x1, .f32⟩
  | 119 => ⟨S8x4096x16x64, .f32⟩
  | 120 => ⟨S8x4096x16x64, .f32⟩
  | 121 => ⟨S8x4096x1024, .f32⟩
  | 122 => ⟨S_, .f32⟩
  | 123 => ⟨S8x4096x1024, .f32⟩
  | 124 => ⟨S8x4096x1024, .f32⟩
  | 125 => ⟨S1x1x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S_, .f32⟩
  | 1 => ⟨S8x4096x1024, .f32⟩
  | 2 => ⟨S8x4096x1024, .f32⟩
  | 3 => ⟨S8x4096x1024, .f32⟩
  | 4 => ⟨S8x4096x1024, .f32⟩
  | 5 => ⟨S8x4096x1024, .f32⟩
  | 6 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_5 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_6 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_8 : Ref sig .tc := ⟨.hbm, 100, rfl⟩
abbrev main_v77 : Ref sig .tc := ⟨.hbm, 101, rfl⟩
abbrev main_v78 : Ref sig .tc := ⟨.hbm, 102, rfl⟩
abbrev main_cst_9 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_10 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_11 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_12 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_13 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩

abbrev nD : Nat := 1
abbrev τ : Topo := Topo.v7x

variable {F : FTy → Type} [FloatOps F]
-- ==== Kernel7.lean ====
abbrev S8x4096x1024 : Shape := ⟨3, ![8, 4096, 1024]⟩
abbrev S1x512x1024 : Shape := ⟨3, ![1, 512, 1024]⟩
abbrev S4x256x256 : Shape := ⟨3, ![4, 256, 256]⟩
abbrev S1x256 : Shape := ⟨2, ![1, 256]⟩
abbrev S64x256 : Shape := ⟨2, ![64, 256]⟩
abbrev S256x256 : Shape := ⟨2, ![256, 256]⟩
abbrev S64x64 : Shape := ⟨2, ![64, 64]⟩
abbrev S64x192 : Shape := ⟨2, ![64, 192]⟩
abbrev S1x64x256 : Shape := ⟨3, ![1, 64, 256]⟩
abbrev S192x256 : Shape := ⟨2, ![192, 256]⟩
abbrev S128x256 : Shape := ⟨2, ![128, 256]⟩
abbrev S512x256 : Shape := ⟨2, ![512, 256]⟩
abbrev S128x512 : Shape := ⟨2, ![128, 512]⟩
abbrev S1x256x256 : Shape := ⟨3, ![1, 256, 256]⟩

abbrev nBuf : Space → Nat
  | .hbm => 7
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S4x256x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.FfnMath.lean ====
module

public import Idealize.ShloMosaic.PureOps.Ideal
public import Idealize.ShloMosaic.Lib.FinSumWindow
public import Idealize.ShloMosaic.Lib.Pipeline.ValueKit

/-! The feed-forward block of one token, as plain functions over the extended reals: what both programs compute. -/

@[expose] public section

noncomputable section

namespace Cert.FfnMath

open Idealize.ShloMosaic
open scoped BigOperators

/-- A token's row, divided by its root mean square, scaled by one plus `sc` and shifted by `sh`. -/
def modRow (h sh sc : Fin 1024 → EReal) (k : Fin 1024) : EReal :=
  h k * Ideal.rsqrt (Ideal.div (∑ j, h j * h j) (Ideal.ofBits .f32 0x44800000#32) + Ideal.ofBits .f32 0x358637BD#32)
    * (1 + sc k) + sh k

/-- One hidden unit: the gate `g` times its logistic times the linear unit `l`. -/
def glu (g l : EReal) : EReal := g * Ideal.div 1 (1 + Ideal.exp (-g)) * l

/-- The inner product of two rows of 1024 numbers. -/
def inner (u w : Fin 1024 → EReal) : EReal := ∑ k, u k * w k

/-- Hidden unit number `f` (a natural number below 2816) of the row `u`: the first half of the wide matrix holds the gates,
    the second half the linear units. -/
def hidden (u : Fin 1024 → EReal) (W : Fin 1024 → ℕ → EReal) (f : ℕ) : EReal :=
  glu (inner u fun k => W k f) (inner u fun k => W k (2816 + f))

/-- One output number of the block: the token's own number plus half the gated down-projection of the 2816 hidden units. -/
def ffnOut (u : Fin 1024 → EReal) (W : Fin 1024 → ℕ → EReal) (D : ℕ → EReal) (h gt : EReal) : EReal :=
  h + Ideal.ofBits .f32 0x3F000000#32 * gt * ∑ f : Fin 2816, hidden u W f.val * D f.val

/-- Two hidden units agree where the gates and the linear units agree. -/
theorem glu_congr {g g' l l' : EReal} (hg : g = g') (hl : l = l') : glu g l = glu g' l' := by rw [hg, hl]

/-- The part of the down-projection that hidden units `256·n … 256·n+255` contribute. -/
def part (u : Fin 1024 → EReal) (W : Fin 1024 → ℕ → EReal) (D : ℕ → EReal) (n : ℕ) : EReal :=
  ∑ j : Fin 256, hidden u W (256 * n + j.val) * D (256 * n + j.val)

/-- Eleven numbers summed are the eleven added one after the other. -/
theorem sum_eleven (P : ℕ → EReal) :
    ∑ s : Fin 11, P s.val = P 0 + P 1 + P 2 + P 3 + P 4 + P 5 + P 6 + P 7 + P 8 + P 9 + P 10 := by
  rw [Fin.sum_univ_eq_sum_range P]
  simp only [Finset.sum_range_succ, Finset.sum_range_zero, zero_add]

/-- The 2816 hidden units summed at once are the eleven parts of 256 added one after the other. -/
theorem sum_parts (u : Fin 1024 → EReal) (W : Fin 1024 → ℕ → EReal) (D : ℕ → EReal) :
    ∑ f : Fin 2816, hidden u W f.val * D f.val
      = part u W D 0 + part u W D 1 + part u W D 2 + part u W D 3 + part u W D 4 + part u W D 5 + part u W D 6
        + part u W D 7 + part u W D 8 + part u W D 9 + part u W D 10 := by
  have e := Fin.sum_univ_univ_mul_add 11 256 (fun f => hidden u W f * D f)
  refine e.symm.trans ((sum_eleven fun n => ∑ j : Fin 256, hidden u W (n * 256 + j.val) * D (n * 256 + j.val)).trans ?_)
  simp only [part, Nat.mul_comm 256]

/-- A matrix's entry at a row and a column given as a natural number (columns are read modulo their number). -/
def col {K N : ℕ} [NeZero N] (A : Fin K → Fin N → EReal) (k : Fin K) (f : ℕ) : EReal := A k (Fin.ofNat N f)

/-- Inside the matrix, `col` is the matrix. -/
theorem col_of_lt {K N : ℕ} [NeZero N] (A : Fin K → Fin N → EReal) (k : Fin K) {f : ℕ} (h : f < N) : col A k f = A k ⟨f, h⟩ :=
  congrArg (A k) (Fin.ext (Nat.mod_eq_of_lt h))

/-- A part, with the columns of the two matrices spelt as positions inside them. -/
theorem part_eq (u : Fin 1024 → EReal) (A : Fin 1024 → Fin 5632 → EReal) (D : Fin 1024 → Fin 2816 → EReal) (d : Fin 1024)
    (n : ℕ) (hn : n < 11) :
    part u (col A) (col D d) n
      = ∑ j : Fin 256, (∑ k, u k * A k ⟨256 * n + j.val, by omega⟩)
          * Ideal.logistic (∑ k, u k * A k ⟨256 * n + j.val, by omega⟩)
          * (∑ k, u k * A k ⟨2816 + 256 * n + j.val, by omega⟩) * D d ⟨256 * n + j.val, by omega⟩ := by
  refine Finset.sum_congr rfl fun j _ => ?_
  simp only [hidden, glu, inner, Ideal.logistic, ← Nat.add_assoc]
  rw [col_of_lt D d (by omega)]
  simp only [col_of_lt A _ (show 256 * n + j.val < 5632 by omega), col_of_lt A _ (show 2816 + 256 * n + j.val < 5632 by omega)]

/-- Hidden unit `f`, with the columns of the wide matrix spelt as positions inside it. -/
theorem hidden_eq (u : Fin 1024 → EReal) (A : Fin 1024 → Fin 5632 → EReal) (f : Fin 2816) :
    hidden u (col A) f.val
      = (∑ k, u k * A k ⟨f.val, by omega⟩) * Ideal.div 1 (1 + Ideal.exp (-∑ k, u k * A k ⟨f.val, by omega⟩))
          * ∑ k, u k * A k ⟨2816 + f.val, by omega⟩ := by
  simp only [hidden, glu, inner, col_of_lt A _ (show f.val < 5632 by omega), col_of_lt A _ (show 2816 + f.val < 5632 by omega)]

/-- THE FEED-FORWARD BLOCK of the layer, one number: batch entry `b`, token `s`, feature `d`, from the hidden states `h`, the
    batch entry's nine modulation rows side by side (shift first, then scale, then gate), and the two weight matrices. -/
def ffnAt (h : Fin 8 → Fin 4096 → Fin 1024 → EReal) (md : Fin 8 → Fin 9216 → EReal) (A : Fin 1024 → Fin 5632 → EReal)
    (D : Fin 2816 → Fin 1024 → EReal) (b : Fin 8) (s : Fin 4096) (d : Fin 1024) : EReal :=
  ffnOut (modRow (h b s) (fun k => md b ⟨k.val, by omega⟩) (fun k => md b ⟨1024 + k.val, by omega⟩))
    (col A) (col (fun d f => D f d) d) (h b s d) (md b ⟨2048 + d.val, by omega⟩)

end Cert.FfnMath

end
-- ==== Proof.FfnBlock.lean ====
module

public import proofs.«01_k».proof.Proof.FfnMath
public import proofs.«01_k».proof.Proof.Gen.KernelIdeal.Value
public import Idealize.ShloMosaic.Lib.Pointwise
public import Idealize.ShloMosaic.Lib.Pipeline.ValueKit

/-! What one grid point of the feed-forward kernel leaves in its output block, number by number. -/

@[expose] public section

set_option maxRecDepth 16384

noncomputable section

namespace Cert.KernelIdeal.Block

open Idealize.ShloMosaic Idealize.SL.Sem Cert.FfnMath Cert.KernelIdeal.Gen
open scoped BigOperators

/-- The modulated row that every hidden unit reads. -/
theorem pay3_apply (v0 : Vec Ideal S1x512x1024 .f32) (v2 v4 : Vec Ideal S1x1x1x1024 .f32) (r : Fin 512) (k : Fin 1024) :
    k0_pay3 v0 v2 v4 (ix2 r k)
      = modRow (fun k => v0 (ix3 0 r k)) (fun k => v2 (ix4 0 0 0 k)) (fun k => v4 (ix4 0 0 0 k)) k := by
  pointwise [k0_pay3, k0_pay2, modRow]

/-- The block that a point leaves, at token `r` and feature `d`, from the blocks it reads: the token's own row `x0`, shift `x1`,
    scale `x2`, gate `x3` and the two weight matrices. -/
theorem out_apply (x0 : Vec Ideal S1x512x1024 .f32) (x1 x2 x3 : Vec Ideal S1x1x1x1024 .f32) (x4 : Vec Ideal S1024x5632 .bf16)
    (x5 : Vec Ideal S2816x1024 .bf16) (r : Fin 512) (d : Fin 1024) :
    out0_6 x0 x1 x2 x3 x4 x5 (ix3 0 r d)
      = ffnOut (modRow (fun k => x0 (ix3 0 r k)) (fun k => x1 (ix4 0 0 0 k)) (fun k => x2 (ix4 0 0 0 k)))
          (col fun k f => x4 (ix2 k f)) (col (fun d f => x5 (ix2 f d)) d) (x0 (ix3 0 r d)) (x3 (ix4 0 0 0 d)) := by
  unfold_out out0_6
  frame_out
  pointwise [k0_pay1, k0_pay2, k0_pay4, k0_pay5, k0_pay6, k0_pay7, k0_pay8, k0_pay9, k0_pay10, k0_pay11, k0_pay12, k0_pay13, k0_pay14]
  simp only [pay3_apply, ffnOut, sum_parts, part_eq _ _ _ d 0 (by omega), part_eq _ _ _ d 1 (by omega), part_eq _ _ _ d 2 (by omega),
    part_eq _ _ _ d 3 (by omega), part_eq _ _ _ d 4 (by omega), part_eq _ _ _ d 5 (by omega), part_eq _ _ _ d 6 (by omega),
    part_eq _ _ _ d 7 (by omega), part_eq _ _ _ d 8 (by omega), part_eq _ _ _ d 9 (by omega), part_eq _ _ _ d 10 (by omega),
    Nat.reduceMul, Nat.reduceAdd, Nat.zero_add, Nat.add_zero]

end Cert.KernelIdeal.Block

end
-- ==== Proof.FfnArray.lean ====
module

public import proofs.«01_k».proof.Proof.FfnBlock

/-! The array that the feed-forward kernel leaves. -/

@[expose] public section

set_option maxRecDepth 16384

noncomputable section

namespace Cert.KernelIdeal.Array

open Idealize.ShloMosaic Idealize.ShloMosaic.TcCoe Idealize.SL.Sem Cert.FfnMath Cert.KernelIdeal Cert.KernelIdeal.Gen

variable (m : (ℓ : Loc nD τ sig) → Buf (Elt Ideal) ℓ)

/-- The array that the launch leaves: the feed-forward block of every token. -/
def G (c : Dev nD) : S8x4096x1024.Idx → EReal := fun i =>
  ffnAt (fun b s d => m ((c : Thread nD τ).loc main_arg0) (ix3 b s d)) (fun b k => m ((c : Thread nD τ).loc main_arg1) (ix2 b k))
    (fun k f => m ((c : Thread nD τ).loc main_arg2) (ix2 k f)) (fun f d => m ((c : Thread nD τ).loc main_arg3) (ix2 f d)) (i 0) (i 1) (i 2)

/-- Where the windows' blocks lie: decided over the 64 grid points. -/
theorem idx : ∀ t : Fin cfg0.N,
    win0_0.index t = ![(grid0.coords t 0).val, (grid0.coords t 1).val, 0]
    ∧ win0_1.index t = ![(grid0.coords t 0).val, 0, 0, 0] ∧ win0_2.index t = ![(grid0.coords t 0).val, 1, 0, 0]
    ∧ win0_3.index t = ![(grid0.coords t 0).val, 2, 0, 0] ∧ win0_4.index t = ![0, 0] ∧ win0_5.index t = ![0, 0]
    ∧ win0_6.index t = ![(grid0.coords t 0).val, (grid0.coords t 1).val, 0] :=
  (by decide +kernel : ∀ t : Fin grid0.N, _)

/-- The batch entry of grid point `t`. -/
def bOf (t : Fin cfg0.N) : Fin 8 := ⟨(grid0.coords t 0).val, (grid0.coords t 0).isLt⟩

/-- Row `r` of grid point `t`'s tile, as a token of the batch entry. -/
def sOf (t : Fin cfg0.N) (r : Fin 512) : Fin 4096 :=
  ⟨(grid0.coords t 1).val * 512 + r.val, by have h : (grid0.coords t 1).val < 8 := (grid0.coords t 1).isLt; omega⟩

/-- The hidden states' block: the tile's tokens. -/
theorem read0 (c : Dev nD) (t : Fin cfg0.N) (r : Fin 512) (k : Fin 1024) :
    (iblk m c 0 t : Vec Ideal S1x512x1024 .f32) (ix3 0 r k) = m ((c : Thread nD τ).loc main_arg0) (ix3 (bOf t) (sOf t r) k) := by
  unfold bOf sOf; blk_ext! [iblk, V, idx t]

/-- The shift's block: the first modulation row. -/
theorem read1 (c : Dev nD) (t : Fin cfg0.N) (k : Fin 1024) :
    (iblk m c 1 t : Vec Ideal S1x1x1x1024 .f32) (ix4 0 0 0 k)
      = m ((c : Thread nD τ).loc main_arg1) (ix2 (bOf t) ⟨k.val, by omega⟩) := by
  unfold bOf; blk_ext! [iblk, V, idx t]

/-- The scale's block: the second modulation row. -/
theorem read2 (c : Dev nD) (t : Fin cfg0.N) (k : Fin 1024) :
    (iblk m c 2 t : Vec Ideal S1x1x1x1024 .f32) (ix4 0 0 0 k)
      = m ((c : Thread nD τ).loc main_arg1) (ix2 (bOf t) ⟨1024 + k.val, by omega⟩) := by
  unfold bOf; blk_ext! [iblk, V, idx t]

/-- The gate's block: the third modulation row. -/
theorem read3 (c : Dev nD) (t : Fin cfg0.N) (k : Fin 1024) :
    (iblk m c 3 t : Vec Ideal S1x1x1x1024 .f32) (ix4 0 0 0 k)
      = m ((c : Thread nD τ).loc main_arg1) (ix2 (bOf t) ⟨2048 + k.val, by omega⟩) := by
  unfold bOf; blk_ext! [iblk, V, idx t]

/-- The wide matrix's block: the whole matrix. -/
theorem read4 (c : Dev nD) (t : Fin cfg0.N) (k : Fin 1024) (f : Fin 5632) :
    (iblk m c 4 t : Vec Ideal S1024x5632 .bf16) (ix2 k f) = m ((c : Thread nD τ).loc main_arg2) (ix2 k f) := by
  blk_ext! [iblk, V, idx t]

/-- The down-projection's block: the whole matrix. -/
theorem read5 (c : Dev nD) (t : Fin cfg0.N) (f : Fin 2816) (d : Fin 1024) :
    (iblk m c 5 t : Vec Ideal S2816x1024 .bf16) (ix2 f d) = m ((c : Thread nD τ).loc main_arg3) (ix2 f d) := by
  blk_ext! [iblk, V, idx t]

/-- Where the output block lies in the result. -/
theorem place6 (t : Fin cfg0.N) (r : Fin 512) (d : Fin 1024) :
    ((win0_6.blk t).view.emb (ix3 (0 : Fin 1) r d) : S8x4096x1024.Idx) = ix3 (bOf t) (sOf t r) d := by
  unfold bOf sOf; blk_ext [idx t]

/-- A point's block, at a row and a feature, is the feed-forward block of that token. -/
theorem block_eq (c : Dev nD) (t : Fin cfg0.N) (r : Fin 512) (d : Fin 1024) :
    out0_6 (iblk m c 0 t) (iblk m c 1 t) (iblk m c 2 t) (iblk m c 3 t) (iblk m c 4 t) (iblk m c 5 t) (ix3 0 r d)
      = G m c (ix3 (bOf t) (sOf t r) d) := by
  refine (Block.out_apply _ _ _ _ _ _ r d).trans ?_
  simp only [read0, read1, read2, read3, read4, read5, G, ffnAt, ix3_0, ix3_1, ix3_2]

/-- The kernel's result array is the feed-forward block of every token. -/
theorem array_eq (c : Dev nD) : (dats m 0 c).arrAt 6 cfg0.N = G m c := by
  refine (dats m 0 c).arrAt_eq_of_covers 6 _ (by decide +kernel) fun t hf y => ?_
  blk_simp
  rw [after0_6]
  revert y
  show ∀ y : S1x512x1024.Idx, _
  intro y
  obtain ⟨r, d, rfl⟩ : ∃ (r : Fin 512) (d : Fin 1024), y = ix3 0 r d :=
    ⟨y 1, y 2, (eq_ix3 (n0 := 1) (n1 := 512) (n2 := 1024) y).trans
      (congrArg (fun a => ix3 a _ _) (Subsingleton.elim (α := Fin 1) _ _))⟩
  exact (block_eq m c t r d).trans (congrArg (G m c) (place6 t r d).symm)

end Cert.KernelIdeal.Array

end
-- ==== Proof.FfnRef.lean ====
module

public import proofs.«01_k».proof.Proof.FfnMath
public import proofs.«01_k».proof.Proof.Gen.ReferenceIdeal.Run
public import Idealize.ShloMosaic.Lib.Pointwise
public import Idealize.ShloMosaic.Lib.Tactic.CleanTypes

/-! The plain feed-forward block, read number by number. -/

@[expose] public section

set_option maxRecDepth 16384

noncomputable section

namespace Cert.ReferenceIdeal.Read

open Idealize.ShloMosaic Idealize.ShloMosaic.TcCoe Idealize.SL.Sem Cert.FfnMath Cert.ReferenceIdeal

variable (m : (ℓ : Loc nD τ sig) → Buf (Elt Ideal) ℓ)

/-- The reference's result is the feed-forward block of every token. -/
theorem result_eq (c : Dev nD) (b : Fin 8) (s : Fin 4096) (d : Fin 1024) :
    Value.res_main_v38 m c (ix3 b s d)
      = ffnAt (fun b s d => m ((c : Thread nD τ).loc main_arg0) (ix3 b s d)) (fun b k => m ((c : Thread nD τ).loc main_arg1) (ix2 b k))
          (fun k f => m ((c : Thread nD τ).loc main_arg2) (ix2 k f)) (fun f d => m ((c : Thread nD τ).loc main_arg3) (ix2 f d)) b s d := by
  unfold Value.res_main_v38
  clean_types
  pointwise
  simp only [ffnAt, ffnOut, hidden_eq]
  simp only [col_of_lt _ _ (Fin.isLt _)]
  rfl

end Cert.ReferenceIdeal.Read

end
-- ==== Proof.Consts.lean ====
module

public import Idealize.ShloMosaic.Lib.Pointwise

/-! The constants whose values the proofs use. -/

@[expose] public section

noncomputable section

namespace Cert.Consts

open Idealize.ShloMosaic

/-- The constant that is written one sixty-fourth. -/
theorem c64th : Ideal.ofBits .f32 0x3C800000#32 = ((1 / 64 : ℝ) : EReal) := by
  simp [Ideal.ofBits, Ideal.ieee, -EReal.coe_mul]; norm_num

/-- A sixty-fourth of a number is the number divided by sixty-four. -/
theorem sixtyfourth (a : EReal) : a * Ideal.ofBits .f32 0x3C800000#32 = Ideal.div a (Ideal.ofBits .f32 0x42800000#32) := by
  have e1 : Ideal.ofBits .f32 0x42800000#32 = ((64 : ℝ) : EReal) := by
    simp [Ideal.ofBits, Ideal.ieee, -EReal.coe_mul]; norm_num
  rw [e1, c64th, Ideal.div_coe (by norm_num)]

/-- The one of the indicator matrices. -/
theorem one_bf16 : Ideal.ofBits .bf16 0x3F80#16 = (1 : EReal) := by
  simp [Ideal.ofBits, Ideal.ieee, -EReal.coe_mul]; norm_num

/-- The nought of the indicator matrices. -/
theorem zero_bf16 : Ideal.ofBits .bf16 0x0000#16 = (0 : EReal) := by
  simp [Ideal.ofBits, Ideal.ieee, -EReal.coe_mul]

/-- The bound of the finiteness conditions is infinity. -/
theorem top_f32 : Ideal.ofBits .f32 0x7F800000#32 = (⊤ : EReal) := by
  simp [Ideal.ofBits, Ideal.ieee, -EReal.coe_mul]

/-- The normalisation's count of channels. -/
theorem c1024 : Ideal.ofBits .f32 0x44800000#32 = ((1024 : ℝ) : EReal) := by
  simp [Ideal.ofBits, Ideal.ieee, -EReal.coe_mul]; norm_num

/-- The normalisation's small addend is a positive number. -/
theorem addend : ∃ e : ℝ, 0 < e ∧ Ideal.ofBits .f32 0x358637BD#32 = ((e : ℝ) : EReal) := by
  refine ⟨8796093 * 2 ^ (-43 : ℤ), by positivity, ?_⟩
  simp [Ideal.ofBits, Ideal.ieee, -EReal.coe_mul]

end Cert.Consts

end
-- ==== Proof.DsaInBlock.lean ====
module

public import proofs.«01_k».proof.Proof.FfnMath
public import proofs.«01_k».proof.Proof.Gen.Kernel2Ideal.Value
public import Idealize.ShloMosaic.Lib.Pointwise
public import Idealize.ShloMosaic.Lib.Pipeline.ValueKit

/-! What one grid point of the sparse attention's input call leaves in its six output blocks, number by number. -/

@[expose] public section

set_option maxRecDepth 16384

noncomputable section

namespace Cert.DsaInBlock

open Idealize.ShloMosaic Idealize.SL.Sem Cert.FfnMath Cert.Kernel2Ideal Cert.Kernel2Ideal.Gen
open scoped BigOperators

/-- The modulated row of token `r` of a point's tile. -/
def tokRow (x0 : Vec Ideal S1x512x1024 .f32) (x1 x2 : Vec Ideal S1x1x1x1024 .f32) (r : Fin 512) : Fin 1024 → EReal :=
  modRow (fun k => x0 (ix3 0 r k)) (fun k => x1 (ix4 0 0 0 k)) (fun k => x2 (ix4 0 0 0 k))

/-- The modulated row, read off the payload. -/
theorem pay2_apply (v0 : Vec Ideal S1x512x1024 .f32) (v2 v4 : Vec Ideal S1x1x1x1024 .f32) (r : Fin 512) (k : Fin 1024) :
    k0_pay2 v0 v2 v4 (ix2 r k) = tokRow v0 v2 v4 r k := by
  pointwise [k0_pay2, tokRow, modRow]

/-- The transposed projection. -/
theorem pay3_apply (v0 : Vec Ideal S1x512x1024 .f32) (v2 v4 : Vec Ideal S1x1x1x1024 .f32) (v23 : Vec Ideal S1808x1024 .bf16)
    (n : Fin 1808) (r : Fin 512) :
    k0_pay3 v0 v2 v4 v23 (ix2 n r) = ∑ k : Fin 1024, v23 (ix2 n k) * tokRow v0 v2 v4 r k := by
  pointwise [k0_pay3]
  simp only [pay2_apply]

/-- The projection with tokens first. -/
theorem pay11_apply (v22 : FVec Ideal S512x1024 .bf16) (v71 : Vec Ideal S1024x640 .bf16) (r : Fin 512) (n : Fin 640) :
    k0_pay11 v22 v71 (ix2 r n) = ∑ k : Fin 1024, v22 (ix2 r k) * v71 (ix2 k n) := by
  pointwise [k0_pay11]

/-- Sixty-four numbers divided by their root mean square. -/
def norm64 (x : Fin 64 → EReal) (d : Fin 64) : EReal :=
  x d * Ideal.rsqrt (Ideal.div (∑ j, x j * x j) (Ideal.ofBits .f32 0x42800000#32) + Ideal.ofBits .f32 0x358637BD#32)

/-- A hundred and twenty-eight numbers times the reciprocal root of a sixty-fourth of the sum of their squares. -/
def norm128 (x : Fin 128 → EReal) (d : Fin 128) : EReal :=
  x d * Ideal.rsqrt ((∑ j, x j * x j) * Ideal.ofBits .f32 0x3C800000#32 + Ideal.ofBits .f32 0x358637BD#32)

/-- A place in a tile of one head's keys, from its token. -/
theorem local_idx (z : S1x512x128.Idx) (r : Fin 512) (h : r.val = (z 1).val) : ∃ e : Fin 128, z = ix3 0 r e :=
  ⟨z 2, (eq_ix3 (n0 := 1) (n1 := 512) (n2 := 128) z).trans
    (congrArg₂ (fun a b => ix3 a b (z 2)) (Subsingleton.elim (α := Fin 1) _ _) (Fin.ext h.symm))⟩

/-- A place in a chunk of the values, from its row and column. -/
theorem local_idx4 (z : S1x1x256x256.Idx) (row col : Fin 256) (h2 : row.val = (z 2).val) (h3 : col.val = (z 3).val) :
    z = ix4 0 0 row col :=
  (eq_ix4 (n0 := 1) (n1 := 1) (n2 := 256) (n3 := 256) z).trans
    ((congrArg₂ (fun a b => ix4 a b (z 2) (z 3)) (Subsingleton.elim (α := Fin 1) _ _) (Subsingleton.elim (α := Fin 1) _ _)).trans
      (congrArg₂ (fun a b => ix4 0 0 a b) (Fin.ext h2.symm) (Fin.ext h3.symm)))

/-- The head and the place inside it that a lane of the keys belongs to are determined by the lane. -/
theorem same_place (f h : Fin 4) (d e : Fin 128) (hz : 128 * h.val + d.val = 128 * f.val + e.val) : h = f ∧ d = e :=
  ⟨Fin.ext (by omega), Fin.ext (by omega)⟩

section Out

variable (x0 : Vec Ideal S1x512x1024 .f32) (x1 x2 : Vec Ideal S1x1x1x1024 .f32) (x3 : Vec Ideal S1808x1024 .bf16)
  (x4 : Vec Ideal S1024x640 .bf16) (x5 : Vec Ideal S64x1 .f32) (x6 x7 : Vec Ideal S1x128 .f32)

/-- Row `n` of the transposed projection, at token `r`. -/
def rowT (n : Fin 1808) (r : Fin 512) : EReal := ∑ k : Fin 1024, x3 (ix2 n k) * tokRow x0 x1 x2 r k

/-- Column `n` of the projection with tokens first, at token `r`. -/
def colN (n : Fin 640) (r : Fin 512) : EReal := ∑ k : Fin 1024, tokRow x0 x1 x2 r k * x4 (ix2 k n)

/-- The queries. -/
theorem out8_apply (h : Fin 16) (d : Fin 64) (r : Fin 512) :
    out0_8 x0 x1 x2 x3 x4 x5 x6 x7 (ix3 0 ⟨64 * h.val + d.val, by omega⟩ r)
      = norm64 (fun j => rowT x0 x1 x2 x3 ⟨h.val * 64 + j.val, by omega⟩ r) d * x5 (ix2 d 0) * Ideal.ofBits .f32 0x3E38AA3B#32 := by
  unfold_out out0_8
  frame_out
  pointwise [k0_pay6, k0_pay4, k0_pay5]
  simp only [pay3_apply, norm64, rowT]

/-- The values. -/
theorem out10_apply (cc : Fin 2) (row col : Fin 256) :
    out0_10 x0 x1 x2 x3 x4 x5 x6 x7 (ix4 0 cc row col)
      = rowT x0 x1 x2 x3 ⟨1024 + row.val, by omega⟩ ⟨256 * cc.val + col.val, by omega⟩ := by
  unfold_out out0_10
  canon_tiles z hz
  · obtain rfl := local_idx4 z row col hz2 hz3
    obtain rfl : cc = 1 := Fin.ext hz1
    frame_out
    pointwise [k0_pay7, k0_pay8]
    simp only [pay3_apply, rowT]
  · obtain rfl := local_idx4 z row col hz2 hz3
    obtain rfl : cc = 0 := Fin.ext (hz1.trans (Nat.zero_add _).symm)
    frame_out
    pointwise [k0_pay7, k0_pay8]
    simp only [pay3_apply, rowT]

/-- The indexer's queries. -/
theorem out11_apply (n : Fin 512) (r : Fin 512) :
    out0_11 x0 x1 x2 x3 x4 x5 x6 x7 (ix3 0 n r) = rowT x0 x1 x2 x3 ⟨1280 + n.val, by omega⟩ r := by
  unfold_out out0_11
  frame_out
  pointwise [k0_pay9]
  simp only [pay3_apply, rowT]

/-- The indexer's head weights. -/
theorem out13_apply (n : Fin 8) (r : Fin 512) :
    out0_13 x0 x1 x2 x3 x4 x5 x6 x7 (ix3 0 n r)
      = rowT x0 x1 x2 x3 ⟨1792 + n.val, by omega⟩ r * Ideal.ofBits .f32 0x3D3504F3#32 := by
  unfold_out out0_13
  frame_out
  pointwise [k0_pay10]
  simp only [pay3_apply, rowT]

/-- The indexer's keys. -/
theorem out12_apply (r : Fin 512) (d : Fin 128) :
    out0_12 x0 x1 x2 x3 x4 x5 x6 x7 (ix3 0 r d)
      = norm128 (fun j => colN x0 x1 x2 x4 ⟨512 + j.val, by omega⟩ r) d * x7 (ix2 0 d) := by
  unfold_out out0_12
  frame_out
  pointwise [k0_pay1, k0_pay19]
  simp only [pay11_apply, pay2_apply, norm128, colN]

/-- The keys. -/
theorem out9_apply (r : Fin 512) (h : Fin 4) (d : Fin 128) :
    out0_9 x0 x1 x2 x3 x4 x5 x6 x7 (ix3 0 r ⟨128 * h.val + d.val, by omega⟩)
      = norm128 (fun j => colN x0 x1 x2 x4 ⟨128 * h.val + j.val, by omega⟩ r) d * x6 (ix2 0 d) := by
  unfold_out out0_9
  canon_tiles z hz
  · obtain ⟨e, rfl⟩ := local_idx z r hz1
    obtain ⟨rfl, rfl⟩ := same_place 3 h d e hz2
    frame_out
    pointwise [k0_pay12, k0_pay13, k0_pay14, k0_pay15, k0_pay16, k0_pay17, k0_pay18]
    simp only [pay11_apply, pay2_apply, norm128, colN]
  · obtain ⟨e, rfl⟩ := local_idx z r hz1
    obtain ⟨rfl, rfl⟩ := same_place 2 h d e hz2
    frame_out
    pointwise [k0_pay12, k0_pay13, k0_pay14, k0_pay15, k0_pay16, k0_pay17, k0_pay18]
    simp only [pay11_apply, pay2_apply, norm128, colN]
  · obtain ⟨e, rfl⟩ := local_idx z r hz1
    obtain ⟨rfl, rfl⟩ := same_place 1 h d e hz2
    frame_out
    pointwise [k0_pay12, k0_pay13, k0_pay14, k0_pay15, k0_pay16, k0_pay17, k0_pay18]
    simp only [pay11_apply, pay2_apply, norm128, colN]
  · obtain ⟨e, rfl⟩ := local_idx z r hz1
    obtain ⟨rfl, rfl⟩ := same_place 0 h d e (hz2.trans (Nat.zero_add _).symm)
    frame_out
    pointwise [k0_pay12, k0_pay13, k0_pay14, k0_pay15, k0_pay16, k0_pay17, k0_pay18]
    simp only [pay11_apply, pay2_apply, norm128, colN]

end Out

end Cert.DsaInBlock

end
-- ==== Proof.DsaInMath.lean ====
module

public import proofs.«01_k».proof.Proof.Consts
public import proofs.«01_k».proof.Proof.DsaInBlock
public import Idealize.ShloMosaic.Lib.FinSumWindow

/-! The sparse attention's input step of one token, as plain functions over the extended reals: what both programs compute. -/

@[expose] public section

noncomputable section

namespace Cert.DsaInMath

open Idealize.ShloMosaic Cert.FfnMath Cert.DsaInBlock
open scoped BigOperators

variable (h : Fin 8 → Fin 4096 → Fin 1024 → EReal) (md : Fin 8 → Fin 9216 → EReal) (W : Fin 1024 → Fin 2120 → EReal)

/-- The modulated hidden state of a token, from the fourth and fifth modulation rows. -/
def tok (b : Fin 8) (s : Fin 4096) : Fin 1024 → EReal :=
  modRow (h b s) (fun k => md b ⟨3072 + k.val, by omega⟩) (fun k => md b ⟨4096 + k.val, by omega⟩)

/-- One number of the token's input projection. -/
def proj (b : Fin 8) (s : Fin 4096) (n : Fin 2120) : EReal := ∑ k, tok h md b s k * W k n

/-- A query number: normalised over its head, times the queries' scale and the softmax's scale. -/
def qAt (qn : Fin 64 → EReal) (b : Fin 8) (hd : Fin 16) (d : Fin 64) (s : Fin 4096) : EReal :=
  norm64 (fun j => proj h md W b s ⟨hd.val * 64 + j.val, by omega⟩) d * qn d * Ideal.ofBits .f32 0x3E38AA3B#32

/-- A key number: normalised over its head, times the keys' scale; nought after sixty-four numbers. -/
def kAt (kn : Fin 64 → EReal) (b : Fin 8) (s : Fin 4096) (hd : Fin 4) (d : Fin 128) : EReal :=
  if hlt : d.val < 64 then norm64 (fun j => proj h md W b s ⟨1024 + (hd.val * 64 + j.val), by omega⟩) ⟨d.val, hlt⟩ * kn ⟨d.val, hlt⟩
  else 0

/-- A value number, at a place in a chunk of 256 tokens. -/
def vAt (b : Fin 8) (ch : Fin 16) (row col : Fin 256) : EReal :=
  proj h md W b ⟨ch.val * 256 + col.val, by omega⟩ ⟨1280 + row.val, by omega⟩

/-- An index query number. -/
def iqAt (b : Fin 8) (n : Fin 512) (s : Fin 4096) : EReal := proj h md W b s ⟨1536 + n.val, by omega⟩

/-- An index key number: normalised, times the index keys' scale; nought after sixty-four numbers. -/
def ikAt (ikn : Fin 64 → EReal) (b : Fin 8) (s : Fin 4096) (d : Fin 128) : EReal :=
  if hlt : d.val < 64 then norm64 (fun j => proj h md W b s ⟨2048 + j.val, by omega⟩) ⟨d.val, hlt⟩ * ikn ⟨d.val, hlt⟩ else 0

/-- An index weight. -/
def iwAt (b : Fin 8) (n : Fin 8) (s : Fin 4096) : EReal :=
  proj h md W b s ⟨2112 + n.val, by omega⟩ * Ideal.ofBits .f32 0x3D3504F3#32

/-- A lane of 128 is one of the first sixty-four or one of the last. -/
theorem lane (d : Fin 128) : (∃ e : Fin 64, d = ⟨e.val, by omega⟩) ∨ ∃ e : Fin 64, d = ⟨64 + e.val, by omega⟩ := by
  by_cases hd : d.val < 64
  · exact .inl ⟨⟨d.val, hd⟩, rfl⟩
  · exact .inr ⟨⟨d.val - 64, by omega⟩, Fin.ext (by show d.val = 64 + (d.val - 64); omega)⟩

/-- The squares of 128 numbers, the last sixty-four of them nought, sum to the squares of the first sixty-four. -/
theorem sq_sum (x : Fin 128 → EReal) (hz : ∀ e : Fin 64, x ⟨64 + e.val, by omega⟩ = 0) :
    ∑ j, x j * x j = ∑ j : Fin 64, x ⟨j.val, by omega⟩ * x ⟨j.val, by omega⟩ := by
  have e := Fin.sum_univ_add (a := 64) (b := 64) fun j => x j * x j
  refine e.trans ?_
  have z : ∑ i : Fin 64, x (Fin.natAdd 64 i) * x (Fin.natAdd 64 i) = 0 :=
    Finset.sum_eq_zero fun i _ => by rw [show x (Fin.natAdd 64 i) = 0 from hz i, mul_zero]
  rw [z, add_zero]
  rfl

/-- Normalising 128 numbers, the last sixty-four of them nought, normalises the first sixty-four. -/
theorem norm128_eq (x : Fin 128 → EReal) (hz : ∀ e : Fin 64, x ⟨64 + e.val, by omega⟩ = 0) (e : Fin 64) :
    norm128 x ⟨e.val, by omega⟩ = norm64 (fun j => x ⟨j.val, by omega⟩) e := by
  simp only [norm128, norm64, sq_sum x hz, Cert.Consts.sixtyfourth]

end Cert.DsaInMath

end
-- ==== Proof.DsaInReads.lean ====
module

public import proofs.«01_k».proof.Proof.DsaInBlock
public import Idealize.ShloMosaic.Lib.Tactic.CleanTypes

/-! What the sparse attention's input call reads: the host's layout of the weights, and the blocks of a grid point. -/

@[expose] public section

set_option maxRecDepth 16384

noncomputable section

namespace Cert.DsaInArray

open Idealize.ShloMosaic Idealize.ShloMosaic.TcCoe Idealize.SL.Sem Cert.FfnMath Cert.DsaInBlock Cert.Kernel2Ideal Cert.Kernel2Ideal.Gen
open scoped BigOperators

variable (m : (ℓ : Loc nD τ sig) → Buf (Elt Ideal) ℓ)

/-- Where the windows' blocks lie: decided over the 64 grid points. -/
theorem idx : ∀ t : Fin cfg0.N, win0_0.index t = ![(grid0.coords t 0).val, (grid0.coords t 1).val, 0]
    ∧ win0_1.index t = ![(grid0.coords t 0).val, 3, 0, 0] ∧ win0_2.index t = ![(grid0.coords t 0).val, 4, 0, 0]
    ∧ win0_3.index t = ![0, 0] ∧ win0_4.index t = ![0, 0] ∧ win0_5.index t = ![0, 0] ∧ win0_6.index t = ![0, 0]
    ∧ win0_7.index t = ![0, 0]
    ∧ win0_8.index t = ![(grid0.coords t 0).val, 0, (grid0.coords t 1).val]
    ∧ win0_9.index t = ![(grid0.coords t 0).val, (grid0.coords t 1).val, 0]
    ∧ win0_10.index t = ![(grid0.coords t 0).val, (grid0.coords t 1).val, 0, 0]
    ∧ win0_11.index t = ![(grid0.coords t 0).val, 0, (grid0.coords t 1).val]
    ∧ win0_12.index t = ![(grid0.coords t 0).val, (grid0.coords t 1).val, 0]
    ∧ win0_13.index t = ![(grid0.coords t 0).val, 0, (grid0.coords t 1).val] :=
  (by decide +kernel : ∀ t : Fin grid0.N, _)

/-- The batch entry of grid point `t`. -/
def bOf (t : Fin cfg0.N) : Fin 8 := ⟨(grid0.coords t 0).val, (grid0.coords t 0).isLt⟩

/-- Row `r` of grid point `t`'s tile, as a token of the batch entry. -/
def sOf (t : Fin cfg0.N) (r : Fin 512) : Fin 4096 :=
  ⟨(grid0.coords t 1).val * 512 + r.val, by have h : (grid0.coords t 1).val < 8 := (grid0.coords t 1).isLt; omega⟩

/-- The hidden states' block. -/
theorem read0 (c : Dev nD) (t : Fin cfg0.N) (r : Fin 512) (k : Fin 1024) :
    (iblk m c 0 t : Vec Ideal S1x512x1024 .f32) (ix3 0 r k) = m ((c : Thread nD τ).loc main_arg0) (ix3 (bOf t) (sOf t r) k) := by
  unfold bOf sOf; blk_ext! [iblk, V, idx t]

/-- The integer nought, as a number. -/
theorem sitofp_zero (φ : FTy) : (FloatOps.sitofp φ (0#32) : Ideal φ) = (0 : EReal) := by
  show (((0#32 : BitVec 32).toInt : ℝ) : EReal) = 0
  simp

/-- The modulation, one row of 1024 after another. -/
theorem mod_at (c : Dev nD) (b : Fin 8) (r : Fin 9) (k : Fin 1024) : V m c main_v0 (ix4 b r 0 k) = m ((c : Thread nD τ).loc main_arg1) (ix2 b ⟨r.val * 1024 + k.val, by omega⟩) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  clean_types
  pointwise

/-- The transposed weights, piece below piece, from what the operations before them leave. -/
theorem wT_cat (X : Valuation τ sig (Elt Ideal)) :
    StableHlo.after [hostOps0_6, hostOps0_7, hostOps0_8, hostOps0_9, hostOps0_10].flatten X (Proc.devRef .tc main_v17)
      = concatenate S1808x1024 0
        [⟨S1024x1024, (X (Proc.devRef .tc main_v3) : (⟨S1024x1024, .bf16⟩ : BufTy).Contents (Elt Ideal))⟩,
          ⟨S256x1024, (X (Proc.devRef .tc main_v9) : (⟨S256x1024, .bf16⟩ : BufTy).Contents (Elt Ideal))⟩,
          ⟨S512x1024, (X (Proc.devRef .tc main_v11) : (⟨S512x1024, .bf16⟩ : BufTy).Contents (Elt Ideal))⟩,
          ⟨S16x1024, (X (Proc.devRef .tc main_v16) : (⟨S16x1024, .bf16⟩ : BufTy).Contents (Elt Ideal))⟩]
        concatenates_S1024x1024_S256x1024_S512x1024_S16x1024_S1808x1024_d0 := by
  simp only [hostOps0_6, hostOps0_7, hostOps0_8, hostOps0_9, hostOps0_10, List.flatten_cons, List.flatten_nil, List.append_nil,
    List.cons_append, List.nil_append, StableHlo.after_cons, StableHlo.after_nil, StableHlo.TRef.unary, StableHlo.TRef.binary]
  repeat (first
    | (rw [StableHlo.reshape_result_ne]; rotate_left; decide) | (rw [StableHlo.unary_result_ne]; rotate_left; decide)
    | (rw [StableHlo.binary_result_ne]; rotate_left; decide) | (rw [StableHlo.nullary_result_ne]; rotate_left; decide))
  exact StableHlo.nary_result _ _ _ _ _ X

/-- The transposed weights as the region finds them. -/
theorem wT_eq (c : Dev nD) : V m c main_v17
    = StableHlo.after [hostOps0_6, hostOps0_7, hostOps0_8, hostOps0_9, hostOps0_10].flatten
        (StableHlo.after [hostOps0, hostOps0_1, hostOps0_2, hostOps0_3, hostOps0_4, hostOps0_5].flatten fun b => m (c, b))
        (Proc.devRef .tc main_v17) :=
  congrFun (StableHlo.after_append _ _ _) _

/-- The queries' rows of the transposed weights. -/
theorem wT_q (c : Dev nD) (n : Fin 1024) (k : Fin 1024) : V m c main_v17 (ix2 ⟨n.val, by omega⟩ k) = m ((c : Thread nD τ).loc main_arg2) (ix2 k ⟨n.val, by omega⟩) := by
  rw [wT_eq, wT_cat]
  simp only [hostOps0, hostOps0_1, hostOps0_2, hostOps0_3, hostOps0_4, hostOps0_5, List.flatten_cons, List.flatten_nil, List.append_nil, List.cons_append, List.nil_append]
  after_results_simp
  simp only [StableHlo.TRef.toBuf, StableHlo.TRef.ofBuf, cast_eq]
  clean_types
  pointwise

/-- The values' rows of the transposed weights. -/
theorem wT_v (c : Dev nD) (n : Fin 256) (k : Fin 1024) : V m c main_v17 (ix2 ⟨1024 + n.val, by omega⟩ k) = m ((c : Thread nD τ).loc main_arg2) (ix2 k ⟨1280 + n.val, by omega⟩) := by
  rw [wT_eq, wT_cat]
  simp only [hostOps0, hostOps0_1, hostOps0_2, hostOps0_3, hostOps0_4, hostOps0_5, List.flatten_cons, List.flatten_nil, List.append_nil, List.cons_append, List.nil_append]
  after_results_simp
  simp only [StableHlo.TRef.toBuf, StableHlo.TRef.ofBuf, cast_eq]
  clean_types
  pointwise

/-- The index queries' rows of the transposed weights. -/
theorem wT_iq (c : Dev nD) (n : Fin 512) (k : Fin 1024) : V m c main_v17 (ix2 ⟨1280 + n.val, by omega⟩ k) = m ((c : Thread nD τ).loc main_arg2) (ix2 k ⟨1536 + n.val, by omega⟩) := by
  rw [wT_eq, wT_cat]
  simp only [hostOps0, hostOps0_1, hostOps0_2, hostOps0_3, hostOps0_4, hostOps0_5, List.flatten_cons, List.flatten_nil, List.append_nil, List.cons_append, List.nil_append]
  after_results_simp
  simp only [StableHlo.TRef.toBuf, StableHlo.TRef.ofBuf, cast_eq]
  clean_types
  pointwise
  rw [dif_neg (by omega)]
  rw [dif_neg (by omega)]
  rw [dif_pos (by omega)]
  exact congrArg (fun n => m ((c : Thread nD τ).loc main_arg2) (ix2 k n)) (Fin.ext (by show 1536 + (1280 + n.val - 1024 - 256) = 1536 + n.val; omega))

/-- The index weights' rows of the transposed weights. -/
theorem wT_iw (c : Dev nD) (n : Fin 8) (k : Fin 1024) : V m c main_v17 (ix2 ⟨1792 + n.val, by omega⟩ k) = m ((c : Thread nD τ).loc main_arg2) (ix2 k ⟨2112 + n.val, by omega⟩) := by
  rw [wT_eq, wT_cat]
  simp only [hostOps0, hostOps0_1, hostOps0_2, hostOps0_3, hostOps0_4, hostOps0_5, List.flatten_cons, List.flatten_nil, List.append_nil, List.cons_append, List.nil_append]
  after_results_simp
  simp only [StableHlo.TRef.toBuf, StableHlo.TRef.ofBuf, cast_eq]
  clean_types
  pointwise
  rw [dif_neg (by omega)]
  rw [dif_neg (by omega)]
  rw [dif_neg (by omega)]
  rw [dif_pos (by omega)]
  exact congrArg (fun n => m ((c : Thread nD τ).loc main_arg2) (ix2 k n)) (Fin.ext (by show 2112 + (1792 + n.val - 1024 - 256 - 512) = 2112 + n.val; omega))

/-- The keys' columns of the weights: sixty-four to a head. -/
theorem wn_k (c : Dev nD) (h : Fin 4) (d : Fin 64) (k : Fin 1024) : V m c main_v18 (ix2 k ⟨128 * h.val + d.val, by omega⟩) = m ((c : Thread nD τ).loc main_arg2) (ix2 k ⟨1024 + (64 * h.val + d.val), by omega⟩) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise
  rw [dif_pos (by omega)]
  rw [dif_pos (by omega)]
  exact congrArg (fun n => m ((c : Thread nD τ).loc main_arg2) (ix2 k n)) (Fin.ext (by show 1024 + ((128 * h.val + d.val) / 128 * 64 + (128 * h.val + d.val) % 128) = 1024 + (64 * h.val + d.val); omega))

/-- The keys' columns between the heads are nought. -/
theorem wn_kz (c : Dev nD) (h : Fin 4) (d : Fin 64) (k : Fin 1024) : V m c main_v18 (ix2 k ⟨128 * h.val + (64 + d.val), by omega⟩) = (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise
  rw [dif_pos (by omega)]
  rw [dif_neg (by omega)]
  exact sitofp_zero _

/-- The index keys' columns of the weights. -/
theorem wn_ik (c : Dev nD) (d : Fin 64) (k : Fin 1024) : V m c main_v18 (ix2 k ⟨512 + d.val, by omega⟩) = m ((c : Thread nD τ).loc main_arg2) (ix2 k ⟨2048 + d.val, by omega⟩) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise

/-- The columns after the index keys' are nought. -/
theorem wn_ikz (c : Dev nD) (d : Fin 64) (k : Fin 1024) : V m c main_v18 (ix2 k ⟨512 + (64 + d.val), by omega⟩) = (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise
  exact sitofp_zero _

/-- The queries' scale. -/
theorem qn_at (c : Dev nD) (d : Fin 64) : V m c main_v19 (ix2 d 0) = m ((c : Thread nD τ).loc main_arg3) (ix1 d) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  clean_types
  pointwise

/-- The keys' scale. -/
theorem kn_at (c : Dev nD) (d : Fin 64) : V m c main_v21 (ix2 0 ⟨d.val, by omega⟩) = m ((c : Thread nD τ).loc main_arg4) (ix1 d) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise

/-- The keys' scale is nought after sixty-four numbers. -/
theorem kn_z (c : Dev nD) (d : Fin 64) : V m c main_v21 (ix2 0 ⟨64 + d.val, by omega⟩) = (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise
  exact sitofp_zero _

/-- The index keys' scale. -/
theorem ikn_at (c : Dev nD) (d : Fin 64) : V m c main_v23 (ix2 0 ⟨d.val, by omega⟩) = m ((c : Thread nD τ).loc main_arg5) (ix1 d) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise

/-- The index keys' scale is nought after sixty-four numbers. -/
theorem ikn_z (c : Dev nD) (d : Fin 64) : V m c main_v23 (ix2 0 ⟨64 + d.val, by omega⟩) = (0 : EReal) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  simp only [StableHlo.TRef.toBuf, StableHlo.TRef.ofBuf, cast_eq]
  clean_types
  pointwise
  exact sitofp_zero _

/-- The shift's block: the fourth modulation row. -/
theorem read1 (c : Dev nD) (t : Fin cfg0.N) (k : Fin 1024) :
    (iblk m c 1 t : Vec Ideal S1x1x1x1024 .f32) (ix4 0 0 0 k)
      = m ((c : Thread nD τ).loc main_arg1) (ix2 (bOf t) ⟨3072 + k.val, by omega⟩) :=
  (congrArg (V m c main_v0) (by unfold bOf; blk_ext [idx t] : ((win0_1.blk t).view.emb (ix4 (0 : Fin 1) (0 : Fin 1) (0 : Fin 1) k)
    : S8x9x1x1024.Idx) = ix4 (bOf t) 3 0 k)).trans (mod_at m c (bOf t) 3 k)

/-- The scale's block: the fifth modulation row. -/
theorem read2 (c : Dev nD) (t : Fin cfg0.N) (k : Fin 1024) :
    (iblk m c 2 t : Vec Ideal S1x1x1x1024 .f32) (ix4 0 0 0 k)
      = m ((c : Thread nD τ).loc main_arg1) (ix2 (bOf t) ⟨4096 + k.val, by omega⟩) :=
  (congrArg (V m c main_v0) (by unfold bOf; blk_ext [idx t] : ((win0_2.blk t).view.emb (ix4 (0 : Fin 1) (0 : Fin 1) (0 : Fin 1) k)
    : S8x9x1x1024.Idx) = ix4 (bOf t) 4 0 k)).trans (mod_at m c (bOf t) 4 k)

/-- Window 3's block is the whole array. -/
theorem read3 (c : Dev nD) (t : Fin cfg0.N) (n : Fin 1808) (k : Fin 1024) :
    (iblk m c 3 t : Vec Ideal S1808x1024 .bf16) (ix2 n k) = V m c main_v17 (ix2 n k) :=
  congrArg (V m c main_v17) (by blk_ext [idx t] : ((win0_3.blk t).view.emb (ix2 n k) : S1808x1024.Idx) = ix2 n k)

/-- Window 4's block is the whole array. -/
theorem read4 (c : Dev nD) (t : Fin cfg0.N) (k : Fin 1024) (n : Fin 640) :
    (iblk m c 4 t : Vec Ideal S1024x640 .bf16) (ix2 k n) = V m c main_v18 (ix2 k n) :=
  congrArg (V m c main_v18) (by blk_ext [idx t] : ((win0_4.blk t).view.emb (ix2 k n) : S1024x640.Idx) = ix2 k n)

/-- Window 5's block is the whole array. -/
theorem read5 (c : Dev nD) (t : Fin cfg0.N) (d : Fin 64) (z : Fin 1) :
    (iblk m c 5 t : Vec Ideal S64x1 .f32) (ix2 d z) = V m c main_v19 (ix2 d z) :=
  congrArg (V m c main_v19) (by blk_ext [idx t] : ((win0_5.blk t).view.emb (ix2 d z) : S64x1.Idx) = ix2 d z)

/-- Window 6's block is the whole array. -/
theorem read6 (c : Dev nD) (t : Fin cfg0.N) (z : Fin 1) (d : Fin 128) :
    (iblk m c 6 t : Vec Ideal S1x128 .f32) (ix2 z d) = V m c main_v21 (ix2 z d) :=
  congrArg (V m c main_v21) (by blk_ext [idx t] : ((win0_6.blk t).view.emb (ix2 z d) : S1x128.Idx) = ix2 z d)

/-- Window 7's block is the whole array. -/
theorem read7 (c : Dev nD) (t : Fin cfg0.N) (z : Fin 1) (d : Fin 128) :
    (iblk m c 7 t : Vec Ideal S1x128 .f32) (ix2 z d) = V m c main_v23 (ix2 z d) :=
  congrArg (V m c main_v23) (by blk_ext [idx t] : ((win0_7.blk t).view.emb (ix2 z d) : S1x128.Idx) = ix2 z d)

end Cert.DsaInArray

end
-- ==== Proof.DsaInArray.lean ====
module

public import proofs.«01_k».proof.Proof.DsaInMath
public import proofs.«01_k».proof.Proof.DsaInReads

/-! The six arrays that the sparse attention's input call leaves. -/

@[expose] public section

set_option maxRecDepth 16384

noncomputable section

namespace Cert.DsaInArray

open Idealize.ShloMosaic Idealize.ShloMosaic.TcCoe Idealize.SL.Sem Cert.FfnMath Cert.DsaInBlock Cert.DsaInMath
open Cert.Kernel2Ideal Cert.Kernel2Ideal.Gen
open scoped BigOperators

variable (m : (ℓ : Loc nD τ sig) → Buf (Elt Ideal) ℓ)

/-- The hidden states that the call is given. -/
def hid (c : Dev nD) (b : Fin 8) (s : Fin 4096) (k : Fin 1024) : EReal := m ((c : Thread nD τ).loc main_arg0) (ix3 b s k)

/-- The modulation that the call is given. -/
def mds (c : Dev nD) (b : Fin 8) (k : Fin 9216) : EReal := m ((c : Thread nD τ).loc main_arg1) (ix2 b k)

/-- The weights that the call is given. -/
def wts (c : Dev nD) (k : Fin 1024) (n : Fin 2120) : EReal := m ((c : Thread nD τ).loc main_arg2) (ix2 k n)

/-- A scale that the call is given: the queries'. -/
def qsc (c : Dev nD) (d : Fin 64) : EReal := m ((c : Thread nD τ).loc main_arg3) (ix1 d)

/-- A scale that the call is given: the keys'. -/
def ksc (c : Dev nD) (d : Fin 64) : EReal := m ((c : Thread nD τ).loc main_arg4) (ix1 d)

/-- A scale that the call is given: the index keys'. -/
def iksc (c : Dev nD) (d : Fin 64) : EReal := m ((c : Thread nD τ).loc main_arg5) (ix1 d)

/-- The modulated row of a token of grid point `t`. -/
theorem tokRow_eq (c : Dev nD) (t : Fin cfg0.N) (r : Fin 512) :
    tokRow (iblk m c 0 t) (iblk m c 1 t) (iblk m c 2 t) r = tok (hid m c) (mds m c) (bOf t) (sOf t r) := by
  unfold tokRow
  simp only [read0, read1, read2]
  rfl

/-- A row of the transposed projection is a projection, where the row of the weights is a column of the given weights. -/
theorem rowT_eq (c : Dev nD) (t : Fin cfg0.N) (r : Fin 512) (n : Fin 1808) (n' : Fin 2120)
    (hw : ∀ k, V m c main_v17 (ix2 n k) = wts m c k n') :
    rowT (iblk m c 0 t) (iblk m c 1 t) (iblk m c 2 t) (iblk m c 3 t) n r
      = proj (hid m c) (mds m c) (wts m c) (bOf t) (sOf t r) n' := by
  unfold rowT proj
  refine Finset.sum_congr rfl fun k _ => ?_
  rw [tokRow_eq]
  exact (congrArg (· * tok (hid m c) (mds m c) (bOf t) (sOf t r) k) ((read3 m c t n k).trans (hw k))).trans (mul_comm _ _)

/-- A column of the projection is a projection, where the column of the weights is a column of the given weights. -/
theorem colN_eq (c : Dev nD) (t : Fin cfg0.N) (r : Fin 512) (n : Fin 640) (n' : Fin 2120)
    (hw : ∀ k, V m c main_v18 (ix2 k n) = wts m c k n') :
    colN (iblk m c 0 t) (iblk m c 1 t) (iblk m c 2 t) (iblk m c 4 t) n r
      = proj (hid m c) (mds m c) (wts m c) (bOf t) (sOf t r) n' := by
  unfold colN proj
  refine Finset.sum_congr rfl fun k _ => ?_
  rw [tokRow_eq]
  exact congrArg (tok (hid m c) (mds m c) (bOf t) (sOf t r) k * ·) ((read4 m c t k n).trans (hw k))

/-- A column of the projection is nought where the column of the weights is. -/
theorem colN_zero (c : Dev nD) (t : Fin cfg0.N) (r : Fin 512) (n : Fin 640) (hw : ∀ k, V m c main_v18 (ix2 k n) = (0 : EReal)) :
    colN (iblk m c 0 t) (iblk m c 1 t) (iblk m c 2 t) (iblk m c 4 t) n r = 0 := by
  unfold colN
  refine Finset.sum_eq_zero fun k _ => ?_
  exact (congrArg (tokRow (iblk m c 0 t) (iblk m c 1 t) (iblk m c 2 t) r k * ·) ((read4 m c t k n).trans (hw k))).trans (mul_zero _)

/-- Chunk `cc` of grid point `t`'s tile, as a chunk of the batch entry. -/
def chOf (t : Fin cfg0.N) (cc : Fin 2) : Fin 16 :=
  ⟨(grid0.coords t 1).val * 2 + cc.val, by have h : (grid0.coords t 1).val < 8 := (grid0.coords t 1).isLt; omega⟩

/-- The array of queries that the launch leaves. -/
def G8 (c : Dev nD) : S8x1024x4096.Idx → EReal := fun i =>
  qAt (hid m c) (mds m c) (wts m c) (qsc m c) (i 0) ⟨(i 1).val / 64, by have : (i 1).val < 1024 := (i 1).isLt; omega⟩ ⟨(i 1).val % 64, by omega⟩ (i 2)

/-- A point's block of queries, number by number. -/
theorem block8 (c : Dev nD) (t : Fin cfg0.N) (h : Fin 16) (d : Fin 64) (r : Fin 512) :
    out0_8 (iblk m c 0 t) (iblk m c 1 t) (iblk m c 2 t) (iblk m c 3 t) (iblk m c 4 t) (iblk m c 5 t) (iblk m c 6 t) (iblk m c 7 t) (ix3 (0 : Fin 1) (⟨64 * h.val + d.val, by omega⟩ : Fin 1024) r)
      = qAt (hid m c) (mds m c) (wts m c) (qsc m c) (bOf t) h d (sOf t r) := by
  refine (out8_apply _ _ _ _ _ _ _ _ h d r).trans ?_
  unfold qAt
  rw [show (fun j : Fin 64 => rowT (iblk m c 0 t) (iblk m c 1 t) (iblk m c 2 t) (iblk m c 3 t) ⟨h.val * 64 + j.val, by omega⟩ r)
      = fun j => proj (hid m c) (mds m c) (wts m c) (bOf t) (sOf t r) ⟨h.val * 64 + j.val, by omega⟩ from
    funext fun j => rowT_eq m c t r _ _ fun k => wT_q m c ⟨h.val * 64 + j.val, by omega⟩ k]
  rw [show (iblk m c 5 t : Vec Ideal S64x1 .f32) (ix2 d 0) = qsc m c d from (read5 m c t d 0).trans (qn_at m c d)]

/-- The array at a place of a point's block. -/
theorem G8_at (c : Dev nD) (t : Fin cfg0.N) (h : Fin 16) (d : Fin 64) (r : Fin 512) :
    G8 m c (ix3 (bOf t) (⟨64 * h.val + d.val, by omega⟩ : Fin 1024) (sOf t r)) = qAt (hid m c) (mds m c) (wts m c) (qsc m c) (bOf t) h d (sOf t r) := by
  unfold G8; congr 1 <;> apply Fin.ext <;> show _ = _ <;> dsimp only [ix3_1] <;> omega

/-- Where the block of queries lies in the result. -/
theorem place8 (t : Fin cfg0.N) (h : Fin 16) (d : Fin 64) (r : Fin 512) :
    ((win0_8.blk t).view.emb (ix3 (0 : Fin 1) (⟨64 * h.val + d.val, by omega⟩ : Fin 1024) r) : S8x1024x4096.Idx) = ix3 (bOf t) (⟨64 * h.val + d.val, by omega⟩ : Fin 1024) (sOf t r) := by
  unfold bOf sOf; blk_ext [idx t]

/-- The launch leaves the queries of every token. -/
theorem array8 (c : Dev nD) : (dats m 0 c).arrAt 8 cfg0.N = G8 m c := by
  refine (dats m 0 c).arrAt_eq_of_covers 8 _ (by decide +kernel) fun t hf y => ?_
  blk_simp
  rw [after0_8]
  revert y
  show ∀ y : S1x1024x512.Idx, _
  intro y
  obtain ⟨h, d, r, rfl⟩ : ∃ (h : Fin 16) (d : Fin 64) (r : Fin 512), y = ix3 0 (⟨64 * h.val + d.val, by omega⟩ : Fin 1024) r :=
    ⟨⟨(y 1).val / 64, by have : (y 1).val < 1024 := (y 1).isLt; omega⟩, ⟨(y 1).val % 64, by omega⟩, y 2,
      (eq_ix3 (n0 := 1) (n1 := 1024) (n2 := 512) y).trans (congrArg₂ (fun a b => ix3 a b _) (Subsingleton.elim (α := Fin 1) _ _)
        (Fin.ext (by show (y 1).val = 64 * ((y 1).val / 64) + (y 1).val % 64; omega)))⟩
  exact (block8 m c t h d r).trans ((G8_at m c t h d r).symm.trans (congrArg (G8 m c) (place8 t h d r).symm))

/-- The array of keys that the launch leaves. -/
def G9 (c : Dev nD) : S8x4096x512.Idx → EReal := fun i =>
  kAt (hid m c) (mds m c) (wts m c) (ksc m c) (i 0) (i 1) ⟨(i 2).val / 128, by have : (i 2).val < 512 := (i 2).isLt; omega⟩ ⟨(i 2).val % 128, by omega⟩

/-- A point's block of keys, number by number. -/
theorem block9 (c : Dev nD) (t : Fin cfg0.N) (r : Fin 512) (h : Fin 4) (d : Fin 128) :
    out0_9 (iblk m c 0 t) (iblk m c 1 t) (iblk m c 2 t) (iblk m c 3 t) (iblk m c 4 t) (iblk m c 5 t) (iblk m c 6 t) (iblk m c 7 t) (ix3 (0 : Fin 1) r (⟨128 * h.val + d.val, by omega⟩ : Fin 512))
      = kAt (hid m c) (mds m c) (wts m c) (ksc m c) (bOf t) (sOf t r) h d := by
  refine (out9_apply _ _ _ _ _ _ _ _ r h d).trans ?_
  unfold kAt
  have hz : ∀ e : Fin 64, colN (iblk m c 0 t) (iblk m c 1 t) (iblk m c 2 t) (iblk m c 4 t) ⟨128 * h.val + (64 + e.val), by omega⟩ r = 0 :=
    fun e => colN_zero m c t r _ fun k => wn_kz m c h e k
  rcases lane d with ⟨e, rfl⟩ | ⟨e, rfl⟩
  · rw [dif_pos e.isLt]
    refine (congrArg (· * _) (norm128_eq _ hz e)).trans ?_
    rw [show (fun j : Fin 64 => colN (iblk m c 0 t) (iblk m c 1 t) (iblk m c 2 t) (iblk m c 4 t) ⟨128 * h.val + j.val, by omega⟩ r)
        = fun j => proj (hid m c) (mds m c) (wts m c) (bOf t) (sOf t r) ⟨1024 + (h.val * 64 + j.val), by omega⟩ from
      funext fun j => colN_eq m c t r _ _ fun k => (wn_k m c h j k).trans
        (congrArg (wts m c k) (Fin.ext (by show 1024 + (64 * h.val + j.val) = 1024 + (h.val * 64 + j.val); omega)))]
    exact congrArg (_ * ·) ((read6 m c t 0 ⟨e.val, by omega⟩).trans (kn_at m c e))
  · rw [dif_neg (by show ¬ 64 + e.val < 64; omega)]
    rw [show (iblk m c 6 t : Vec Ideal S1x128 .f32) (ix2 0 ⟨64 + e.val, by omega⟩) = (0 : EReal) from
      (read6 m c t 0 ⟨64 + e.val, by omega⟩).trans (kn_z m c e)]
    exact mul_zero _

/-- The array at a place of a point's block. -/
theorem G9_at (c : Dev nD) (t : Fin cfg0.N) (r : Fin 512) (h : Fin 4) (d : Fin 128) :
    G9 m c (ix3 (bOf t) (sOf t r) (⟨128 * h.val + d.val, by omega⟩ : Fin 512)) = kAt (hid m c) (mds m c) (wts m c) (ksc m c) (bOf t) (sOf t r) h d := by
  unfold G9; congr 1 <;> apply Fin.ext <;> show _ = _ <;> dsimp only [ix3_2] <;> omega

/-- Where the block of keys lies in the result. -/
theorem place9 (t : Fin cfg0.N) (r : Fin 512) (h : Fin 4) (d : Fin 128) :
    ((win0_9.blk t).view.emb (ix3 (0 : Fin 1) r (⟨128 * h.val + d.val, by omega⟩ : Fin 512)) : S8x4096x512.Idx) = ix3 (bOf t) (sOf t r) (⟨128 * h.val + d.val, by omega⟩ : Fin 512) := by
  unfold bOf sOf; blk_ext [idx t]

/-- The launch leaves the keys of every token. -/
theorem array9 (c : Dev nD) : (dats m 0 c).arrAt 9 cfg0.N = G9 m c := by
  refine (dats m 0 c).arrAt_eq_of_covers 9 _ (by decide +kernel) fun t hf y => ?_
  blk_simp
  rw [after0_9]
  revert y
  show ∀ y : S1x512x512.Idx, _
  intro y
  obtain ⟨r, h, d, rfl⟩ : ∃ (r : Fin 512) (h : Fin 4) (d : Fin 128), y = ix3 0 r (⟨128 * h.val + d.val, by omega⟩ : Fin 512) :=
    ⟨y 1, ⟨(y 2).val / 128, by have : (y 2).val < 512 := (y 2).isLt; omega⟩, ⟨(y 2).val % 128, by omega⟩,
      (eq_ix3 (n0 := 1) (n1 := 512) (n2 := 512) y).trans (congrArg₂ (fun a b => ix3 a _ b) (Subsingleton.elim (α := Fin 1) _ _)
        (Fin.ext (by show (y 2).val = 128 * ((y 2).val / 128) + (y 2).val % 128; omega)))⟩
  exact (block9 m c t r h d).trans ((G9_at m c t r h d).symm.trans (congrArg (G9 m c) (place9 t r h d).symm))

/-- The array of values that the launch leaves. -/
def G10 (c : Dev nD) : S8x16x256x256.Idx → EReal := fun i =>
  vAt (hid m c) (mds m c) (wts m c) (i 0) (i 1) (i 2) (i 3)

/-- A point's block of values, number by number. -/
theorem block10 (c : Dev nD) (t : Fin cfg0.N) (cc : Fin 2) (row col : Fin 256) :
    out0_10 (iblk m c 0 t) (iblk m c 1 t) (iblk m c 2 t) (iblk m c 3 t) (iblk m c 4 t) (iblk m c 5 t) (iblk m c 6 t) (iblk m c 7 t) (ix4 (0 : Fin 1) cc row col)
      = vAt (hid m c) (mds m c) (wts m c) (bOf t) (chOf t cc) row col := by
  refine (out10_apply _ _ _ _ _ _ _ _ cc row col).trans ?_
  refine (rowT_eq m c t _ _ ⟨1280 + row.val, by omega⟩ fun k => wT_v m c row k).trans ?_
  unfold vAt
  exact congrArg (fun s => proj (hid m c) (mds m c) (wts m c) (bOf t) s _)
    (Fin.ext (by show (grid0.coords t 1).val * 512 + (256 * cc.val + col.val) = ((grid0.coords t 1).val * 2 + cc.val) * 256 + col.val; omega))

/-- The array at a place of a point's block. -/
theorem G10_at (c : Dev nD) (t : Fin cfg0.N) (cc : Fin 2) (row col : Fin 256) :
    G10 m c (ix4 (bOf t) (chOf t cc) row col) = vAt (hid m c) (mds m c) (wts m c) (bOf t) (chOf t cc) row col := by
  rfl

/-- Where the block of values lies in the result. -/
theorem place10 (t : Fin cfg0.N) (cc : Fin 2) (row col : Fin 256) :
    ((win0_10.blk t).view.emb (ix4 (0 : Fin 1) cc row col) : S8x16x256x256.Idx) = ix4 (bOf t) (chOf t cc) row col := by
  unfold bOf chOf; blk_ext [idx t]

/-- The launch leaves the values of every token. -/
theorem array10 (c : Dev nD) : (dats m 0 c).arrAt 10 cfg0.N = G10 m c := by
  refine (dats m 0 c).arrAt_eq_of_covers 10 _ (by decide +kernel) fun t hf y => ?_
  blk_simp
  rw [after0_10]
  revert y
  show ∀ y : S1x2x256x256.Idx, _
  intro y
  obtain ⟨cc, row, col, rfl⟩ : ∃ (cc : Fin 2) (row col : Fin 256), y = ix4 0 cc row col :=
    ⟨y 1, y 2, y 3, (eq_ix4 (n0 := 1) (n1 := 2) (n2 := 256) (n3 := 256) y).trans
      (congrArg (fun a => ix4 a _ _ _) (Subsingleton.elim (α := Fin 1) _ _))⟩
  exact (block10 m c t cc row col).trans ((G10_at m c t cc row col).symm.trans (congrArg (G10 m c) (place10 t cc row col).symm))

/-- The array of index queries that the launch leaves. -/
def G11 (c : Dev nD) : S8x512x4096.Idx → EReal := fun i =>
  iqAt (hid m c) (mds m c) (wts m c) (i 0) (i 1) (i 2)

/-- A point's block of index queries, number by number. -/
theorem block11 (c : Dev nD) (t : Fin cfg0.N) (n r : Fin 512) :
    out0_11 (iblk m c 0 t) (iblk m c 1 t) (iblk m c 2 t) (iblk m c 3 t) (iblk m c 4 t) (iblk m c 5 t) (iblk m c 6 t) (iblk m c 7 t) (ix3 (0 : Fin 1) n r)
      = iqAt (hid m c) (mds m c) (wts m c) (bOf t) n (sOf t r) := by
  refine (out11_apply _ _ _ _ _ _ _ _ n r).trans ?_
  exact rowT_eq m c t r _ _ fun k => wT_iq m c n k

/-- The array at a place of a point's block. -/
theorem G11_at (c : Dev nD) (t : Fin cfg0.N) (n r : Fin 512) :
    G11 m c (ix3 (bOf t) n (sOf t r)) = iqAt (hid m c) (mds m c) (wts m c) (bOf t) n (sOf t r) := by
  rfl

/-- Where the block of index queries lies in the result. -/
theorem place11 (t : Fin cfg0.N) (n r : Fin 512) :
    ((win0_11.blk t).view.emb (ix3 (0 : Fin 1) n r) : S8x512x4096.Idx) = ix3 (bOf t) n (sOf t r) := by
  unfold bOf sOf; blk_ext [idx t]

/-- The launch leaves the index queries of every token. -/
theorem array11 (c : Dev nD) : (dats m 0 c).arrAt 11 cfg0.N = G11 m c := by
  refine (dats m 0 c).arrAt_eq_of_covers 11 _ (by decide +kernel) fun t hf y => ?_
  blk_simp
  rw [after0_11]
  revert y
  show ∀ y : S1x512x512.Idx, _
  intro y
  obtain ⟨n, r, rfl⟩ : ∃ (n : Fin 512) (r : Fin 512), y = ix3 0 n r :=
    ⟨y 1, y 2, (eq_ix3 (n0 := 1) (n1 := 512) (n2 := 512) y).trans
      (congrArg (fun a => ix3 a _ _) (Subsingleton.elim (α := Fin 1) _ _))⟩
  exact (block11 m c t n r).trans ((G11_at m c t n r).symm.trans (congrArg (G11 m c) (place11 t n r).symm))

/-- The array of index keys that the launch leaves. -/
def G12 (c : Dev nD) : S8x4096x128.Idx → EReal := fun i =>
  ikAt (hid m c) (mds m c) (wts m c) (iksc m c) (i 0) (i 1) (i 2)

/-- A point's block of index keys, number by number. -/
theorem block12 (c : Dev nD) (t : Fin cfg0.N) (r : Fin 512) (d : Fin 128) :
    out0_12 (iblk m c 0 t) (iblk m c 1 t) (iblk m c 2 t) (iblk m c 3 t) (iblk m c 4 t) (iblk m c 5 t) (iblk m c 6 t) (iblk m c 7 t) (ix3 (0 : Fin 1) r d)
      = ikAt (hid m c) (mds m c) (wts m c) (iksc m c) (bOf t) (sOf t r) d := by
  refine (out12_apply _ _ _ _ _ _ _ _ r d).trans ?_
  unfold ikAt
  have hz : ∀ e : Fin 64, colN (iblk m c 0 t) (iblk m c 1 t) (iblk m c 2 t) (iblk m c 4 t) ⟨512 + (64 + e.val), by omega⟩ r = 0 :=
    fun e => colN_zero m c t r _ fun k => wn_ikz m c e k
  rcases lane d with ⟨e, rfl⟩ | ⟨e, rfl⟩
  · rw [dif_pos e.isLt]
    refine (congrArg (· * _) (norm128_eq _ hz e)).trans ?_
    rw [show (fun j : Fin 64 => colN (iblk m c 0 t) (iblk m c 1 t) (iblk m c 2 t) (iblk m c 4 t) ⟨512 + j.val, by omega⟩ r)
        = fun j => proj (hid m c) (mds m c) (wts m c) (bOf t) (sOf t r) ⟨2048 + j.val, by omega⟩ from
      funext fun j => colN_eq m c t r _ _ fun k => wn_ik m c j k]
    exact congrArg (_ * ·) ((read7 m c t 0 ⟨e.val, by omega⟩).trans (ikn_at m c e))
  · rw [dif_neg (by show ¬ 64 + e.val < 64; omega)]
    rw [show (iblk m c 7 t : Vec Ideal S1x128 .f32) (ix2 0 ⟨64 + e.val, by omega⟩) = (0 : EReal) from
      (read7 m c t 0 ⟨64 + e.val, by omega⟩).trans (ikn_z m c e)]
    exact mul_zero _

/-- The array at a place of a point's block. -/
theorem G12_at (c : Dev nD) (t : Fin cfg0.N) (r : Fin 512) (d : Fin 128) :
    G12 m c (ix3 (bOf t) (sOf t r) d) = ikAt (hid m c) (mds m c) (wts m c) (iksc m c) (bOf t) (sOf t r) d := by
  rfl

/-- Where the block of index keys lies in the result. -/
theorem place12 (t : Fin cfg0.N) (r : Fin 512) (d : Fin 128) :
    ((win0_12.blk t).view.emb (ix3 (0 : Fin 1) r d) : S8x4096x128.Idx) = ix3 (bOf t) (sOf t r) d := by
  unfold bOf sOf; blk_ext [idx t]

/-- The launch leaves the index keys of every token. -/
theorem array12 (c : Dev nD) : (dats m 0 c).arrAt 12 cfg0.N = G12 m c := by
  refine (dats m 0 c).arrAt_eq_of_covers 12 _ (by decide +kernel) fun t hf y => ?_
  blk_simp
  rw [after0_12]
  revert y
  show ∀ y : S1x512x128.Idx, _
  intro y
  obtain ⟨r, d, rfl⟩ : ∃ (r : Fin 512) (d : Fin 128), y = ix3 0 r d :=
    ⟨y 1, y 2, (eq_ix3 (n0 := 1) (n1 := 512) (n2 := 128) y).trans
      (congrArg (fun a => ix3 a _ _) (Subsingleton.elim (α := Fin 1) _ _))⟩
  exact (block12 m c t r d).trans ((G12_at m c t r d).symm.trans (congrArg (G12 m c) (place12 t r d).symm))

/-- The array of index weights that the launch leaves. -/
def G13 (c : Dev nD) : S8x8x4096.Idx → EReal := fun i =>
  iwAt (hid m c) (mds m c) (wts m c) (i 0) (i 1) (i 2)

/-- A point's block of index weights, number by number. -/
theorem block13 (c : Dev nD) (t : Fin cfg0.N) (n : Fin 8) (r : Fin 512) :
    out0_13 (iblk m c 0 t) (iblk m c 1 t) (iblk m c 2 t) (iblk m c 3 t) (iblk m c 4 t) (iblk m c 5 t) (iblk m c 6 t) (iblk m c 7 t) (ix3 (0 : Fin 1) n r)
      = iwAt (hid m c) (mds m c) (wts m c) (bOf t) n (sOf t r) := by
  refine (out13_apply _ _ _ _ _ _ _ _ n r).trans ?_
  exact congrArg (· * _) (rowT_eq m c t r _ _ fun k => wT_iw m c n k)

/-- The array at a place of a point's block. -/
theorem G13_at (c : Dev nD) (t : Fin cfg0.N) (n : Fin 8) (r : Fin 512) :
    G13 m c (ix3 (bOf t) n (sOf t r)) = iwAt (hid m c) (mds m c) (wts m c) (bOf t) n (sOf t r) := by
  rfl

/-- Where the block of index weights lies in the result. -/
theorem place13 (t : Fin cfg0.N) (n : Fin 8) (r : Fin 512) :
    ((win0_13.blk t).view.emb (ix3 (0 : Fin 1) n r) : S8x8x4096.Idx) = ix3 (bOf t) n (sOf t r) := by
  unfold bOf sOf; blk_ext [idx t]

/-- The launch leaves the index weights of every token. -/
theorem array13 (c : Dev nD) : (dats m 0 c).arrAt 13 cfg0.N = G13 m c := by
  refine (dats m 0 c).arrAt_eq_of_covers 13 _ (by decide +kernel) fun t hf y => ?_
  blk_simp
  rw [after0_13]
  revert y
  show ∀ y : S1x8x512.Idx, _
  intro y
  obtain ⟨n, r, rfl⟩ : ∃ (n : Fin 8) (r : Fin 512), y = ix3 0 n r :=
    ⟨y 1, y 2, (eq_ix3 (n0 := 1) (n1 := 8) (n2 := 512) y).trans
      (congrArg (fun a => ix3 a _ _) (Subsingleton.elim (α := Fin 1) _ _))⟩
  exact (block13 m c t n r).trans ((G13_at m c t n r).symm.trans (congrArg (G13 m c) (place13 t n r).symm))

end Cert.DsaInArray

end
-- ==== Proof.DsaInCall.lean ====
module

public import proofs.«01_k».proof.Defs
public import proofs.«01_k».proof.Proof.Gen.Kernel2Ideal.Value
public import proofs.«01_k».proof.Proof.Gen.Reference2Ideal.Run
public import proofs.«01_k».proof.Proof.DsaInArray
public import Idealize.ShloMosaic.Adequacy
public import Idealize.ShloMosaic.Init
public import Idealize.ShloMosaic.Lib.Quiescent
public import Idealize.ShloMosaic.Lib.Pointwise
public import Idealize.ShloMosaic.Lib.Pipeline.ValueKit
public import Idealize.ShloMosaic.Lib.Tactic.CleanTypes

/-! The sparse attention's input call against the plain step. -/

@[expose] public section

set_option maxRecDepth 16384

noncomputable section

namespace Cert.DsaInCall

open Idealize.ShloMosaic Idealize.ShloMosaic.TcCoe Idealize.SL.Sem Cert.FfnMath Cert.DsaInBlock Cert.DsaInMath Cert.DsaInArray
open scoped BigOperators

/-- The plain step ends with its arguments unchanged and no counter raised. -/
theorem quiescent_Reference2Ideal : quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- From memories that agree on the arguments, the call and the plain step leave the same six arrays. -/
theorem algebraic_Kernel2Ideal_Reference2Ideal : algebraic_Kernel2Ideal_Reference2Ideal := by
  intro m ρ m' ρ' _ hagree
  refine ⟨_, _, _, _, _, _, Cert.Kernel2Ideal.Value.run_blocks (F := Ideal) m ρ, ?_⟩
  refine (θ_run Cert.Reference2Ideal.defs _ _).mono
    (fun _ h c => ⟨?_, ?_, ?_, ?_, ?_, ?_, (h c).2.2.2.2.2.2⟩) (Cert.Reference2Ideal.Value.run (F := Ideal) m' ρ')
  · rw [(h c).1, array8]
    funext i
    obtain ⟨b, n, s, rfl⟩ : ∃ (b : Fin 8) (n : Fin 1024) (s : Fin 4096), i = ix3 b n s :=
      ⟨i 0, i 1, i 2, eq_ix3 (n0 := 8) (n1 := 1024) (n2 := 4096) i⟩
    unfold Cert.Reference2Ideal.Value.res_main_v81
    clean_types
    pointwise [G8, qAt, norm64, proj, tok, modRow, hid, mds, wts, qsc]
    simp only [hagree c, show n.val / 64 * 64 + n.val % 64 = n.val from Nat.div_add_mod' _ _]
  · rw [(h c).2.1, array9]
    funext i
    obtain ⟨b, s, n, rfl⟩ : ∃ (b : Fin 8) (s : Fin 4096) (n : Fin 512), i = ix3 b s n :=
      ⟨i 0, i 1, i 2, eq_ix3 (n0 := 8) (n1 := 4096) (n2 := 512) i⟩
    unfold Cert.Reference2Ideal.Value.res_main_v84
    clean_types
    pointwise [G9, kAt, norm64, proj, tok, modRow, hid, mds, wts, ksc]
    have h4 : n.val / 128 < 4 := by omega
    simp only [hagree c, sitofp_zero, h4, true_and]
  · rw [(h c).2.2.1, array10]
    funext i
    obtain ⟨b, ch, row, col, rfl⟩ : ∃ (b : Fin 8) (ch : Fin 16) (row col : Fin 256), i = ix4 b ch row col :=
      ⟨i 0, i 1, i 2, i 3, eq_ix4 (n0 := 8) (n1 := 16) (n2 := 256) (n3 := 256) i⟩
    clean_types
    pointwise [G10, vAt, proj, tok, modRow, hid, mds, wts]
    simp only [hagree c]
  · rw [(h c).2.2.2.1, array11]
    funext i
    obtain ⟨b, n, s, rfl⟩ : ∃ (b : Fin 8) (n : Fin 512) (s : Fin 4096), i = ix3 b n s :=
      ⟨i 0, i 1, i 2, eq_ix3 (n0 := 8) (n1 := 512) (n2 := 4096) i⟩
    clean_types
    pointwise [G11, iqAt, proj, tok, modRow, hid, mds, wts]
    simp only [hagree c]
  · rw [(h c).2.2.2.2.1, array12]
    funext i
    obtain ⟨b, s, d, rfl⟩ : ∃ (b : Fin 8) (s : Fin 4096) (d : Fin 128), i = ix3 b s d :=
      ⟨i 0, i 1, i 2, eq_ix3 (n0 := 8) (n1 := 4096) (n2 := 128) i⟩
    unfold Cert.Reference2Ideal.Value.res_main_v91
    clean_types
    pointwise [G12, ikAt, norm64, proj, tok, modRow, hid, mds, wts, iksc]
    simp only [hagree c, sitofp_zero]
  · rw [(h c).2.2.2.2.2.1, array13]
    funext i
    obtain ⟨b, n, s, rfl⟩ : ∃ (b : Fin 8) (n : Fin 8) (s : Fin 4096), i = ix3 b n s :=
      ⟨i 0, i 1, i 2, eq_ix3 (n0 := 8) (n1 := 8) (n2 := 4096) i⟩
    clean_types
    pointwise [G13, iwAt, proj, tok, modRow, hid, mds, wts]
    simp only [hagree c]

end Cert.DsaInCall

end
-- ==== Proof.DsaOutCall.lean ====
module

public import proofs.«01_k».proof.Defs
public import proofs.«01_k».proof.Proof.Gen.Kernel3Ideal.Value
public import proofs.«01_k».proof.Proof.Gen.Reference3Ideal.Run
public import Idealize.ShloMosaic.Adequacy
public import Idealize.ShloMosaic.Init
public import Idealize.ShloMosaic.Lib.Quiescent
public import Idealize.ShloMosaic.Lib.Pointwise
public import Idealize.ShloMosaic.Lib.Pipeline.ValueKit
public import Idealize.ShloMosaic.Lib.Tactic.CleanTypes

/-! The sparse attention's output projection with its gate and residual: the tiled call against the plain line. -/

@[expose] public section

set_option maxRecDepth 16384

noncomputable section

namespace Cert.DsaOutCall

open Idealize.ShloMosaic Idealize.ShloMosaic.TcCoe Idealize.SL.Sem
open scoped BigOperators

/-- One output number: the hidden state plus the gate times the projection of the token's attention outputs. -/
def projAt (o : Fin 8 → Fin 1024 → Fin 4096 → EReal) (W : Fin 1024 → Fin 1024 → EReal) (h : Fin 8 → Fin 4096 → Fin 1024 → EReal)
    (md : Fin 8 → Fin 9216 → EReal) (b : Fin 8) (s : Fin 4096) (d : Fin 1024) : EReal :=
  h b s d + md b ⟨5120 + d.val, by omega⟩ * ∑ k, o b k s * W k d

section Kernel

open Cert.Kernel3Ideal Cert.Kernel3Ideal.Gen

variable (m : (ℓ : Loc nD τ sig) → Buf (Elt Ideal) ℓ)

/-- What one grid point leaves, number by number. -/
theorem out_apply (x0 : Vec Ideal S1x1024x512 .bf16) (x1 : Vec Ideal S1024x1024 .bf16) (x2 : Vec Ideal S1x512x1024 .f32)
    (x3 : Vec Ideal S1x1x1x1024 .f32) (r : Fin 512) (d : Fin 1024) :
    out0_4 x0 x1 x2 x3 (ix3 0 r d)
      = x2 (ix3 0 r d) + x3 (ix4 0 0 0 d) * ∑ k : Fin 1024, x0 (ix3 0 k r) * x1 (ix2 k d) := by
  unfold out0_4
  frame_out
  pointwise [k0_pay1]

/-- The array that the launch leaves. -/
def G (c : Dev nD) : S8x4096x1024.Idx → EReal := fun i =>
  projAt (fun b k s => m ((c : Thread nD τ).loc main_arg0) (ix3 b k s)) (fun k d => m ((c : Thread nD τ).loc main_arg1) (ix2 k d))
    (fun b s d => m ((c : Thread nD τ).loc main_arg2) (ix3 b s d)) (fun b k => m ((c : Thread nD τ).loc main_arg3) (ix2 b k))
    (i 0) (i 1) (i 2)

/-- Where the windows' blocks lie: decided over the 64 grid points. -/
theorem idx : ∀ t : Fin cfg0.N, win0_0.index t = ![(grid0.coords t 0).val, 0, (grid0.coords t 1).val]
    ∧ win0_1.index t = ![0, 0] ∧ win0_2.index t = ![(grid0.coords t 0).val, (grid0.coords t 1).val, 0]
    ∧ win0_3.index t = ![(grid0.coords t 0).val, 5, 0, 0]
    ∧ win0_4.index t = ![(grid0.coords t 0).val, (grid0.coords t 1).val, 0] :=
  (by decide +kernel : ∀ t : Fin grid0.N, _)

/-- The batch entry of grid point `t`. -/
def bOf (t : Fin cfg0.N) : Fin 8 := ⟨(grid0.coords t 0).val, (grid0.coords t 0).isLt⟩

/-- Row `r` of grid point `t`'s tile, as a token of the batch entry. -/
def sOf (t : Fin cfg0.N) (r : Fin 512) : Fin 4096 :=
  ⟨(grid0.coords t 1).val * 512 + r.val, by have h : (grid0.coords t 1).val < 8 := (grid0.coords t 1).isLt; omega⟩

/-- The attention outputs' block. -/
theorem read0 (c : Dev nD) (t : Fin cfg0.N) (k : Fin 1024) (r : Fin 512) :
    (iblk m c 0 t : Vec Ideal S1x1024x512 .bf16) (ix3 0 k r) = m ((c : Thread nD τ).loc main_arg0) (ix3 (bOf t) k (sOf t r)) := by
  unfold bOf sOf; blk_ext! [iblk, V, idx t]

/-- The projection's block: the whole matrix. -/
theorem read1 (c : Dev nD) (t : Fin cfg0.N) (k d : Fin 1024) :
    (iblk m c 1 t : Vec Ideal S1024x1024 .bf16) (ix2 k d) = m ((c : Thread nD τ).loc main_arg1) (ix2 k d) := by
  blk_ext! [iblk, V, idx t]

/-- The hidden states' block. -/
theorem read2 (c : Dev nD) (t : Fin cfg0.N) (r : Fin 512) (d : Fin 1024) :
    (iblk m c 2 t : Vec Ideal S1x512x1024 .f32) (ix3 0 r d) = m ((c : Thread nD τ).loc main_arg2) (ix3 (bOf t) (sOf t r) d) := by
  unfold bOf sOf; blk_ext! [iblk, V, idx t]

/-- The gate's block: the sixth modulation row. -/
theorem read3 (c : Dev nD) (t : Fin cfg0.N) (d : Fin 1024) :
    (iblk m c 3 t : Vec Ideal S1x1x1x1024 .f32) (ix4 0 0 0 d)
      = m ((c : Thread nD τ).loc main_arg3) (ix2 (bOf t) ⟨5120 + d.val, by omega⟩) := by
  unfold bOf; blk_ext! [iblk, V, idx t]

/-- Where the output block lies in the result. -/
theorem place (t : Fin cfg0.N) (r : Fin 512) (d : Fin 1024) :
    ((win0_4.blk t).view.emb (ix3 (0 : Fin 1) r d) : S8x4096x1024.Idx) = ix3 (bOf t) (sOf t r) d := by
  unfold bOf sOf; blk_ext [idx t]

/-- A point's block holds the output numbers of its tokens. -/
theorem block_eq (c : Dev nD) (t : Fin cfg0.N) (r : Fin 512) (d : Fin 1024) :
    out0_4 (iblk m c 0 t) (iblk m c 1 t) (iblk m c 2 t) (iblk m c 3 t) (ix3 0 r d) = G m c (ix3 (bOf t) (sOf t r) d) := by
  refine (out_apply _ _ _ _ r d).trans ?_
  simp only [read0, read1, read2, read3, G, projAt, ix3_0, ix3_1, ix3_2]

/-- The call's result array holds the output of every token. -/
theorem array_eq (c : Dev nD) : (dats m 0 c).arrAt 4 cfg0.N = G m c := by
  refine (dats m 0 c).arrAt_eq_of_covers 4 _ (by decide +kernel) fun t hf y => ?_
  blk_simp
  rw [after0_4]
  revert y
  show ∀ y : S1x512x1024.Idx, _
  intro y
  obtain ⟨r, d, rfl⟩ : ∃ (r : Fin 512) (d : Fin 1024), y = ix3 0 r d :=
    ⟨y 1, y 2, (eq_ix3 (n0 := 1) (n1 := 512) (n2 := 1024) y).trans
      (congrArg (fun a => ix3 a _ _) (Subsingleton.elim (α := Fin 1) _ _))⟩
  exact (block_eq m c t r d).trans (congrArg (G m c) (place t r d).symm)

end Kernel

/-- The plain line ends with its arguments unchanged and no counter raised. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- From memories that agree on the arguments, the call and the plain line leave the same array. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, array_eq]
  funext i
  obtain ⟨b, s, d, rfl⟩ : ∃ (b : Fin 8) (s : Fin 4096) (d : Fin 1024), i = ix3 b s d :=
    ⟨i 0, i 1, i 2, eq_ix3 (n0 := 8) (n1 := 4096) (n2 := 1024) i⟩
  clean_types
  pointwise [G, projAt]
  simp only [hagree c]

end Cert.DsaOutCall

end
-- ==== Proof.AdaCall.lean ====
module

public import proofs.«01_k».proof.Defs
public import proofs.«01_k».proof.Proof.Gen.Kernel4Ideal.Value
public import proofs.«01_k».proof.Proof.Gen.Reference4Ideal.Run
public import Idealize.ShloMosaic.Adequacy
public import Idealize.ShloMosaic.Init
public import Idealize.ShloMosaic.Lib.Quiescent
public import Idealize.ShloMosaic.Lib.Pointwise
public import Idealize.ShloMosaic.Lib.Pipeline.ValueKit
public import Idealize.ShloMosaic.Lib.Tactic.CleanTypes

/-! The modulation rows of the two layers: the tiled call against the plain projection. -/

@[expose] public section

set_option maxRecDepth 16384

noncomputable section

namespace Cert.AdaCall

open Idealize.ShloMosaic Idealize.ShloMosaic.TcCoe Idealize.SL.Sem
open scoped BigOperators

/-- One modulation number: layer `l`, batch entry `b`, column `n`, from the conditioning vectors, the projections and the biases. -/
def modAt (x : Fin 8 → Fin 1024 → EReal) (W : Fin 2 → Fin 1024 → Fin 9216 → EReal) (d : Fin 2 → Fin 9216 → EReal)
    (l : Fin 2) (b : Fin 8) (n : Fin 9216) : EReal :=
  (∑ k, x b k * Ideal.div 1 (1 + Ideal.exp (-x b k)) * W l k n) + d l n

section Kernel

open Cert.Kernel4Ideal Cert.Kernel4Ideal.Gen

variable (m : (ℓ : Loc nD τ sig) → Buf (Elt Ideal) ℓ)

/-- What one grid point leaves, number by number. -/
theorem out_apply (x0 : Vec Ideal S8x1024 .f32) (x1 : Vec Ideal S1x1024x1536 .f32) (x2 : Vec Ideal S1x1x1536 .f32) (b : Fin 8)
    (n : Fin 1536) :
    out0_3 x0 x1 x2 (ix3 0 b n)
      = (∑ k : Fin 1024, x0 (ix2 b k) * Ideal.div 1 (1 + Ideal.exp (-x0 (ix2 b k))) * x1 (ix3 0 k n)) + x2 (ix3 0 0 n) := by
  unfold out0_3
  frame_out
  pointwise [k0_pay1, Ideal.logistic]

/-- The array that the launch leaves. -/
def G (c : Dev nD) : S2x8x9216.Idx → EReal := fun i =>
  modAt (fun b k => m ((c : Thread nD τ).loc main_arg0) (ix2 b k)) (fun l k n => m ((c : Thread nD τ).loc main_arg1) (ix3 l k n))
    (fun l n => m ((c : Thread nD τ).loc main_arg2) (ix2 l n)) (i 0) (i 1) (i 2)

/-- Where the windows' blocks lie: decided over the twelve grid points. -/
theorem idx : ∀ t : Fin cfg0.N, win0_0.index t = ![0, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

/-- The layer of grid point `t`. -/
def lOf (t : Fin cfg0.N) : Fin 2 := ⟨(grid0.coords t 0).val, (grid0.coords t 0).isLt⟩

/-- Column `n` of grid point `t`'s tile. -/
def nOf (t : Fin cfg0.N) (n : Fin 1536) : Fin 9216 :=
  ⟨(grid0.coords t 1).val * 1536 + n.val, by have h : (grid0.coords t 1).val < 6 := (grid0.coords t 1).isLt; omega⟩

/-- The conditioning vectors' block. -/
theorem read0 (c : Dev nD) (t : Fin cfg0.N) (b : Fin 8) (k : Fin 1024) :
    (iblk m c 0 t : Vec Ideal S8x1024 .f32) (ix2 b k) = m ((c : Thread nD τ).loc main_arg0) (ix2 b k) := by
  blk_ext! [iblk, V, idx t]

/-- The projection's block. -/
theorem read1 (c : Dev nD) (t : Fin cfg0.N) (k : Fin 1024) (n : Fin 1536) :
    (iblk m c 1 t : Vec Ideal S1x1024x1536 .f32) (ix3 0 k n)
      = m ((c : Thread nD τ).loc main_arg1) (ix3 (lOf t) k (nOf t n)) := by
  unfold lOf nOf; blk_ext! [iblk, V, idx t]

/-- The bias's block. -/
theorem read2 (c : Dev nD) (t : Fin cfg0.N) (n : Fin 1536) :
    (iblk m c 2 t : Vec Ideal S1x1x1536 .f32) (ix3 0 0 n) = m ((c : Thread nD τ).loc main_arg2) (ix2 (lOf t) (nOf t n)) := by
  unfold lOf nOf; blk_ext! [iblk, V, idx t]

/-- Where the output block lies in the result. -/
theorem place (t : Fin cfg0.N) (b : Fin 8) (n : Fin 1536) :
    ((win0_3.blk t).view.emb (ix3 (0 : Fin 1) b n) : S2x8x9216.Idx) = ix3 (lOf t) b (nOf t n) := by
  unfold lOf nOf; blk_ext [idx t]

/-- A point's block holds the modulation numbers of its layer and columns. -/
theorem block_eq (c : Dev nD) (t : Fin cfg0.N) (b : Fin 8) (n : Fin 1536) :
    out0_3 (iblk m c 0 t) (iblk m c 1 t) (iblk m c 2 t) (ix3 0 b n) = G m c (ix3 (lOf t) b (nOf t n)) := by
  refine (out_apply _ _ _ b n).trans ?_
  simp only [read0, read1, read2, G, modAt, ix3_0, ix3_1, ix3_2]

/-- The call's result array holds every modulation number. -/
theorem array_eq (c : Dev nD) : (dats m 0 c).arrAt 3 cfg0.N = G m c := by
  refine (dats m 0 c).arrAt_eq_of_covers 3 _ (by decide +kernel) fun t hf y => ?_
  blk_simp
  rw [after0_3]
  revert y
  show ∀ y : S1x8x1536.Idx, _
  intro y
  obtain ⟨b, n, rfl⟩ : ∃ (b : Fin 8) (n : Fin 1536), y = ix3 0 b n :=
    ⟨y 1, y 2, (eq_ix3 (n0 := 1) (n1 := 8) (n2 := 1536) y).trans
      (congrArg (fun a => ix3 a _ _) (Subsingleton.elim (α := Fin 1) _ _))⟩
  exact (block_eq m c t b n).trans (congrArg (G m c) (place t b n).symm)

end Kernel

/-- The plain projection ends with its arguments unchanged and no counter raised. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- From memories that agree on the arguments, the call and the plain projection leave the same modulation rows. -/
theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, array_eq]
  funext i
  obtain ⟨l, b, n, rfl⟩ : ∃ (l : Fin 2) (b : Fin 8) (n : Fin 9216), i = ix3 l b n := ⟨i 0, i 1, i 2, eq_ix3 (n0 := 2) (n1 := 8) (n2 := 9216) i⟩
  clean_types
  fin_cases l <;> pointwise [G, modAt] <;> simp only [hagree c] <;> rfl

end Cert.AdaCall

end
-- ==== Proof.RwkvMath.lean ====
module

public import proofs.«01_k».proof.Proof.Consts

/-! Sums over a head's sixty-four channels, and how products with two indicator matrices form and spread them. -/

@[expose] public section

noncomputable section

namespace Cert.RwkvMath

open Idealize.ShloMosaic
open scoped BigOperators

/-- A number that is finite. -/
def Fine (x : EReal) : Prop := ∃ a : ℝ, x = (a : EReal)

theorem Fine.sub_self {x : EReal} (h : Fine x) : x - x = 0 := by
  obtain ⟨a, rfl⟩ := h
  rw [← EReal.coe_sub, _root_.sub_self, EReal.coe_zero]

theorem Fine.mul {x y : EReal} (hx : Fine x) (hy : Fine y) : Fine (x * y) := by
  obtain ⟨a, rfl⟩ := hx
  obtain ⟨b, rfl⟩ := hy
  exact ⟨a * b, (EReal.coe_mul a b).symm⟩

theorem Fine.sub {x y : EReal} (hx : Fine x) (hy : Fine y) : Fine (x - y) := by
  obtain ⟨a, rfl⟩ := hx
  obtain ⟨b, rfl⟩ := hy
  exact ⟨a - b, (EReal.coe_sub a b).symm⟩

theorem Fine.add {x y : EReal} (hx : Fine x) (hy : Fine y) : Fine (x + y) := by
  obtain ⟨a, rfl⟩ := hx
  obtain ⟨b, rfl⟩ := hy
  exact ⟨a + b, (EReal.coe_add a b).symm⟩

theorem Fine.sum {ι : Type} [Fintype ι] {f : ι → EReal} (h : ∀ i, Fine (f i)) : Fine (∑ i, f i) := by
  classical
  refine Finset.sum_induction f Fine (fun _ _ => Fine.add) ⟨0, EReal.coe_zero.symm⟩ fun i _ => h i

/-- A number whose absolute value is below infinity is finite. -/
theorem Fine.of_abs {x : EReal} (h : max x (-x) < ⊤) : Fine x := by
  induction x with
  | bot => simp at h
  | top => simp at h
  | coe a => exact ⟨a, rfl⟩

/-- The sum of a head's sixty-four channels. -/
def headSum (f : Fin 1024 → EReal) (j : Fin 16) : EReal := ∑ e : Fin 64, f ⟨j.val * 64 + e.val, by omega⟩

/-- The head of a channel. -/
def headOf (c : Fin 1024) : Fin 16 := ⟨c.val / 64, by omega⟩

theorem Fine.headSum {f : Fin 1024 → EReal} (h : ∀ k, Fine (f k)) (j : Fin 16) : Fine (headSum f j) := Fine.sum fun _ => h _

/-- A matrix that has a one where the row's channel, modulo 1024, belongs to the column's head, and noughts elsewhere. -/
def Gathers (G : Fin 2048 → Fin 16 → EReal) : Prop := ∀ k j, G k j = if k.val % 1024 / 64 = j.val then 1 else 0

/-- A matrix that has a one where the column's channel belongs to the row's head, modulo sixteen, and noughts elsewhere. -/
def Spreads (T : Fin 48 → Fin 1024 → EReal) : Prop := ∀ x c, T x c = if c.val / 64 = x.val % 16 then 1 else 0

/-- A sum over the channels of those that belong to a head. -/
theorem sum_head (f : Fin 1024 → EReal) (j : Fin 16) : ∑ k, f k * (if k.val / 64 = j.val then (1 : EReal) else 0) = headSum f j := by
  have e : ∑ k, f k * (if k.val / 64 = j.val then (1 : EReal) else 0)
      = ∑ p : Fin 16 × Fin 64, f ⟨p.1.val * 64 + p.2.val, by omega⟩ * (if p.1 = j then (1 : EReal) else 0) := by
    refine (Fintype.sum_equiv (finProdFinEquiv (m := 16) (n := 64)) _ _ fun p => ?_).symm
    have hv : (finProdFinEquiv p).val = p.1.val * 64 + p.2.val := by
      show p.2.val + 64 * p.1.val = _
      omega
    have hi : (⟨p.1.val * 64 + p.2.val, by omega⟩ : Fin 1024) = finProdFinEquiv p := Fin.ext hv.symm
    rw [hi]
    refine congrArg (f _ * ·) (if_congr ?_ rfl rfl)
    rw [hv, Fin.ext_iff]
    omega
  rw [e, Fintype.sum_prod_type, Finset.sum_eq_single j]
  · simp only [if_true, mul_one]
    rfl
  · intro i _ hi
    simp only [if_neg hi, mul_zero, Finset.sum_const_zero]
  · intro hj
    exact absurd (Finset.mem_univ _) hj

/-- The product of a row and what rounding it leaves over with a gathering matrix: the heads' sums. -/
theorem gather {f : Fin 1024 → EReal} (hf : ∀ k, Fine (f k)) {G : Fin 2048 → Fin 16 → EReal} (hG : Gathers G) (j : Fin 16) :
    ∑ k : Fin 1024, f k * G ⟨k.val, by omega⟩ j + ∑ k : Fin 1024, (f k - f k) * G ⟨1024 + k.val, by omega⟩ j = headSum f j := by
  have z : ∑ k : Fin 1024, (f k - f k) * G ⟨1024 + k.val, by omega⟩ j = 0 :=
    Finset.sum_eq_zero fun k _ => by rw [(hf k).sub_self, zero_mul]
  rw [z, add_zero, ← sum_head]
  refine Finset.sum_congr rfl fun k _ => ?_
  rw [hG]
  refine congrArg (f k * ·) (if_congr ?_ rfl rfl)
  show k.val % 1024 / 64 = j.val ↔ _
  rw [Nat.mod_eq_of_lt k.isLt]

/-- The product of the heads' sums and what two roundings leave over with a spreading matrix: each channel gets its head's. -/
theorem spread {s : Fin 16 → EReal} (hs : ∀ j, Fine (s j)) {T : Fin 48 → Fin 1024 → EReal} (hT : Spreads T) (c : Fin 1024) :
    ∑ x : Fin 48, (if h : x.val < 16 then s ⟨x.val, h⟩
      else if h : x.val - 16 < 16 then s ⟨x.val - 16, h⟩ - s ⟨x.val - 16, h⟩
      else s ⟨x.val - 16 - 16, by omega⟩ - s ⟨x.val - 16 - 16, by omega⟩
        - (s ⟨x.val - 16 - 16, by omega⟩ - s ⟨x.val - 16 - 16, by omega⟩)) * T x c = s (headOf c) := by
  rw [Finset.sum_eq_single (⟨c.val / 64, by omega⟩ : Fin 48)]
  · rw [dif_pos (show c.val / 64 < 16 by omega), hT, if_pos (show c.val / 64 = c.val / 64 % 16 by omega), mul_one]
    rfl
  · intro x _ hx
    by_cases h : x.val < 16
    · rw [hT, if_neg, mul_zero]
      intro e
      exact hx (Fin.ext (by show x.val = c.val / 64; omega))
    · rw [dif_neg h]
      by_cases h' : x.val - 16 < 16
      · rw [dif_pos h', (hs _).sub_self, zero_mul]
      · rw [dif_neg h', (hs _).sub_self, sub_zero, zero_mul]
  · intro hj
    exact absurd (Finset.mem_univ _) hj

end Cert.RwkvMath

end
-- ==== Proof.RwkvOutBlock.lean ====
module

public import proofs.«01_k».proof.Proof.RwkvMath
public import proofs.«01_k».proof.Proof.Gen.Kernel5Ideal.Value
public import Idealize.ShloMosaic.Lib.Pipeline.ValueKit

/-! What one grid point of the recurrence's output call leaves in its output block, number by number. -/

@[expose] public section

set_option maxRecDepth 16384

noncomputable section

namespace Cert.RwkvOutBlock

open Idealize.ShloMosaic Idealize.SL.Sem Cert.RwkvMath Cert.Kernel5Ideal Cert.Kernel5Ideal.Gen
open scoped BigOperators

/-- A channel less its head's mean. -/
def centred (f : Fin 1024 → EReal) (c : Fin 1024) : EReal := f c - headSum f (headOf c) * Ideal.ofBits .f32 0x3C800000#32

/-- A channel's head's sum of centred squares. -/
def spreadOf (f : Fin 1024 → EReal) (c : Fin 1024) : EReal := headSum (fun k => centred f k * centred f k) (headOf c)

theorem centred_fine {f : Fin 1024 → EReal} (hf : ∀ k, Fine (f k)) (c : Fin 1024) : Fine (centred f c) :=
  (hf c).sub ((Fine.headSum hf _).mul ⟨_, Cert.Consts.c64th⟩)

/-- One channel of the recurrence's outputs made ready for the projection: normalised over its head, with the bonus, times the gate. -/
def outRow (y r k v g lw lb rk : Fin 1024 → EReal) (c : Fin 1024) : EReal :=
  (centred y c * Ideal.rsqrt (spreadOf y c * Ideal.ofBits .f32 0x3C800000#32 + Ideal.ofBits .f32 0x3A27C5AC#32) * lw c + lb c
    + headSum (fun k' => r k' * k k' * rk k') (headOf c) * v c) * g c

section Payloads

variable {v7 v28 v70 : Vec Ideal S2048x16 .bf16} {v17 v38 v80 : Vec Ideal S48x1024 .bf16}

/-- The centred row. -/
theorem pay2_apply (h7 : Gathers fun k j => v7 (ix2 k j)) (h17 : Spreads fun x c => v17 (ix2 x c))
    (v0 : Vec Ideal S1x256x1024 .f32) (r : Fin 256) (hf : ∀ k, Fine (v0 (ix3 0 r k))) (c : Fin 1024) :
    k0_pay2 v0 v7 v17 (ix2 r c) = centred (fun k => v0 (ix3 0 r k)) c := by
  pointwise [k0_pay2]
  simp only [gather hf h7]
  rw [spread (fun j => Fine.headSum hf j) h17]
  rfl

/-- The heads' sums of the centred squares, spread over the channels. -/
theorem pay3_apply (h7 : Gathers fun k j => v7 (ix2 k j)) (h17 : Spreads fun x c => v17 (ix2 x c))
    (h28 : Gathers fun k j => v28 (ix2 k j)) (h38 : Spreads fun x c => v38 (ix2 x c))
    (v0 : Vec Ideal S1x256x1024 .f32) (r : Fin 256) (hf : ∀ k, Fine (v0 (ix3 0 r k))) (c : Fin 1024) :
    k0_pay3 v0 v7 v17 v28 v38 (ix2 r c) = spreadOf (fun k => v0 (ix3 0 r k)) c := by
  pointwise [k0_pay3]
  simp only [pay2_apply h7 h17 v0 r hf]
  have hq : ∀ k, Fine (centred (fun k => v0 (ix3 0 r k)) k * centred (fun k => v0 (ix3 0 r k)) k) :=
    fun k => (centred_fine hf k).mul (centred_fine hf k)
  simp only [gather hq h28]
  rw [spread (fun j => Fine.headSum hq j) h38]
  rfl

/-- One output number of a point. -/
theorem out_apply (x0 x1 x2 x3 x4 : Vec Ideal S1x256x1024 .f32) (x5 x6 x7 : Vec Ideal S1x1024 .f32) (x8 : Vec Ideal S2048x16 .bf16)
    (x9 : Vec Ideal S48x1024 .bf16) (x10 : Vec Ideal S1024x1024 .bf16) (x11 : Vec Ideal S1x256x1024 .f32) (x12 : Vec Ideal S1x1x1x1024 .f32)
    (h8 : Gathers fun k j => x8 (ix2 k j)) (h9 : Spreads fun x c => x9 (ix2 x c)) (r : Fin 256) (hy : ∀ k, Fine (x0 (ix3 0 r k)))
    (hb : ∀ k, Fine (x1 (ix3 0 r k) * x2 (ix3 0 r k) * x7 (ix2 0 k))) (d : Fin 1024) :
    out0_13 x0 x1 x2 x3 x4 x5 x6 x7 x8 x9 x10 x11 x12 (ix3 0 r d)
      = x11 (ix3 0 r d) + x12 (ix4 0 0 0 d) * ∑ c, outRow (fun k => x0 (ix3 0 r k)) (fun k => x1 (ix3 0 r k)) (fun k => x2 (ix3 0 r k))
          (fun k => x3 (ix3 0 r k)) (fun k => x4 (ix3 0 r k)) (fun k => x5 (ix2 0 k)) (fun k => x6 (ix2 0 k)) (fun k => x7 (ix2 0 k)) c
          * x10 (ix2 c d) := by
  unfold out0_13
  frame_out
  pointwise [k0_pay1, k0_pay4, k0_pay5, k0_pay6, k0_pay7]
  simp only [pay2_apply h8 h9 x0 r hy, pay3_apply h8 h9 h8 h9 x0 r hy, gather hb h8]
  simp only [spread (fun j => Fine.headSum hb j) h9, outRow]

end Payloads

end Cert.RwkvOutBlock

end
-- ==== Proof.RwkvOutLit.lean ====
module

public import proofs.«01_k».proof.Proof.Gen.Kernel5Ideal
public import Mathlib.Tactic.IntervalCases

/-! The two indicator matrices that the recurrence's output call is handed as constants, entry by entry. -/

@[expose] public section

namespace Cert.RwkvOutLit

open Cert.Kernel5Ideal

/-- A table of 128 entries, read at an index modulo 128. -/
theorem of_table (f g : ℕ → BitVec 16) (hm : ∀ i, f i = f (i % 128)) (h : ∀ k : Fin 128, f k.val = g k.val) (i : ℕ) :
    f i = g (i % 128) :=
  (hm i).trans (h ⟨i % 128, Nat.mod_lt _ (by decide)⟩)

/-- Eight rows of the first matrix whose channels belong to head `j`. -/
def rows (j : ℕ) (i : ℕ) : BitVec 16 := if i % 16 = j then 0x3F80#16 else 0x0000#16

/-- A stretch of 128 entries of the second matrix: the first (`0`) or the second (`1`) half of them ones, or (`2`) none. -/
def half (j : ℕ) (i : ℕ) : BitVec 16 := if i / 64 = j then 0x3F80#16 else 0x0000#16

/-- A stretch of the second matrix lies where its place in the row says. -/
theorem half_col (c j q p i : ℕ) (e : i / 128 = 8 * p + q) (hq : q < 8) (hc : ∀ x : Fin 2, x.val = c ↔ 2 * q + x.val = j) :
    half c (i % 128) = if i % 1024 / 64 = j then 0x3F80#16 else 0x0000#16 := by
  unfold half
  rw [show i % 1024 / 64 = 2 * q + i % 128 / 64 by omega]
  exact if_congr (hc ⟨i % 128 / 64, by omega⟩) rfl rfl

theorem rows_0 (i : ℕ) : lit0t0_0 i = rows 0 (i % 128) :=
  of_table lit0t0_0 (rows 0) (fun i => by unfold lit0t0_0; rw [Nat.mod_mod]) (by decide +kernel) i

theorem rows_1 (i : ℕ) : lit0t0_8 i = rows 1 (i % 128) :=
  of_table lit0t0_8 (rows 1) (fun i => by unfold lit0t0_8; rw [Nat.mod_mod]) (by decide +kernel) i

theorem rows_2 (i : ℕ) : lit0t0_16 i = rows 2 (i % 128) :=
  of_table lit0t0_16 (rows 2) (fun i => by unfold lit0t0_16; rw [Nat.mod_mod]) (by decide +kernel) i

theorem rows_3 (i : ℕ) : lit0t0_24 i = rows 3 (i % 128) :=
  of_table lit0t0_24 (rows 3) (fun i => by unfold lit0t0_24; rw [Nat.mod_mod]) (by decide +kernel) i

theorem rows_4 (i : ℕ) : lit0t0_32 i = rows 4 (i % 128) :=
  of_table lit0t0_32 (rows 4) (fun i => by unfold lit0t0_32; rw [Nat.mod_mod]) (by decide +kernel) i

theorem rows_5 (i : ℕ) : lit0t0_40 i = rows 5 (i % 128) :=
  of_table lit0t0_40 (rows 5) (fun i => by unfold lit0t0_40; rw [Nat.mod_mod]) (by decide +kernel) i

theorem rows_6 (i : ℕ) : lit0t0_48 i = rows 6 (i % 128) :=
  of_table lit0t0_48 (rows 6) (fun i => by unfold lit0t0_48; rw [Nat.mod_mod]) (by decide +kernel) i

theorem rows_7 (i : ℕ) : lit0t0_56 i = rows 7 (i % 128) :=
  of_table lit0t0_56 (rows 7) (fun i => by unfold lit0t0_56; rw [Nat.mod_mod]) (by decide +kernel) i

theorem rows_8 (i : ℕ) : lit0t0_64 i = rows 8 (i % 128) :=
  of_table lit0t0_64 (rows 8) (fun i => by unfold lit0t0_64; rw [Nat.mod_mod]) (by decide +kernel) i

theorem rows_9 (i : ℕ) : lit0t0_72 i = rows 9 (i % 128) :=
  of_table lit0t0_72 (rows 9) (fun i => by unfold lit0t0_72; rw [Nat.mod_mod]) (by decide +kernel) i

theorem rows_10 (i : ℕ) : lit0t0_80 i = rows 10 (i % 128) :=
  of_table lit0t0_80 (rows 10) (fun i => by unfold lit0t0_80; rw [Nat.mod_mod]) (by decide +kernel) i

theorem rows_11 (i : ℕ) : lit0t0_88 i = rows 11 (i % 128) :=
  of_table lit0t0_88 (rows 11) (fun i => by unfold lit0t0_88; rw [Nat.mod_mod]) (by decide +kernel) i

theorem rows_12 (i : ℕ) : lit0t0_96 i = rows 12 (i % 128) :=
  of_table lit0t0_96 (rows 12) (fun i => by unfold lit0t0_96; rw [Nat.mod_mod]) (by decide +kernel) i

theorem rows_13 (i : ℕ) : lit0t0_104 i = rows 13 (i % 128) :=
  of_table lit0t0_104 (rows 13) (fun i => by unfold lit0t0_104; rw [Nat.mod_mod]) (by decide +kernel) i

theorem rows_14 (i : ℕ) : lit0t0_112 i = rows 14 (i % 128) :=
  of_table lit0t0_112 (rows 14) (fun i => by unfold lit0t0_112; rw [Nat.mod_mod]) (by decide +kernel) i

theorem rows_15 (i : ℕ) : lit0t0_120 i = rows 15 (i % 128) :=
  of_table lit0t0_120 (rows 15) (fun i => by unfold lit0t0_120; rw [Nat.mod_mod]) (by decide +kernel) i

theorem half_0 (i : ℕ) : lit1t0_0 i = half 0 (i % 128) :=
  of_table lit1t0_0 (half 0) (fun i => by unfold lit1t0_0; rw [Nat.mod_mod]) (by decide +kernel) i

theorem half_1 (i : ℕ) : lit1t0_8 i = half 1 (i % 128) :=
  of_table lit1t0_8 (half 1) (fun i => by unfold lit1t0_8; rw [Nat.mod_mod]) (by decide +kernel) i

theorem half_2 (i : ℕ) : lit1t0_1 i = half 2 (i % 128) :=
  of_table lit1t0_1 (half 2) (fun i => by unfold lit1t0_1; rw [Nat.mod_mod]) (by decide +kernel) i

theorem first_0 (i : ℕ) (h : i / 1024 = 0) : lit0t i = rows 0 (i % 128) := by
  have e : i / 128 = 0 ∨ i / 128 = 1 ∨ i / 128 = 2 ∨ i / 128 = 3 ∨ i / 128 = 4 ∨ i / 128 = 5 ∨ i / 128 = 6 ∨ i / 128 = 7 := by
    omega
  unfold lit0t
  rw [show i / 16384 = 0 by omega]
  rcases e with e | e | e | e | e | e | e | e <;> (show lit0t1_0 i = _; unfold lit0t1_0; rw [e]; exact rows_0 i)

theorem first_1 (i : ℕ) (h : i / 1024 = 1) : lit0t i = rows 1 (i % 128) := by
  have e : i / 128 = 8 ∨ i / 128 = 9 ∨ i / 128 = 10 ∨ i / 128 = 11 ∨ i / 128 = 12 ∨ i / 128 = 13 ∨ i / 128 = 14 ∨ i / 128 = 15 := by
    omega
  unfold lit0t
  rw [show i / 16384 = 0 by omega]
  rcases e with e | e | e | e | e | e | e | e <;> (show lit0t1_0 i = _; unfold lit0t1_0; rw [e]; exact rows_1 i)

theorem first_2 (i : ℕ) (h : i / 1024 = 2) : lit0t i = rows 2 (i % 128) := by
  have e : i / 128 = 16 ∨ i / 128 = 17 ∨ i / 128 = 18 ∨ i / 128 = 19 ∨ i / 128 = 20 ∨ i / 128 = 21 ∨ i / 128 = 22 ∨ i / 128 = 23 := by
    omega
  unfold lit0t
  rw [show i / 16384 = 0 by omega]
  rcases e with e | e | e | e | e | e | e | e <;> (show lit0t1_0 i = _; unfold lit0t1_0; rw [e]; exact rows_2 i)

theorem first_3 (i : ℕ) (h : i / 1024 = 3) : lit0t i = rows 3 (i % 128) := by
  have e : i / 128 = 24 ∨ i / 128 = 25 ∨ i / 128 = 26 ∨ i / 128 = 27 ∨ i / 128 = 28 ∨ i / 128 = 29 ∨ i / 128 = 30 ∨ i / 128 = 31 := by
    omega
  unfold lit0t
  rw [show i / 16384 = 0 by omega]
  rcases e with e | e | e | e | e | e | e | e <;> (show lit0t1_0 i = _; unfold lit0t1_0; rw [e]; exact rows_3 i)

theorem first_4 (i : ℕ) (h : i / 1024 = 4) : lit0t i = rows 4 (i % 128) := by
  have e : i / 128 = 32 ∨ i / 128 = 33 ∨ i / 128 = 34 ∨ i / 128 = 35 ∨ i / 128 = 36 ∨ i / 128 = 37 ∨ i / 128 = 38 ∨ i / 128 = 39 := by
    omega
  unfold lit0t
  rw [show i / 16384 = 0 by omega]
  rcases e with e | e | e | e | e | e | e | e <;> (show lit0t1_0 i = _; unfold lit0t1_0; rw [e]; exact rows_4 i)

theorem first_5 (i : ℕ) (h : i / 1024 = 5) : lit0t i = rows 5 (i % 128) := by
  have e : i / 128 = 40 ∨ i / 128 = 41 ∨ i / 128 = 42 ∨ i / 128 = 43 ∨ i / 128 = 44 ∨ i / 128 = 45 ∨ i / 128 = 46 ∨ i / 128 = 47 := by
    omega
  unfold lit0t
  rw [show i / 16384 = 0 by omega]
  rcases e with e | e | e | e | e | e | e | e <;> (show lit0t1_0 i = _; unfold lit0t1_0; rw [e]; exact rows_5 i)

theorem first_6 (i : ℕ) (h : i / 1024 = 6) : lit0t i = rows 6 (i % 128) := by
  have e : i / 128 = 48 ∨ i / 128 = 49 ∨ i / 128 = 50 ∨ i / 128 = 51 ∨ i / 128 = 52 ∨ i / 128 = 53 ∨ i / 128 = 54 ∨ i / 128 = 55 := by
    omega
  unfold lit0t
  rw [show i / 16384 = 0 by omega]
  rcases e with e | e | e | e | e | e | e | e <;> (show lit0t1_0 i = _; unfold lit0t1_0; rw [e]; exact rows_6 i)

theorem first_7 (i : ℕ) (h : i / 1024 = 7) : lit0t i = rows 7 (i % 128) := by
  have e : i / 128 = 56 ∨ i / 128 = 57 ∨ i / 128 = 58 ∨ i / 128 = 59 ∨ i / 128 = 60 ∨ i / 128 = 61 ∨ i / 128 = 62 ∨ i / 128 = 63 := by
    omega
  unfold lit0t
  rw [show i / 16384 = 0 by omega]
  rcases e with e | e | e | e | e | e | e | e <;> (show lit0t1_0 i = _; unfold lit0t1_0; rw [e]; exact rows_7 i)

theorem first_8 (i : ℕ) (h : i / 1024 = 8) : lit0t i = rows 8 (i % 128) := by
  have e : i / 128 = 64 ∨ i / 128 = 65 ∨ i / 128 = 66 ∨ i / 128 = 67 ∨ i / 128 = 68 ∨ i / 128 = 69 ∨ i / 128 = 70 ∨ i / 128 = 71 := by
    omega
  unfold lit0t
  rw [show i / 16384 = 0 by omega]
  rcases e with e | e | e | e | e | e | e | e <;> (show lit0t1_0 i = _; unfold lit0t1_0; rw [e]; exact rows_8 i)

theorem first_9 (i : ℕ) (h : i / 1024 = 9) : lit0t i = rows 9 (i % 128) := by
  have e : i / 128 = 72 ∨ i / 128 = 73 ∨ i / 128 = 74 ∨ i / 128 = 75 ∨ i / 128 = 76 ∨ i / 128 = 77 ∨ i / 128 = 78 ∨ i / 128 = 79 := by
    omega
  unfold lit0t
  rw [show i / 16384 = 0 by omega]
  rcases e with e | e | e | e | e | e | e | e <;> (show lit0t1_0 i = _; unfold lit0t1_0; rw [e]; exact rows_9 i)

theorem first_10 (i : ℕ) (h : i / 1024 = 10) : lit0t i = rows 10 (i % 128) := by
  have e : i / 128 = 80 ∨ i / 128 = 81 ∨ i / 128 = 82 ∨ i / 128 = 83 ∨ i / 128 = 84 ∨ i / 128 = 85 ∨ i / 128 = 86 ∨ i / 128 = 87 := by
    omega
  unfold lit0t
  rw [show i / 16384 = 0 by omega]
  rcases e with e | e | e | e | e | e | e | e <;> (show lit0t1_0 i = _; unfold lit0t1_0; rw [e]; exact rows_10 i)

theorem first_11 (i : ℕ) (h : i / 1024 = 11) : lit0t i = rows 11 (i % 128) := by
  have e : i / 128 = 88 ∨ i / 128 = 89 ∨ i / 128 = 90 ∨ i / 128 = 91 ∨ i / 128 = 92 ∨ i / 128 = 93 ∨ i / 128 = 94 ∨ i / 128 = 95 := by
    omega
  unfold lit0t
  rw [show i / 16384 = 0 by omega]
  rcases e with e | e | e | e | e | e | e | e <;> (show lit0t1_0 i = _; unfold lit0t1_0; rw [e]; exact rows_11 i)

theorem first_12 (i : ℕ) (h : i / 1024 = 12) : lit0t i = rows 12 (i % 128) := by
  have e : i / 128 = 96 ∨ i / 128 = 97 ∨ i / 128 = 98 ∨ i / 128 = 99 ∨ i / 128 = 100 ∨ i / 128 = 101 ∨ i / 128 = 102 ∨ i / 128 = 103 := by
    omega
  unfold lit0t
  rw [show i / 16384 = 0 by omega]
  rcases e with e | e | e | e | e | e | e | e <;> (show lit0t1_0 i = _; unfold lit0t1_0; rw [e]; exact rows_12 i)

theorem first_13 (i : ℕ) (h : i / 1024 = 13) : lit0t i = rows 13 (i % 128) := by
  have e : i / 128 = 104 ∨ i / 128 = 105 ∨ i / 128 = 106 ∨ i / 128 = 107 ∨ i / 128 = 108 ∨ i / 128 = 109 ∨ i / 128 = 110 ∨ i / 128 = 111 := by
    omega
  unfold lit0t
  rw [show i / 16384 = 0 by omega]
  rcases e with e | e | e | e | e | e | e | e <;> (show lit0t1_0 i = _; unfold lit0t1_0; rw [e]; exact rows_13 i)

theorem first_14 (i : ℕ) (h : i / 1024 = 14) : lit0t i = rows 14 (i % 128) := by
  have e : i / 128 = 112 ∨ i / 128 = 113 ∨ i / 128 = 114 ∨ i / 128 = 115 ∨ i / 128 = 116 ∨ i / 128 = 117 ∨ i / 128 = 118 ∨ i / 128 = 119 := by
    omega
  unfold lit0t
  rw [show i / 16384 = 0 by omega]
  rcases e with e | e | e | e | e | e | e | e <;> (show lit0t1_0 i = _; unfold lit0t1_0; rw [e]; exact rows_14 i)

theorem first_15 (i : ℕ) (h : i / 1024 = 15) : lit0t i = rows 15 (i % 128) := by
  have e : i / 128 = 120 ∨ i / 128 = 121 ∨ i / 128 = 122 ∨ i / 128 = 123 ∨ i / 128 = 124 ∨ i / 128 = 125 ∨ i / 128 = 126 ∨ i / 128 = 127 := by
    omega
  unfold lit0t
  rw [show i / 16384 = 0 by omega]
  rcases e with e | e | e | e | e | e | e | e <;> (show lit0t1_0 i = _; unfold lit0t1_0; rw [e]; exact rows_15 i)

theorem first_16 (i : ℕ) (h : i / 1024 = 16) : lit0t i = rows 0 (i % 128) := by
  have e : i / 128 = 128 ∨ i / 128 = 129 ∨ i / 128 = 130 ∨ i / 128 = 131 ∨ i / 128 = 132 ∨ i / 128 = 133 ∨ i / 128 = 134 ∨ i / 128 = 135 := by
    omega
  unfold lit0t
  rw [show i / 16384 = 1 by omega]
  rcases e with e | e | e | e | e | e | e | e <;> (show lit0t1_1 i = _; unfold lit0t1_1; rw [e]; exact rows_0 i)

theorem first_17 (i : ℕ) (h : i / 1024 = 17) : lit0t i = rows 1 (i % 128) := by
  have e : i / 128 = 136 ∨ i / 128 = 137 ∨ i / 128 = 138 ∨ i / 128 = 139 ∨ i / 128 = 140 ∨ i / 128 = 141 ∨ i / 128 = 142 ∨ i / 128 = 143 := by
    omega
  unfold lit0t
  rw [show i / 16384 = 1 by omega]
  rcases e with e | e | e | e | e | e | e | e <;> (show lit0t1_1 i = _; unfold lit0t1_1; rw [e]; exact rows_1 i)

theorem first_18 (i : ℕ) (h : i / 1024 = 18) : lit0t i = rows 2 (i % 128) := by
  have e : i / 128 = 144 ∨ i / 128 = 145 ∨ i / 128 = 146 ∨ i / 128 = 147 ∨ i / 128 = 148 ∨ i / 128 = 149 ∨ i / 128 = 150 ∨ i / 128 = 151 := by
    omega
  unfold lit0t
  rw [show i / 16384 = 1 by omega]
  rcases e with e | e | e | e | e | e | e | e <;> (show lit0t1_1 i = _; unfold lit0t1_1; rw [e]; exact rows_2 i)

theorem first_19 (i : ℕ) (h : i / 1024 = 19) : lit0t i = rows 3 (i % 128) := by
  have e : i / 128 = 152 ∨ i / 128 = 153 ∨ i / 128 = 154 ∨ i / 128 = 155 ∨ i / 128 = 156 ∨ i / 128 = 157 ∨ i / 128 = 158 ∨ i / 128 = 159 := by
    omega
  unfold lit0t
  rw [show i / 16384 = 1 by omega]
  rcases e with e | e | e | e | e | e | e | e <;> (show lit0t1_1 i = _; unfold lit0t1_1; rw [e]; exact rows_3 i)

theorem first_20 (i : ℕ) (h : i / 1024 = 20) : lit0t i = rows 4 (i % 128) := by
  have e : i / 128 = 160 ∨ i / 128 = 161 ∨ i / 128 = 162 ∨ i / 128 = 163 ∨ i / 128 = 164 ∨ i / 128 = 165 ∨ i / 128 = 166 ∨ i / 128 = 167 := by
    omega
  unfold lit0t
  rw [show i / 16384 = 1 by omega]
  rcases e with e | e | e | e | e | e | e | e <;> (show lit0t1_1 i = _; unfold lit0t1_1; rw [e]; exact rows_4 i)

theorem first_21 (i : ℕ) (h : i / 1024 = 21) : lit0t i = rows 5 (i % 128) := by
  have e : i / 128 = 168 ∨ i / 128 = 169 ∨ i / 128 = 170 ∨ i / 128 = 171 ∨ i / 128 = 172 ∨ i / 128 = 173 ∨ i / 128 = 174 ∨ i / 128 = 175 := by
    omega
  unfold lit0t
  rw [show i / 16384 = 1 by omega]
  rcases e with e | e | e | e | e | e | e | e <;> (show lit0t1_1 i = _; unfold lit0t1_1; rw [e]; exact rows_5 i)

theorem first_22 (i : ℕ) (h : i / 1024 = 22) : lit0t i = rows 6 (i % 128) := by
  have e : i / 128 = 176 ∨ i / 128 = 177 ∨ i / 128 = 178 ∨ i / 128 = 179 ∨ i / 128 = 180 ∨ i / 128 = 181 ∨ i / 128 = 182 ∨ i / 128 = 183 := by
    omega
  unfold lit0t
  rw [show i / 16384 = 1 by omega]
  rcases e with e | e | e | e | e | e | e | e <;> (show lit0t1_1 i = _; unfold lit0t1_1; rw [e]; exact rows_6 i)

theorem first_23 (i : ℕ) (h : i / 1024 = 23) : lit0t i = rows 7 (i % 128) := by
  have e : i / 128 = 184 ∨ i / 128 = 185 ∨ i / 128 = 186 ∨ i / 128 = 187 ∨ i / 128 = 188 ∨ i / 128 = 189 ∨ i / 128 = 190 ∨ i / 128 = 191 := by
    omega
  unfold lit0t
  rw [show i / 16384 = 1 by omega]
  rcases e with e | e | e | e | e | e | e | e <;> (show lit0t1_1 i = _; unfold lit0t1_1; rw [e]; exact rows_7 i)

theorem first_24 (i : ℕ) (h : i / 1024 = 24) : lit0t i = rows 8 (i % 128) := by
  have e : i / 128 = 192 ∨ i / 128 = 193 ∨ i / 128 = 194 ∨ i / 128 = 195 ∨ i / 128 = 196 ∨ i / 128 = 197 ∨ i / 128 = 198 ∨ i / 128 = 199 := by
    omega
  unfold lit0t
  rw [show i / 16384 = 1 by omega]
  rcases e with e | e | e | e | e | e | e | e <;> (show lit0t1_1 i = _; unfold lit0t1_1; rw [e]; exact rows_8 i)

theorem first_25 (i : ℕ) (h : i / 1024 = 25) : lit0t i = rows 9 (i % 128) := by
  have e : i / 128 = 200 ∨ i / 128 = 201 ∨ i / 128 = 202 ∨ i / 128 = 203 ∨ i / 128 = 204 ∨ i / 128 = 205 ∨ i / 128 = 206 ∨ i / 128 = 207 := by
    omega
  unfold lit0t
  rw [show i / 16384 = 1 by omega]
  rcases e with e | e | e | e | e | e | e | e <;> (show lit0t1_1 i = _; unfold lit0t1_1; rw [e]; exact rows_9 i)

theorem first_26 (i : ℕ) (h : i / 1024 = 26) : lit0t i = rows 10 (i % 128) := by
  have e : i / 128 = 208 ∨ i / 128 = 209 ∨ i / 128 = 210 ∨ i / 128 = 211 ∨ i / 128 = 212 ∨ i / 128 = 213 ∨ i / 128 = 214 ∨ i / 128 = 215 := by
    omega
  unfold lit0t
  rw [show i / 16384 = 1 by omega]
  rcases e with e | e | e | e | e | e | e | e <;> (show lit0t1_1 i = _; unfold lit0t1_1; rw [e]; exact rows_10 i)

theorem first_27 (i : ℕ) (h : i / 1024 = 27) : lit0t i = rows 11 (i % 128) := by
  have e : i / 128 = 216 ∨ i / 128 = 217 ∨ i / 128 = 218 ∨ i / 128 = 219 ∨ i / 128 = 220 ∨ i / 128 = 221 ∨ i / 128 = 222 ∨ i / 128 = 223 := by
    omega
  unfold lit0t
  rw [show i / 16384 = 1 by omega]
  rcases e with e | e | e | e | e | e | e | e <;> (show lit0t1_1 i = _; unfold lit0t1_1; rw [e]; exact rows_11 i)

theorem first_28 (i : ℕ) (h : i / 1024 = 28) : lit0t i = rows 12 (i % 128) := by
  have e : i / 128 = 224 ∨ i / 128 = 225 ∨ i / 128 = 226 ∨ i / 128 = 227 ∨ i / 128 = 228 ∨ i / 128 = 229 ∨ i / 128 = 230 ∨ i / 128 = 231 := by
    omega
  unfold lit0t
  rw [show i / 16384 = 1 by omega]
  rcases e with e | e | e | e | e | e | e | e <;> (show lit0t1_1 i = _; unfold lit0t1_1; rw [e]; exact rows_12 i)

theorem first_29 (i : ℕ) (h : i / 1024 = 29) : lit0t i = rows 13 (i % 128) := by
  have e : i / 128 = 232 ∨ i / 128 = 233 ∨ i / 128 = 234 ∨ i / 128 = 235 ∨ i / 128 = 236 ∨ i / 128 = 237 ∨ i / 128 = 238 ∨ i / 128 = 239 := by
    omega
  unfold lit0t
  rw [show i / 16384 = 1 by omega]
  rcases e with e | e | e | e | e | e | e | e <;> (show lit0t1_1 i = _; unfold lit0t1_1; rw [e]; exact rows_13 i)

theorem first_30 (i : ℕ) (h : i / 1024 = 30) : lit0t i = rows 14 (i % 128) := by
  have e : i / 128 = 240 ∨ i / 128 = 241 ∨ i / 128 = 242 ∨ i / 128 = 243 ∨ i / 128 = 244 ∨ i / 128 = 245 ∨ i / 128 = 246 ∨ i / 128 = 247 := by
    omega
  unfold lit0t
  rw [show i / 16384 = 1 by omega]
  rcases e with e | e | e | e | e | e | e | e <;> (show lit0t1_1 i = _; unfold lit0t1_1; rw [e]; exact rows_14 i)

theorem first_31 (i : ℕ) (h : i / 1024 = 31) : lit0t i = rows 15 (i % 128) := by
  have e : i / 128 = 248 ∨ i / 128 = 249 ∨ i / 128 = 250 ∨ i / 128 = 251 ∨ i / 128 = 252 ∨ i / 128 = 253 ∨ i / 128 = 254 ∨ i / 128 = 255 := by
    omega
  unfold lit0t
  rw [show i / 16384 = 1 by omega]
  rcases e with e | e | e | e | e | e | e | e <;> (show lit0t1_1 i = _; unfold lit0t1_1; rw [e]; exact rows_15 i)

theorem second_0 (i : ℕ) (h : i / 1024 = 0) : lit1t i = if i % 1024 / 64 = 0 then 0x3F80#16 else 0x0000#16 := by
  have e : i / 128 = 0 ∨ i / 128 = 1 ∨ i / 128 = 2 ∨ i / 128 = 3 ∨ i / 128 = 4 ∨ i / 128 = 5 ∨ i / 128 = 6 ∨ i / 128 = 7 := by
    omega
  unfold lit1t
  rw [show i / 16384 = 0 by omega]
  rcases e with e | e | e | e | e | e | e | e
  · show lit1t1_0 i = _; unfold lit1t1_0; rw [e]; exact (half_0 i).trans (half_col 0 0 0 0 i e (by decide) (by decide))
  · show lit1t1_0 i = _; unfold lit1t1_0; rw [e]; exact (half_2 i).trans (half_col 2 0 1 0 i e (by decide) (by decide))
  · show lit1t1_0 i = _; unfold lit1t1_0; rw [e]; exact (half_2 i).trans (half_col 2 0 2 0 i e (by decide) (by decide))
  · show lit1t1_0 i = _; unfold lit1t1_0; rw [e]; exact (half_2 i).trans (half_col 2 0 3 0 i e (by decide) (by decide))
  · show lit1t1_0 i = _; unfold lit1t1_0; rw [e]; exact (half_2 i).trans (half_col 2 0 4 0 i e (by decide) (by decide))
  · show lit1t1_0 i = _; unfold lit1t1_0; rw [e]; exact (half_2 i).trans (half_col 2 0 5 0 i e (by decide) (by decide))
  · show lit1t1_0 i = _; unfold lit1t1_0; rw [e]; exact (half_2 i).trans (half_col 2 0 6 0 i e (by decide) (by decide))
  · show lit1t1_0 i = _; unfold lit1t1_0; rw [e]; exact (half_2 i).trans (half_col 2 0 7 0 i e (by decide) (by decide))

theorem second_1 (i : ℕ) (h : i / 1024 = 1) : lit1t i = if i % 1024 / 64 = 1 then 0x3F80#16 else 0x0000#16 := by
  have e : i / 128 = 8 ∨ i / 128 = 9 ∨ i / 128 = 10 ∨ i / 128 = 11 ∨ i / 128 = 12 ∨ i / 128 = 13 ∨ i / 128 = 14 ∨ i / 128 = 15 := by
    omega
  unfold lit1t
  rw [show i / 16384 = 0 by omega]
  rcases e with e | e | e | e | e | e | e | e
  · show lit1t1_0 i = _; unfold lit1t1_0; rw [e]; exact (half_1 i).trans (half_col 1 1 0 1 i e (by decide) (by decide))
  · show lit1t1_0 i = _; unfold lit1t1_0; rw [e]; exact (half_2 i).trans (half_col 2 1 1 1 i e (by decide) (by decide))
  · show lit1t1_0 i = _; unfold lit1t1_0; rw [e]; exact (half_2 i).trans (half_col 2 1 2 1 i e (by decide) (by decide))
  · show lit1t1_0 i = _; unfold lit1t1_0; rw [e]; exact (half_2 i).trans (half_col 2 1 3 1 i e (by decide) (by decide))
  · show lit1t1_0 i = _; unfold lit1t1_0; rw [e]; exact (half_2 i).trans (half_col 2 1 4 1 i e (by decide) (by decide))
  · show lit1t1_0 i = _; unfold lit1t1_0; rw [e]; exact (half_2 i).trans (half_col 2 1 5 1 i e (by decide) (by decide))
  · show lit1t1_0 i = _; unfold lit1t1_0; rw [e]; exact (half_2 i).trans (half_col 2 1 6 1 i e (by decide) (by decide))
  · show lit1t1_0 i = _; unfold lit1t1_0; rw [e]; exact (half_2 i).trans (half_col 2 1 7 1 i e (by decide) (by decide))

theorem second_2 (i : ℕ) (h : i / 1024 = 2) : lit1t i = if i % 1024 / 64 = 2 then 0x3F80#16 else 0x0000#16 := by
  have e : i / 128 = 16 ∨ i / 128 = 17 ∨ i / 128 = 18 ∨ i / 128 = 19 ∨ i / 128 = 20 ∨ i / 128 = 21 ∨ i / 128 = 22 ∨ i / 128 = 23 := by
    omega
  unfold lit1t
  rw [show i / 16384 = 0 by omega]
  rcases e with e | e | e | e | e | e | e | e
  · show lit1t1_0 i = _; unfold lit1t1_0; rw [e]; exact (half_2 i).trans (half_col 2 2 0 2 i e (by decide) (by decide))
  · show lit1t1_0 i = _; unfold lit1t1_0; rw [e]; exact (half_0 i).trans (half_col 0 2 1 2 i e (by decide) (by decide))
  · show lit1t1_0 i = _; unfold lit1t1_0; rw [e]; exact (half_2 i).trans (half_col 2 2 2 2 i e (by decide) (by decide))
  · show lit1t1_0 i = _; unfold lit1t1_0; rw [e]; exact (half_2 i).trans (half_col 2 2 3 2 i e (by decide) (by decide))
  · show lit1t1_0 i = _; unfold lit1t1_0; rw [e]; exact (half_2 i).trans (half_col 2 2 4 2 i e (by decide) (by decide))
  · show lit1t1_0 i = _; unfold lit1t1_0; rw [e]; exact (half_2 i).trans (half_col 2 2 5 2 i e (by decide) (by decide))
  · show lit1t1_0 i = _; unfold lit1t1_0; rw [e]; exact (half_2 i).trans (half_col 2 2 6 2 i e (by decide) (by decide))
  · show lit1t1_0 i = _; unfold lit1t1_0; rw [e]; exact (half_2 i).trans (half_col 2 2 7 2 i e (by decide) (by decide))

theorem second_3 (i : ℕ) (h : i / 1024 = 3) : lit1t i = if i % 1024 / 64 = 3 then 0x3F80#16 else 0x0000#16 := by
  have e : i / 128 = 24 ∨ i / 128 = 25 ∨ i / 128 = 26 ∨ i / 128 = 27 ∨ i / 128 = 28 ∨ i / 128 = 29 ∨ i / 128 = 30 ∨ i / 128 = 31 := by
    omega
  unfold lit1t
  rw [show i / 16384 = 0 by omega]
  rcases e with e | e | e | e | e | e | e | e
  · show lit1t1_0 i = _; unfold lit1t1_0; rw [e]; exact (half_2 i).trans (half_col 2 3 0 3 i e (by decide) (by decide))
  · show lit1t1_0 i = _; unfold lit1t1_0; rw [e]; exact (half_1 i).trans (half_col 1 3 1 3 i e (by decide) (by decide))
  · show lit1t1_0 i = _; unfold lit1t1_0; rw [e]; exact (half_2 i).trans (half_col 2 3 2 3 i e (by decide) (by decide))
  · show lit1t1_0 i = _; unfold lit1t1_0; rw [e]; exact (half_2 i).trans (half_col 2 3 3 3 i e (by decide) (by decide))
  · show lit1t1_0 i = _; unfold lit1t1_0; rw [e]; exact (half_2 i).trans (half_col 2 3 4 3 i e (by decide) (by decide))
  · show lit1t1_0 i = _; unfold lit1t1_0; rw [e]; exact (half_2 i).trans (half_col 2 3 5 3 i e (by decide) (by decide))
  · show lit1t1_0 i = _; unfold lit1t1_0; rw [e]; exact (half_2 i).trans (half_col 2 3 6 3 i e (by decide) (by decide))
  · show lit1t1_0 i = _; unfold lit1t1_0; rw [e]; exact (half_2 i).trans (half_col 2 3 7 3 i e (by decide) (by decide))

theorem second_4 (i : ℕ) (h : i / 1024 = 4) : lit1t i = if i % 1024 / 64 = 4 then 0x3F80#16 else 0x0000#16 := by
  have e : i / 128 = 32 ∨ i / 128 = 33 ∨ i / 128 = 34 ∨ i / 128 = 35 ∨ i / 128 = 36 ∨ i / 128 = 37 ∨ i / 128 = 38 ∨ i / 128 = 39 := by
    omega
  unfold lit1t
  rw [show i / 16384 = 0 by omega]
  rcases e with e | e | e | e | e | e | e | e
  · show lit1t1_0 i = _; unfold lit1t1_0; rw [e]; exact (half_2 i).trans (half_col 2 4 0 4 i e (by decide) (by decide))
  · show lit1t1_0 i = _; unfold lit1t1_0; rw [e]; exact (half_2 i).trans (half_col 2 4 1 4 i e (by decide) (by decide))
  · show lit1t1_0 i = _; unfold lit1t1_0; rw [e]; exact (half_0 i).trans (half_col 0 4 2 4 i e (by decide) (by decide))
  · show lit1t1_0 i = _; unfold lit1t1_0; rw [e]; exact (half_2 i).trans (half_col 2 4 3 4 i e (by decide) (by decide))
  · show lit1t1_0 i = _; unfold lit1t1_0; rw [e]; exact (half_2 i).trans (half_col 2 4 4 4 i e (by decide) (by decide))
  · show lit1t1_0 i = _; unfold lit1t1_0; rw [e]; exact (half_2 i).trans (half_col 2 4 5 4 i e (by decide) (by decide))
  · show lit1t1_0 i = _; unfold lit1t1_0; rw [e]; exact (half_2 i).trans (half_col 2 4 6 4 i e (by decide) (by decide))
  · show lit1t1_0 i = _; unfold lit1t1_0; rw [e]; exact (half_2 i).trans (half_col 2 4 7 4 i e (by decide) (by decide))

theorem second_5 (i : ℕ) (h : i / 1024 = 5) : lit1t i = if i % 1024 / 64 = 5 then 0x3F80#16 else 0x0000#16 := by
  have e : i / 128 = 40 ∨ i / 128 = 41 ∨ i / 128 = 42 ∨ i / 128 = 43 ∨ i / 128 = 44 ∨ i / 128 = 45 ∨ i / 128 = 46 ∨ i / 128 = 47 := by
    omega
  unfold lit1t
  rw [show i / 16384 = 0 by omega]
  rcases e with e | e | e | e | e | e | e | e
  · show lit1t1_0 i = _; unfold lit1t1_0; rw [e]; exact (half_2 i).trans (half_col 2 5 0 5 i e (by decide) (by decide))
  · show lit1t1_0 i = _; unfold lit1t1_0; rw [e]; exact (half_2 i).trans (half_col 2 5 1 5 i e (by decide) (by decide))
  · show lit1t1_0 i = _; unfold lit1t1_0; rw [e]; exact (half_1 i).trans (half_col 1 5 2 5 i e (by decide) (by decide))
  · show lit1t1_0 i = _; unfold lit1t1_0; rw [e]; exact (half_2 i).trans (half_col 2 5 3 5 i e (by decide) (by decide))
  · show lit1t1_0 i = _; unfold lit1t1_0; rw [e]; exact (half_2 i).trans (half_col 2 5 4 5 i e (by decide) (by decide))
  · show lit1t1_0 i = _; unfold lit1t1_0; rw [e]; exact (half_2 i).trans (half_col 2 5 5 5 i e (by decide) (by decide))
  · show lit1t1_0 i = _; unfold lit1t1_0; rw [e]; exact (half_2 i).trans (half_col 2 5 6 5 i e (by decide) (by decide))
  · show lit1t1_0 i = _; unfold lit1t1_0; rw [e]; exact (half_2 i).trans (half_col 2 5 7 5 i e (by decide) (by decide))

theorem second_6 (i : ℕ) (h : i / 1024 = 6) : lit1t i = if i % 1024 / 64 = 6 then 0x3F80#16 else 0x0000#16 := by
  have e : i / 128 = 48 ∨ i / 128 = 49 ∨ i / 128 = 50 ∨ i / 128 = 51 ∨ i / 128 = 52 ∨ i / 128 = 53 ∨ i / 128 = 54 ∨ i / 128 = 55 := by
    omega
  unfold lit1t
  rw [show i / 16384 = 0 by omega]
  rcases e with e | e | e | e | e | e | e | e
  · show lit1t1_0 i = _; unfold lit1t1_0; rw [e]; exact (half_2 i).trans (half_col 2 6 0 6 i e (by decide) (by decide))
  · show lit1t1_0 i = _; unfold lit1t1_0; rw [e]; exact (half_2 i).trans (half_col 2 6 1 6 i e (by decide) (by decide))
  · show lit1t1_0 i = _; unfold lit1t1_0; rw [e]; exact (half_2 i).trans (half_col 2 6 2 6 i e (by decide) (by decide))
  · show lit1t1_0 i = _; unfold lit1t1_0; rw [e]; exact (half_0 i).trans (half_col 0 6 3 6 i e (by decide) (by decide))
  · show lit1t1_0 i = _; unfold lit1t1_0; rw [e]; exact (half_2 i).trans (half_col 2 6 4 6 i e (by decide) (by decide))
  · show lit1t1_0 i = _; unfold lit1t1_0; rw [e]; exact (half_2 i).trans (half_col 2 6 5 6 i e (by decide) (by decide))
  · show lit1t1_0 i = _; unfold lit1t1_0; rw [e]; exact (half_2 i).trans (half_col 2 6 6 6 i e (by decide) (by decide))
  · show lit1t1_0 i = _; unfold lit1t1_0; rw [e]; exact (half_2 i).trans (half_col 2 6 7 6 i e (by decide) (by decide))

theorem second_7 (i : ℕ) (h : i / 1024 = 7) : lit1t i = if i % 1024 / 64 = 7 then 0x3F80#16 else 0x0000#16 := by
  have e : i / 128 = 56 ∨ i / 128 = 57 ∨ i / 128 = 58 ∨ i / 128 = 59 ∨ i / 128 = 60 ∨ i / 128 = 61 ∨ i / 128 = 62 ∨ i / 128 = 63 := by
    omega
  unfold lit1t
  rw [show i / 16384 = 0 by omega]
  rcases e with e | e | e | e | e | e | e | e
  · show lit1t1_0 i = _; unfold lit1t1_0; rw [e]; exact (half_2 i).trans (half_col 2 7 0 7 i e (by decide) (by decide))
  · show lit1t1_0 i = _; unfold lit1t1_0; rw [e]; exact (half_2 i).trans (half_col 2 7 1 7 i e (by decide) (by decide))
  · show lit1t1_0 i = _; unfold lit1t1_0; rw [e]; exact (half_2 i).trans (half_col 2 7 2 7 i e (by decide) (by decide))
  · show lit1t1_0 i = _; unfold lit1t1_0; rw [e]; exact (half_1 i).trans (half_col 1 7 3 7 i e (by decide) (by decide))
  · show lit1t1_0 i = _; unfold lit1t1_0; rw [e]; exact (half_2 i).trans (half_col 2 7 4 7 i e (by decide) (by decide))
  · show lit1t1_0 i = _; unfold lit1t1_0; rw [e]; exact (half_2 i).trans (half_col 2 7 5 7 i e (by decide) (by decide))
  · show lit1t1_0 i = _; unfold lit1t1_0; rw [e]; exact (half_2 i).trans (half_col 2 7 6 7 i e (by decide) (by decide))
  · show lit1t1_0 i = _; unfold lit1t1_0; rw [e]; exact (half_2 i).trans (half_col 2 7 7 7 i e (by decide) (by decide))

theorem second_8 (i : ℕ) (h : i / 1024 = 8) : lit1t i = if i % 1024 / 64 = 8 then 0x3F80#16 else 0x0000#16 := by
  have e : i / 128 = 64 ∨ i / 128 = 65 ∨ i / 128 = 66 ∨ i / 128 = 67 ∨ i / 128 = 68 ∨ i / 128 = 69 ∨ i / 128 = 70 ∨ i / 128 = 71 := by
    omega
  unfold lit1t
  rw [show i / 16384 = 0 by omega]
  rcases e with e | e | e | e | e | e | e | e
  · show lit1t1_0 i = _; unfold lit1t1_0; rw [e]; exact (half_2 i).trans (half_col 2 8 0 8 i e (by decide) (by decide))
  · show lit1t1_0 i = _; unfold lit1t1_0; rw [e]; exact (half_2 i).trans (half_col 2 8 1 8 i e (by decide) (by decide))
  · show lit1t1_0 i = _; unfold lit1t1_0; rw [e]; exact (half_2 i).trans (half_col 2 8 2 8 i e (by decide) (by decide))
  · show lit1t1_0 i = _; unfold lit1t1_0; rw [e]; exact (half_2 i).trans (half_col 2 8 3 8 i e (by decide) (by decide))
  · show lit1t1_0 i = _; unfold lit1t1_0; rw [e]; exact (half_0 i).trans (half_col 0 8 4 8 i e (by decide) (by decide))
  · show lit1t1_0 i = _; unfold lit1t1_0; rw [e]; exact (half_2 i).trans (half_col 2 8 5 8 i e (by decide) (by decide))
  · show lit1t1_0 i = _; unfold lit1t1_0; rw [e]; exact (half_2 i).trans (half_col 2 8 6 8 i e (by decide) (by decide))
  · show lit1t1_0 i = _; unfold lit1t1_0; rw [e]; exact (half_2 i).trans (half_col 2 8 7 8 i e (by decide) (by decide))

theorem second_9 (i : ℕ) (h : i / 1024 = 9) : lit1t i = if i % 1024 / 64 = 9 then 0x3F80#16 else 0x0000#16 := by
  have e : i / 128 = 72 ∨ i / 128 = 73 ∨ i / 128 = 74 ∨ i / 128 = 75 ∨ i / 128 = 76 ∨ i / 128 = 77 ∨ i / 128 = 78 ∨ i / 128 = 79 := by
    omega
  unfold lit1t
  rw [show i / 16384 = 0 by omega]
  rcases e with e | e | e | e | e | e | e | e
  · show lit1t1_0 i = _; unfold lit1t1_0; rw [e]; exact (half_2 i).trans (half_col 2 9 0 9 i e (by decide) (by decide))
  · show lit1t1_0 i = _; unfold lit1t1_0; rw [e]; exact (half_2 i).trans (half_col 2 9 1 9 i e (by decide) (by decide))
  · show lit1t1_0 i = _; unfold lit1t1_0; rw [e]; exact (half_2 i).trans (half_col 2 9 2 9 i e (by decide) (by decide))
  · show lit1t1_0 i = _; unfold lit1t1_0; rw [e]; exact (half_2 i).trans (half_col 2 9 3 9 i e (by decide) (by decide))
  · show lit1t1_0 i = _; unfold lit1t1_0; rw [e]; exact (half_1 i).trans (half_col 1 9 4 9 i e (by decide) (by decide))
  · show lit1t1_0 i = _; unfold lit1t1_0; rw [e]; exact (half_2 i).trans (half_col 2 9 5 9 i e (by decide) (by decide))
  · show lit1t1_0 i = _; unfold lit1t1_0; rw [e]; exact (half_2 i).trans (half_col 2 9 6 9 i e (by decide) (by decide))
  · show lit1t1_0 i = _; unfold lit1t1_0; rw [e]; exact (half_2 i).trans (half_col 2 9 7 9 i e (by decide) (by decide))

theorem second_10 (i : ℕ) (h : i / 1024 = 10) : lit1t i = if i % 1024 / 64 = 10 then 0x3F80#16 else 0x0000#16 := by
  have e : i / 128 = 80 ∨ i / 128 = 81 ∨ i / 128 = 82 ∨ i / 128 = 83 ∨ i / 128 = 84 ∨ i / 128 = 85 ∨ i / 128 = 86 ∨ i / 128 = 87 := by
    omega
  unfold lit1t
  rw [show i / 16384 = 0 by omega]
  rcases e with e | e | e | e | e | e | e | e
  · show lit1t1_0 i = _; unfold lit1t1_0; rw [e]; exact (half_2 i).trans (half_col 2 10 0 10 i e (by decide) (by decide))
  · show lit1t1_0 i = _; unfold lit1t1_0; rw [e]; exact (half_2 i).trans (half_col 2 10 1 10 i e (by decide) (by decide))
  · show lit1t1_0 i = _; unfold lit1t1_0; rw [e]; exact (half_2 i).trans (half_col 2 10 2 10 i e (by decide) (by decide))
  · show lit1t1_0 i = _; unfold lit1t1_0; rw [e]; exact (half_2 i).trans (half_col 2 10 3 10 i e (by decide) (by decide))
  · show lit1t1_0 i = _; unfold lit1t1_0; rw [e]; exact (half_2 i).trans (half_col 2 10 4 10 i e (by decide) (by decide))
  · show lit1t1_0 i = _; unfold lit1t1_0; rw [e]; exact (half_0 i).trans (half_col 0 10 5 10 i e (by decide) (by decide))
  · show lit1t1_0 i = _; unfold lit1t1_0; rw [e]; exact (half_2 i).trans (half_col 2 10 6 10 i e (by decide) (by decide))
  · show lit1t1_0 i = _; unfold lit1t1_0; rw [e]; exact (half_2 i).trans (half_col 2 10 7 10 i e (by decide) (by decide))

theorem second_11 (i : ℕ) (h : i / 1024 = 11) : lit1t i = if i % 1024 / 64 = 11 then 0x3F80#16 else 0x0000#16 := by
  have e : i / 128 = 88 ∨ i / 128 = 89 ∨ i / 128 = 90 ∨ i / 128 = 91 ∨ i / 128 = 92 ∨ i / 128 = 93 ∨ i / 128 = 94 ∨ i / 128 = 95 := by
    omega
  unfold lit1t
  rw [show i / 16384 = 0 by omega]
  rcases e with e | e | e | e | e | e | e | e
  · show lit1t1_0 i = _; unfold lit1t1_0; rw [e]; exact (half_2 i).trans (half_col 2 11 0 11 i e (by decide) (by decide))
  · show lit1t1_0 i = _; unfold lit1t1_0; rw [e]; exact (half_2 i).trans (half_col 2 11 1 11 i e (by decide) (by decide))
  · show lit1t1_0 i = _; unfold lit1t1_0; rw [e]; exact (half_2 i).trans (half_col 2 11 2 11 i e (by decide) (by decide))
  · show lit1t1_0 i = _; unfold lit1t1_0; rw [e]; exact (half_2 i).trans (half_col 2 11 3 11 i e (by decide) (by decide))
  · show lit1t1_0 i = _; unfold lit1t1_0; rw [e]; exact (half_2 i).trans (half_col 2 11 4 11 i e (by decide) (by decide))
  · show lit1t1_0 i = _; unfold lit1t1_0; rw [e]; exact (half_1 i).trans (half_col 1 11 5 11 i e (by decide) (by decide))
  · show lit1t1_0 i = _; unfold lit1t1_0; rw [e]; exact (half_2 i).trans (half_col 2 11 6 11 i e (by decide) (by decide))
  · show lit1t1_0 i = _; unfold lit1t1_0; rw [e]; exact (half_2 i).trans (half_col 2 11 7 11 i e (by decide) (by decide))

theorem second_12 (i : ℕ) (h : i / 1024 = 12) : lit1t i = if i % 1024 / 64 = 12 then 0x3F80#16 else 0x0000#16 := by
  have e : i / 128 = 96 ∨ i / 128 = 97 ∨ i / 128 = 98 ∨ i / 128 = 99 ∨ i / 128 = 100 ∨ i / 128 = 101 ∨ i / 128 = 102 ∨ i / 128 = 103 := by
    omega
  unfold lit1t
  rw [show i / 16384 = 0 by omega]
  rcases e with e | e | e | e | e | e | e | e
  · show lit1t1_0 i = _; unfold lit1t1_0; rw [e]; exact (half_2 i).trans (half_col 2 12 0 12 i e (by decide) (by decide))
  · show lit1t1_0 i = _; unfold lit1t1_0; rw [e]; exact (half_2 i).trans (half_col 2 12 1 12 i e (by decide) (by decide))
  · show lit1t1_0 i = _; unfold lit1t1_0; rw [e]; exact (half_2 i).trans (half_col 2 12 2 12 i e (by decide) (by decide))
  · show lit1t1_0 i = _; unfold lit1t1_0; rw [e]; exact (half_2 i).trans (half_col 2 12 3 12 i e (by decide) (by decide))
  · show lit1t1_0 i = _; unfold lit1t1_0; rw [e]; exact (half_2 i).trans (half_col 2 12 4 12 i e (by decide) (by decide))
  · show lit1t1_0 i = _; unfold lit1t1_0; rw [e]; exact (half_2 i).trans (half_col 2 12 5 12 i e (by decide) (by decide))
  · show lit1t1_0 i = _; unfold lit1t1_0; rw [e]; exact (half_0 i).trans (half_col 0 12 6 12 i e (by decide) (by decide))
  · show lit1t1_0 i = _; unfold lit1t1_0; rw [e]; exact (half_2 i).trans (half_col 2 12 7 12 i e (by decide) (by decide))

theorem second_13 (i : ℕ) (h : i / 1024 = 13) : lit1t i = if i % 1024 / 64 = 13 then 0x3F80#16 else 0x0000#16 := by
  have e : i / 128 = 104 ∨ i / 128 = 105 ∨ i / 128 = 106 ∨ i / 128 = 107 ∨ i / 128 = 108 ∨ i / 128 = 109 ∨ i / 128 = 110 ∨ i / 128 = 111 := by
    omega
  unfold lit1t
  rw [show i / 16384 = 0 by omega]
  rcases e with e | e | e | e | e | e | e | e
  · show lit1t1_0 i = _; unfold lit1t1_0; rw [e]; exact (half_2 i).trans (half_col 2 13 0 13 i e (by decide) (by decide))
  · show lit1t1_0 i = _; unfold lit1t1_0; rw [e]; exact (half_2 i).trans (half_col 2 13 1 13 i e (by decide) (by decide))
  · show lit1t1_0 i = _; unfold lit1t1_0; rw [e]; exact (half_2 i).trans (half_col 2 13 2 13 i e (by decide) (by decide))
  · show lit1t1_0 i = _; unfold lit1t1_0; rw [e]; exact (half_2 i).trans (half_col 2 13 3 13 i e (by decide) (by decide))
  · show lit1t1_0 i = _; unfold lit1t1_0; rw [e]; exact (half_2 i).trans (half_col 2 13 4 13 i e (by decide) (by decide))
  · show lit1t1_0 i = _; unfold lit1t1_0; rw [e]; exact (half_2 i).trans (half_col 2 13 5 13 i e (by decide) (by decide))
  · show lit1t1_0 i = _; unfold lit1t1_0; rw [e]; exact (half_1 i).trans (half_col 1 13 6 13 i e (by decide) (by decide))
  · show lit1t1_0 i = _; unfold lit1t1_0; rw [e]; exact (half_2 i).trans (half_col 2 13 7 13 i e (by decide) (by decide))

theorem second_14 (i : ℕ) (h : i / 1024 = 14) : lit1t i = if i % 1024 / 64 = 14 then 0x3F80#16 else 0x0000#16 := by
  have e : i / 128 = 112 ∨ i / 128 = 113 ∨ i / 128 = 114 ∨ i / 128 = 115 ∨ i / 128 = 116 ∨ i / 128 = 117 ∨ i / 128 = 118 ∨ i / 128 = 119 := by
    omega
  unfold lit1t
  rw [show i / 16384 = 0 by omega]
  rcases e with e | e | e | e | e | e | e | e
  · show lit1t1_0 i = _; unfold lit1t1_0; rw [e]; exact (half_2 i).trans (half_col 2 14 0 14 i e (by decide) (by decide))
  · show lit1t1_0 i = _; unfold lit1t1_0; rw [e]; exact (half_2 i).trans (half_col 2 14 1 14 i e (by decide) (by decide))
  · show lit1t1_0 i = _; unfold lit1t1_0; rw [e]; exact (half_2 i).trans (half_col 2 14 2 14 i e (by decide) (by decide))
  · show lit1t1_0 i = _; unfold lit1t1_0; rw [e]; exact (half_2 i).trans (half_col 2 14 3 14 i e (by decide) (by decide))
  · show lit1t1_0 i = _; unfold lit1t1_0; rw [e]; exact (half_2 i).trans (half_col 2 14 4 14 i e (by decide) (by decide))
  · show lit1t1_0 i = _; unfold lit1t1_0; rw [e]; exact (half_2 i).trans (half_col 2 14 5 14 i e (by decide) (by decide))
  · show lit1t1_0 i = _; unfold lit1t1_0; rw [e]; exact (half_2 i).trans (half_col 2 14 6 14 i e (by decide) (by decide))
  · show lit1t1_0 i = _; unfold lit1t1_0; rw [e]; exact (half_0 i).trans (half_col 0 14 7 14 i e (by decide) (by decide))

theorem second_15 (i : ℕ) (h : i / 1024 = 15) : lit1t i = if i % 1024 / 64 = 15 then 0x3F80#16 else 0x0000#16 := by
  have e : i / 128 = 120 ∨ i / 128 = 121 ∨ i / 128 = 122 ∨ i / 128 = 123 ∨ i / 128 = 124 ∨ i / 128 = 125 ∨ i / 128 = 126 ∨ i / 128 = 127 := by
    omega
  unfold lit1t
  rw [show i / 16384 = 0 by omega]
  rcases e with e | e | e | e | e | e | e | e
  · show lit1t1_0 i = _; unfold lit1t1_0; rw [e]; exact (half_2 i).trans (half_col 2 15 0 15 i e (by decide) (by decide))
  · show lit1t1_0 i = _; unfold lit1t1_0; rw [e]; exact (half_2 i).trans (half_col 2 15 1 15 i e (by decide) (by decide))
  · show lit1t1_0 i = _; unfold lit1t1_0; rw [e]; exact (half_2 i).trans (half_col 2 15 2 15 i e (by decide) (by decide))
  · show lit1t1_0 i = _; unfold lit1t1_0; rw [e]; exact (half_2 i).trans (half_col 2 15 3 15 i e (by decide) (by decide))
  · show lit1t1_0 i = _; unfold lit1t1_0; rw [e]; exact (half_2 i).trans (half_col 2 15 4 15 i e (by decide) (by decide))
  · show lit1t1_0 i = _; unfold lit1t1_0; rw [e]; exact (half_2 i).trans (half_col 2 15 5 15 i e (by decide) (by decide))
  · show lit1t1_0 i = _; unfold lit1t1_0; rw [e]; exact (half_2 i).trans (half_col 2 15 6 15 i e (by decide) (by decide))
  · show lit1t1_0 i = _; unfold lit1t1_0; rw [e]; exact (half_1 i).trans (half_col 1 15 7 15 i e (by decide) (by decide))

theorem second_16 (i : ℕ) (h : i / 1024 = 16) : lit1t i = if i % 1024 / 64 = 0 then 0x3F80#16 else 0x0000#16 := by
  have e : i / 128 = 128 ∨ i / 128 = 129 ∨ i / 128 = 130 ∨ i / 128 = 131 ∨ i / 128 = 132 ∨ i / 128 = 133 ∨ i / 128 = 134 ∨ i / 128 = 135 := by
    omega
  unfold lit1t
  rw [show i / 16384 = 1 by omega]
  rcases e with e | e | e | e | e | e | e | e
  · show lit1t1_1 i = _; unfold lit1t1_1; rw [e]; exact (half_0 i).trans (half_col 0 0 0 16 i e (by decide) (by decide))
  · show lit1t1_1 i = _; unfold lit1t1_1; rw [e]; exact (half_2 i).trans (half_col 2 0 1 16 i e (by decide) (by decide))
  · show lit1t1_1 i = _; unfold lit1t1_1; rw [e]; exact (half_2 i).trans (half_col 2 0 2 16 i e (by decide) (by decide))
  · show lit1t1_1 i = _; unfold lit1t1_1; rw [e]; exact (half_2 i).trans (half_col 2 0 3 16 i e (by decide) (by decide))
  · show lit1t1_1 i = _; unfold lit1t1_1; rw [e]; exact (half_2 i).trans (half_col 2 0 4 16 i e (by decide) (by decide))
  · show lit1t1_1 i = _; unfold lit1t1_1; rw [e]; exact (half_2 i).trans (half_col 2 0 5 16 i e (by decide) (by decide))
  · show lit1t1_1 i = _; unfold lit1t1_1; rw [e]; exact (half_2 i).trans (half_col 2 0 6 16 i e (by decide) (by decide))
  · show lit1t1_1 i = _; unfold lit1t1_1; rw [e]; exact (half_2 i).trans (half_col 2 0 7 16 i e (by decide) (by decide))

theorem second_17 (i : ℕ) (h : i / 1024 = 17) : lit1t i = if i % 1024 / 64 = 1 then 0x3F80#16 else 0x0000#16 := by
  have e : i / 128 = 136 ∨ i / 128 = 137 ∨ i / 128 = 138 ∨ i / 128 = 139 ∨ i / 128 = 140 ∨ i / 128 = 141 ∨ i / 128 = 142 ∨ i / 128 = 143 := by
    omega
  unfold lit1t
  rw [show i / 16384 = 1 by omega]
  rcases e with e | e | e | e | e | e | e | e
  · show lit1t1_1 i = _; unfold lit1t1_1; rw [e]; exact (half_1 i).trans (half_col 1 1 0 17 i e (by decide) (by decide))
  · show lit1t1_1 i = _; unfold lit1t1_1; rw [e]; exact (half_2 i).trans (half_col 2 1 1 17 i e (by decide) (by decide))
  · show lit1t1_1 i = _; unfold lit1t1_1; rw [e]; exact (half_2 i).trans (half_col 2 1 2 17 i e (by decide) (by decide))
  · show lit1t1_1 i = _; unfold lit1t1_1; rw [e]; exact (half_2 i).trans (half_col 2 1 3 17 i e (by decide) (by decide))
  · show lit1t1_1 i = _; unfold lit1t1_1; rw [e]; exact (half_2 i).trans (half_col 2 1 4 17 i e (by decide) (by decide))
  · show lit1t1_1 i = _; unfold lit1t1_1; rw [e]; exact (half_2 i).trans (half_col 2 1 5 17 i e (by decide) (by decide))
  · show lit1t1_1 i = _; unfold lit1t1_1; rw [e]; exact (half_2 i).trans (half_col 2 1 6 17 i e (by decide) (by decide))
  · show lit1t1_1 i = _; unfold lit1t1_1; rw [e]; exact (half_2 i).trans (half_col 2 1 7 17 i e (by decide) (by decide))

theorem second_18 (i : ℕ) (h : i / 1024 = 18) : lit1t i = if i % 1024 / 64 = 2 then 0x3F80#16 else 0x0000#16 := by
  have e : i / 128 = 144 ∨ i / 128 = 145 ∨ i / 128 = 146 ∨ i / 128 = 147 ∨ i / 128 = 148 ∨ i / 128 = 149 ∨ i / 128 = 150 ∨ i / 128 = 151 := by
    omega
  unfold lit1t
  rw [show i / 16384 = 1 by omega]
  rcases e with e | e | e | e | e | e | e | e
  · show lit1t1_1 i = _; unfold lit1t1_1; rw [e]; exact (half_2 i).trans (half_col 2 2 0 18 i e (by decide) (by decide))
  · show lit1t1_1 i = _; unfold lit1t1_1; rw [e]; exact (half_0 i).trans (half_col 0 2 1 18 i e (by decide) (by decide))
  · show lit1t1_1 i = _; unfold lit1t1_1; rw [e]; exact (half_2 i).trans (half_col 2 2 2 18 i e (by decide) (by decide))
  · show lit1t1_1 i = _; unfold lit1t1_1; rw [e]; exact (half_2 i).trans (half_col 2 2 3 18 i e (by decide) (by decide))
  · show lit1t1_1 i = _; unfold lit1t1_1; rw [e]; exact (half_2 i).trans (half_col 2 2 4 18 i e (by decide) (by decide))
  · show lit1t1_1 i = _; unfold lit1t1_1; rw [e]; exact (half_2 i).trans (half_col 2 2 5 18 i e (by decide) (by decide))
  · show lit1t1_1 i = _; unfold lit1t1_1; rw [e]; exact (half_2 i).trans (half_col 2 2 6 18 i e (by decide) (by decide))
  · show lit1t1_1 i = _; unfold lit1t1_1; rw [e]; exact (half_2 i).trans (half_col 2 2 7 18 i e (by decide) (by decide))

theorem second_19 (i : ℕ) (h : i / 1024 = 19) : lit1t i = if i % 1024 / 64 = 3 then 0x3F80#16 else 0x0000#16 := by
  have e : i / 128 = 152 ∨ i / 128 = 153 ∨ i / 128 = 154 ∨ i / 128 = 155 ∨ i / 128 = 156 ∨ i / 128 = 157 ∨ i / 128 = 158 ∨ i / 128 = 159 := by
    omega
  unfold lit1t
  rw [show i / 16384 = 1 by omega]
  rcases e with e | e | e | e | e | e | e | e
  · show lit1t1_1 i = _; unfold lit1t1_1; rw [e]; exact (half_2 i).trans (half_col 2 3 0 19 i e (by decide) (by decide))
  · show lit1t1_1 i = _; unfold lit1t1_1; rw [e]; exact (half_1 i).trans (half_col 1 3 1 19 i e (by decide) (by decide))
  · show lit1t1_1 i = _; unfold lit1t1_1; rw [e]; exact (half_2 i).trans (half_col 2 3 2 19 i e (by decide) (by decide))
  · show lit1t1_1 i = _; unfold lit1t1_1; rw [e]; exact (half_2 i).trans (half_col 2 3 3 19 i e (by decide) (by decide))
  · show lit1t1_1 i = _; unfold lit1t1_1; rw [e]; exact (half_2 i).trans (half_col 2 3 4 19 i e (by decide) (by decide))
  · show lit1t1_1 i = _; unfold lit1t1_1; rw [e]; exact (half_2 i).trans (half_col 2 3 5 19 i e (by decide) (by decide))
  · show lit1t1_1 i = _; unfold lit1t1_1; rw [e]; exact (half_2 i).trans (half_col 2 3 6 19 i e (by decide) (by decide))
  · show lit1t1_1 i = _; unfold lit1t1_1; rw [e]; exact (half_2 i).trans (half_col 2 3 7 19 i e (by decide) (by decide))

theorem second_20 (i : ℕ) (h : i / 1024 = 20) : lit1t i = if i % 1024 / 64 = 4 then 0x3F80#16 else 0x0000#16 := by
  have e : i / 128 = 160 ∨ i / 128 = 161 ∨ i / 128 = 162 ∨ i / 128 = 163 ∨ i / 128 = 164 ∨ i / 128 = 165 ∨ i / 128 = 166 ∨ i / 128 = 167 := by
    omega
  unfold lit1t
  rw [show i / 16384 = 1 by omega]
  rcases e with e | e | e | e | e | e | e | e
  · show lit1t1_1 i = _; unfold lit1t1_1; rw [e]; exact (half_2 i).trans (half_col 2 4 0 20 i e (by decide) (by decide))
  · show lit1t1_1 i = _; unfold lit1t1_1; rw [e]; exact (half_2 i).trans (half_col 2 4 1 20 i e (by decide) (by decide))
  · show lit1t1_1 i = _; unfold lit1t1_1; rw [e]; exact (half_0 i).trans (half_col 0 4 2 20 i e (by decide) (by decide))
  · show lit1t1_1 i = _; unfold lit1t1_1; rw [e]; exact (half_2 i).trans (half_col 2 4 3 20 i e (by decide) (by decide))
  · show lit1t1_1 i = _; unfold lit1t1_1; rw [e]; exact (half_2 i).trans (half_col 2 4 4 20 i e (by decide) (by decide))
  · show lit1t1_1 i = _; unfold lit1t1_1; rw [e]; exact (half_2 i).trans (half_col 2 4 5 20 i e (by decide) (by decide))
  · show lit1t1_1 i = _; unfold lit1t1_1; rw [e]; exact (half_2 i).trans (half_col 2 4 6 20 i e (by decide) (by decide))
  · show lit1t1_1 i = _; unfold lit1t1_1; rw [e]; exact (half_2 i).trans (half_col 2 4 7 20 i e (by decide) (by decide))

theorem second_21 (i : ℕ) (h : i / 1024 = 21) : lit1t i = if i % 1024 / 64 = 5 then 0x3F80#16 else 0x0000#16 := by
  have e : i / 128 = 168 ∨ i / 128 = 169 ∨ i / 128 = 170 ∨ i / 128 = 171 ∨ i / 128 = 172 ∨ i / 128 = 173 ∨ i / 128 = 174 ∨ i / 128 = 175 := by
    omega
  unfold lit1t
  rw [show i / 16384 = 1 by omega]
  rcases e with e | e | e | e | e | e | e | e
  · show lit1t1_1 i = _; unfold lit1t1_1; rw [e]; exact (half_2 i).trans (half_col 2 5 0 21 i e (by decide) (by decide))
  · show lit1t1_1 i = _; unfold lit1t1_1; rw [e]; exact (half_2 i).trans (half_col 2 5 1 21 i e (by decide) (by decide))
  · show lit1t1_1 i = _; unfold lit1t1_1; rw [e]; exact (half_1 i).trans (half_col 1 5 2 21 i e (by decide) (by decide))
  · show lit1t1_1 i = _; unfold lit1t1_1; rw [e]; exact (half_2 i).trans (half_col 2 5 3 21 i e (by decide) (by decide))
  · show lit1t1_1 i = _; unfold lit1t1_1; rw [e]; exact (half_2 i).trans (half_col 2 5 4 21 i e (by decide) (by decide))
  · show lit1t1_1 i = _; unfold lit1t1_1; rw [e]; exact (half_2 i).trans (half_col 2 5 5 21 i e (by decide) (by decide))
  · show lit1t1_1 i = _; unfold lit1t1_1; rw [e]; exact (half_2 i).trans (half_col 2 5 6 21 i e (by decide) (by decide))
  · show lit1t1_1 i = _; unfold lit1t1_1; rw [e]; exact (half_2 i).trans (half_col 2 5 7 21 i e (by decide) (by decide))

theorem second_22 (i : ℕ) (h : i / 1024 = 22) : lit1t i = if i % 1024 / 64 = 6 then 0x3F80#16 else 0x0000#16 := by
  have e : i / 128 = 176 ∨ i / 128 = 177 ∨ i / 128 = 178 ∨ i / 128 = 179 ∨ i / 128 = 180 ∨ i / 128 = 181 ∨ i / 128 = 182 ∨ i / 128 = 183 := by
    omega
  unfold lit1t
  rw [show i / 16384 = 1 by omega]
  rcases e with e | e | e | e | e | e | e | e
  · show lit1t1_1 i = _; unfold lit1t1_1; rw [e]; exact (half_2 i).trans (half_col 2 6 0 22 i e (by decide) (by decide))
  · show lit1t1_1 i = _; unfold lit1t1_1; rw [e]; exact (half_2 i).trans (half_col 2 6 1 22 i e (by decide) (by decide))
  · show lit1t1_1 i = _; unfold lit1t1_1; rw [e]; exact (half_2 i).trans (half_col 2 6 2 22 i e (by decide) (by decide))
  · show lit1t1_1 i = _; unfold lit1t1_1; rw [e]; exact (half_0 i).trans (half_col 0 6 3 22 i e (by decide) (by decide))
  · show lit1t1_1 i = _; unfold lit1t1_1; rw [e]; exact (half_2 i).trans (half_col 2 6 4 22 i e (by decide) (by decide))
  · show lit1t1_1 i = _; unfold lit1t1_1; rw [e]; exact (half_2 i).trans (half_col 2 6 5 22 i e (by decide) (by decide))
  · show lit1t1_1 i = _; unfold lit1t1_1; rw [e]; exact (half_2 i).trans (half_col 2 6 6 22 i e (by decide) (by decide))
  · show lit1t1_1 i = _; unfold lit1t1_1; rw [e]; exact (half_2 i).trans (half_col 2 6 7 22 i e (by decide) (by decide))

theorem second_23 (i : ℕ) (h : i / 1024 = 23) : lit1t i = if i % 1024 / 64 = 7 then 0x3F80#16 else 0x0000#16 := by
  have e : i / 128 = 184 ∨ i / 128 = 185 ∨ i / 128 = 186 ∨ i / 128 = 187 ∨ i / 128 = 188 ∨ i / 128 = 189 ∨ i / 128 = 190 ∨ i / 128 = 191 := by
    omega
  unfold lit1t
  rw [show i / 16384 = 1 by omega]
  rcases e with e | e | e | e | e | e | e | e
  · show lit1t1_1 i = _; unfold lit1t1_1; rw [e]; exact (half_2 i).trans (half_col 2 7 0 23 i e (by decide) (by decide))
  · show lit1t1_1 i = _; unfold lit1t1_1; rw [e]; exact (half_2 i).trans (half_col 2 7 1 23 i e (by decide) (by decide))
  · show lit1t1_1 i = _; unfold lit1t1_1; rw [e]; exact (half_2 i).trans (half_col 2 7 2 23 i e (by decide) (by decide))
  · show lit1t1_1 i = _; unfold lit1t1_1; rw [e]; exact (half_1 i).trans (half_col 1 7 3 23 i e (by decide) (by decide))
  · show lit1t1_1 i = _; unfold lit1t1_1; rw [e]; exact (half_2 i).trans (half_col 2 7 4 23 i e (by decide) (by decide))
  · show lit1t1_1 i = _; unfold lit1t1_1; rw [e]; exact (half_2 i).trans (half_col 2 7 5 23 i e (by decide) (by decide))
  · show lit1t1_1 i = _; unfold lit1t1_1; rw [e]; exact (half_2 i).trans (half_col 2 7 6 23 i e (by decide) (by decide))
  · show lit1t1_1 i = _; unfold lit1t1_1; rw [e]; exact (half_2 i).trans (half_col 2 7 7 23 i e (by decide) (by decide))

theorem second_24 (i : ℕ) (h : i / 1024 = 24) : lit1t i = if i % 1024 / 64 = 8 then 0x3F80#16 else 0x0000#16 := by
  have e : i / 128 = 192 ∨ i / 128 = 193 ∨ i / 128 = 194 ∨ i / 128 = 195 ∨ i / 128 = 196 ∨ i / 128 = 197 ∨ i / 128 = 198 ∨ i / 128 = 199 := by
    omega
  unfold lit1t
  rw [show i / 16384 = 1 by omega]
  rcases e with e | e | e | e | e | e | e | e
  · show lit1t1_1 i = _; unfold lit1t1_1; rw [e]; exact (half_2 i).trans (half_col 2 8 0 24 i e (by decide) (by decide))
  · show lit1t1_1 i = _; unfold lit1t1_1; rw [e]; exact (half_2 i).trans (half_col 2 8 1 24 i e (by decide) (by decide))
  · show lit1t1_1 i = _; unfold lit1t1_1; rw [e]; exact (half_2 i).trans (half_col 2 8 2 24 i e (by decide) (by decide))
  · show lit1t1_1 i = _; unfold lit1t1_1; rw [e]; exact (half_2 i).trans (half_col 2 8 3 24 i e (by decide) (by decide))
  · show lit1t1_1 i = _; unfold lit1t1_1; rw [e]; exact (half_0 i).trans (half_col 0 8 4 24 i e (by decide) (by decide))
  · show lit1t1_1 i = _; unfold lit1t1_1; rw [e]; exact (half_2 i).trans (half_col 2 8 5 24 i e (by decide) (by decide))
  · show lit1t1_1 i = _; unfold lit1t1_1; rw [e]; exact (half_2 i).trans (half_col 2 8 6 24 i e (by decide) (by decide))
  · show lit1t1_1 i = _; unfold lit1t1_1; rw [e]; exact (half_2 i).trans (half_col 2 8 7 24 i e (by decide) (by decide))

theorem second_25 (i : ℕ) (h : i / 1024 = 25) : lit1t i = if i % 1024 / 64 = 9 then 0x3F80#16 else 0x0000#16 := by
  have e : i / 128 = 200 ∨ i / 128 = 201 ∨ i / 128 = 202 ∨ i / 128 = 203 ∨ i / 128 = 204 ∨ i / 128 = 205 ∨ i / 128 = 206 ∨ i / 128 = 207 := by
    omega
  unfold lit1t
  rw [show i / 16384 = 1 by omega]
  rcases e with e | e | e | e | e | e | e | e
  · show lit1t1_1 i = _; unfold lit1t1_1; rw [e]; exact (half_2 i).trans (half_col 2 9 0 25 i e (by decide) (by decide))
  · show lit1t1_1 i = _; unfold lit1t1_1; rw [e]; exact (half_2 i).trans (half_col 2 9 1 25 i e (by decide) (by decide))
  · show lit1t1_1 i = _; unfold lit1t1_1; rw [e]; exact (half_2 i).trans (half_col 2 9 2 25 i e (by decide) (by decide))
  · show lit1t1_1 i = _; unfold lit1t1_1; rw [e]; exact (half_2 i).trans (half_col 2 9 3 25 i e (by decide) (by decide))
  · show lit1t1_1 i = _; unfold lit1t1_1; rw [e]; exact (half_1 i).trans (half_col 1 9 4 25 i e (by decide) (by decide))
  · show lit1t1_1 i = _; unfold lit1t1_1; rw [e]; exact (half_2 i).trans (half_col 2 9 5 25 i e (by decide) (by decide))
  · show lit1t1_1 i = _; unfold lit1t1_1; rw [e]; exact (half_2 i).trans (half_col 2 9 6 25 i e (by decide) (by decide))
  · show lit1t1_1 i = _; unfold lit1t1_1; rw [e]; exact (half_2 i).trans (half_col 2 9 7 25 i e (by decide) (by decide))

theorem second_26 (i : ℕ) (h : i / 1024 = 26) : lit1t i = if i % 1024 / 64 = 10 then 0x3F80#16 else 0x0000#16 := by
  have e : i / 128 = 208 ∨ i / 128 = 209 ∨ i / 128 = 210 ∨ i / 128 = 211 ∨ i / 128 = 212 ∨ i / 128 = 213 ∨ i / 128 = 214 ∨ i / 128 = 215 := by
    omega
  unfold lit1t
  rw [show i / 16384 = 1 by omega]
  rcases e with e | e | e | e | e | e | e | e
  · show lit1t1_1 i = _; unfold lit1t1_1; rw [e]; exact (half_2 i).trans (half_col 2 10 0 26 i e (by decide) (by decide))
  · show lit1t1_1 i = _; unfold lit1t1_1; rw [e]; exact (half_2 i).trans (half_col 2 10 1 26 i e (by decide) (by decide))
  · show lit1t1_1 i = _; unfold lit1t1_1; rw [e]; exact (half_2 i).trans (half_col 2 10 2 26 i e (by decide) (by decide))
  · show lit1t1_1 i = _; unfold lit1t1_1; rw [e]; exact (half_2 i).trans (half_col 2 10 3 26 i e (by decide) (by decide))
  · show lit1t1_1 i = _; unfold lit1t1_1; rw [e]; exact (half_2 i).trans (half_col 2 10 4 26 i e (by decide) (by decide))
  · show lit1t1_1 i = _; unfold lit1t1_1; rw [e]; exact (half_0 i).trans (half_col 0 10 5 26 i e (by decide) (by decide))
  · show lit1t1_1 i = _; unfold lit1t1_1; rw [e]; exact (half_2 i).trans (half_col 2 10 6 26 i e (by decide) (by decide))
  · show lit1t1_1 i = _; unfold lit1t1_1; rw [e]; exact (half_2 i).trans (half_col 2 10 7 26 i e (by decide) (by decide))

theorem second_27 (i : ℕ) (h : i / 1024 = 27) : lit1t i = if i % 1024 / 64 = 11 then 0x3F80#16 else 0x0000#16 := by
  have e : i / 128 = 216 ∨ i / 128 = 217 ∨ i / 128 = 218 ∨ i / 128 = 219 ∨ i / 128 = 220 ∨ i / 128 = 221 ∨ i / 128 = 222 ∨ i / 128 = 223 := by
    omega
  unfold lit1t
  rw [show i / 16384 = 1 by omega]
  rcases e with e | e | e | e | e | e | e | e
  · show lit1t1_1 i = _; unfold lit1t1_1; rw [e]; exact (half_2 i).trans (half_col 2 11 0 27 i e (by decide) (by decide))
  · show lit1t1_1 i = _; unfold lit1t1_1; rw [e]; exact (half_2 i).trans (half_col 2 11 1 27 i e (by decide) (by decide))
  · show lit1t1_1 i = _; unfold lit1t1_1; rw [e]; exact (half_2 i).trans (half_col 2 11 2 27 i e (by decide) (by decide))
  · show lit1t1_1 i = _; unfold lit1t1_1; rw [e]; exact (half_2 i).trans (half_col 2 11 3 27 i e (by decide) (by decide))
  · show lit1t1_1 i = _; unfold lit1t1_1; rw [e]; exact (half_2 i).trans (half_col 2 11 4 27 i e (by decide) (by decide))
  · show lit1t1_1 i = _; unfold lit1t1_1; rw [e]; exact (half_1 i).trans (half_col 1 11 5 27 i e (by decide) (by decide))
  · show lit1t1_1 i = _; unfold lit1t1_1; rw [e]; exact (half_2 i).trans (half_col 2 11 6 27 i e (by decide) (by decide))
  · show lit1t1_1 i = _; unfold lit1t1_1; rw [e]; exact (half_2 i).trans (half_col 2 11 7 27 i e (by decide) (by decide))

theorem second_28 (i : ℕ) (h : i / 1024 = 28) : lit1t i = if i % 1024 / 64 = 12 then 0x3F80#16 else 0x0000#16 := by
  have e : i / 128 = 224 ∨ i / 128 = 225 ∨ i / 128 = 226 ∨ i / 128 = 227 ∨ i / 128 = 228 ∨ i / 128 = 229 ∨ i / 128 = 230 ∨ i / 128 = 231 := by
    omega
  unfold lit1t
  rw [show i / 16384 = 1 by omega]
  rcases e with e | e | e | e | e | e | e | e
  · show lit1t1_1 i = _; unfold lit1t1_1; rw [e]; exact (half_2 i).trans (half_col 2 12 0 28 i e (by decide) (by decide))
  · show lit1t1_1 i = _; unfold lit1t1_1; rw [e]; exact (half_2 i).trans (half_col 2 12 1 28 i e (by decide) (by decide))
  · show lit1t1_1 i = _; unfold lit1t1_1; rw [e]; exact (half_2 i).trans (half_col 2 12 2 28 i e (by decide) (by decide))
  · show lit1t1_1 i = _; unfold lit1t1_1; rw [e]; exact (half_2 i).trans (half_col 2 12 3 28 i e (by decide) (by decide))
  · show lit1t1_1 i = _; unfold lit1t1_1; rw [e]; exact (half_2 i).trans (half_col 2 12 4 28 i e (by decide) (by decide))
  · show lit1t1_1 i = _; unfold lit1t1_1; rw [e]; exact (half_2 i).trans (half_col 2 12 5 28 i e (by decide) (by decide))
  · show lit1t1_1 i = _; unfold lit1t1_1; rw [e]; exact (half_0 i).trans (half_col 0 12 6 28 i e (by decide) (by decide))
  · show lit1t1_1 i = _; unfold lit1t1_1; rw [e]; exact (half_2 i).trans (half_col 2 12 7 28 i e (by decide) (by decide))

theorem second_29 (i : ℕ) (h : i / 1024 = 29) : lit1t i = if i % 1024 / 64 = 13 then 0x3F80#16 else 0x0000#16 := by
  have e : i / 128 = 232 ∨ i / 128 = 233 ∨ i / 128 = 234 ∨ i / 128 = 235 ∨ i / 128 = 236 ∨ i / 128 = 237 ∨ i / 128 = 238 ∨ i / 128 = 239 := by
    omega
  unfold lit1t
  rw [show i / 16384 = 1 by omega]
  rcases e with e | e | e | e | e | e | e | e
  · show lit1t1_1 i = _; unfold lit1t1_1; rw [e]; exact (half_2 i).trans (half_col 2 13 0 29 i e (by decide) (by decide))
  · show lit1t1_1 i = _; unfold lit1t1_1; rw [e]; exact (half_2 i).trans (half_col 2 13 1 29 i e (by decide) (by decide))
  · show lit1t1_1 i = _; unfold lit1t1_1; rw [e]; exact (half_2 i).trans (half_col 2 13 2 29 i e (by decide) (by decide))
  · show lit1t1_1 i = _; unfold lit1t1_1; rw [e]; exact (half_2 i).trans (half_col 2 13 3 29 i e (by decide) (by decide))
  · show lit1t1_1 i = _; unfold lit1t1_1; rw [e]; exact (half_2 i).trans (half_col 2 13 4 29 i e (by decide) (by decide))
  · show lit1t1_1 i = _; unfold lit1t1_1; rw [e]; exact (half_2 i).trans (half_col 2 13 5 29 i e (by decide) (by decide))
  · show lit1t1_1 i = _; unfold lit1t1_1; rw [e]; exact (half_1 i).trans (half_col 1 13 6 29 i e (by decide) (by decide))
  · show lit1t1_1 i = _; unfold lit1t1_1; rw [e]; exact (half_2 i).trans (half_col 2 13 7 29 i e (by decide) (by decide))

theorem second_30 (i : ℕ) (h : i / 1024 = 30) : lit1t i = if i % 1024 / 64 = 14 then 0x3F80#16 else 0x0000#16 := by
  have e : i / 128 = 240 ∨ i / 128 = 241 ∨ i / 128 = 242 ∨ i / 128 = 243 ∨ i / 128 = 244 ∨ i / 128 = 245 ∨ i / 128 = 246 ∨ i / 128 = 247 := by
    omega
  unfold lit1t
  rw [show i / 16384 = 1 by omega]
  rcases e with e | e | e | e | e | e | e | e
  · show lit1t1_1 i = _; unfold lit1t1_1; rw [e]; exact (half_2 i).trans (half_col 2 14 0 30 i e (by decide) (by decide))
  · show lit1t1_1 i = _; unfold lit1t1_1; rw [e]; exact (half_2 i).trans (half_col 2 14 1 30 i e (by decide) (by decide))
  · show lit1t1_1 i = _; unfold lit1t1_1; rw [e]; exact (half_2 i).trans (half_col 2 14 2 30 i e (by decide) (by decide))
  · show lit1t1_1 i = _; unfold lit1t1_1; rw [e]; exact (half_2 i).trans (half_col 2 14 3 30 i e (by decide) (by decide))
  · show lit1t1_1 i = _; unfold lit1t1_1; rw [e]; exact (half_2 i).trans (half_col 2 14 4 30 i e (by decide) (by decide))
  · show lit1t1_1 i = _; unfold lit1t1_1; rw [e]; exact (half_2 i).trans (half_col 2 14 5 30 i e (by decide) (by decide))
  · show lit1t1_1 i = _; unfold lit1t1_1; rw [e]; exact (half_2 i).trans (half_col 2 14 6 30 i e (by decide) (by decide))
  · show lit1t1_1 i = _; unfold lit1t1_1; rw [e]; exact (half_0 i).trans (half_col 0 14 7 30 i e (by decide) (by decide))

theorem second_31 (i : ℕ) (h : i / 1024 = 31) : lit1t i = if i % 1024 / 64 = 15 then 0x3F80#16 else 0x0000#16 := by
  have e : i / 128 = 248 ∨ i / 128 = 249 ∨ i / 128 = 250 ∨ i / 128 = 251 ∨ i / 128 = 252 ∨ i / 128 = 253 ∨ i / 128 = 254 ∨ i / 128 = 255 := by
    omega
  unfold lit1t
  rw [show i / 16384 = 1 by omega]
  rcases e with e | e | e | e | e | e | e | e
  · show lit1t1_1 i = _; unfold lit1t1_1; rw [e]; exact (half_2 i).trans (half_col 2 15 0 31 i e (by decide) (by decide))
  · show lit1t1_1 i = _; unfold lit1t1_1; rw [e]; exact (half_2 i).trans (half_col 2 15 1 31 i e (by decide) (by decide))
  · show lit1t1_1 i = _; unfold lit1t1_1; rw [e]; exact (half_2 i).trans (half_col 2 15 2 31 i e (by decide) (by decide))
  · show lit1t1_1 i = _; unfold lit1t1_1; rw [e]; exact (half_2 i).trans (half_col 2 15 3 31 i e (by decide) (by decide))
  · show lit1t1_1 i = _; unfold lit1t1_1; rw [e]; exact (half_2 i).trans (half_col 2 15 4 31 i e (by decide) (by decide))
  · show lit1t1_1 i = _; unfold lit1t1_1; rw [e]; exact (half_2 i).trans (half_col 2 15 5 31 i e (by decide) (by decide))
  · show lit1t1_1 i = _; unfold lit1t1_1; rw [e]; exact (half_2 i).trans (half_col 2 15 6 31 i e (by decide) (by decide))
  · show lit1t1_1 i = _; unfold lit1t1_1; rw [e]; exact (half_1 i).trans (half_col 1 15 7 31 i e (by decide) (by decide))

theorem second_32 (i : ℕ) (h : i / 1024 = 32) : lit1t i = if i % 1024 / 64 = 0 then 0x3F80#16 else 0x0000#16 := by
  have e : i / 128 = 256 ∨ i / 128 = 257 ∨ i / 128 = 258 ∨ i / 128 = 259 ∨ i / 128 = 260 ∨ i / 128 = 261 ∨ i / 128 = 262 ∨ i / 128 = 263 := by
    omega
  unfold lit1t
  rw [show i / 16384 = 2 by omega]
  rcases e with e | e | e | e | e | e | e | e
  · show lit1t1_2 i = _; unfold lit1t1_2; rw [e]; exact (half_0 i).trans (half_col 0 0 0 32 i e (by decide) (by decide))
  · show lit1t1_2 i = _; unfold lit1t1_2; rw [e]; exact (half_2 i).trans (half_col 2 0 1 32 i e (by decide) (by decide))
  · show lit1t1_2 i = _; unfold lit1t1_2; rw [e]; exact (half_2 i).trans (half_col 2 0 2 32 i e (by decide) (by decide))
  · show lit1t1_2 i = _; unfold lit1t1_2; rw [e]; exact (half_2 i).trans (half_col 2 0 3 32 i e (by decide) (by decide))
  · show lit1t1_2 i = _; unfold lit1t1_2; rw [e]; exact (half_2 i).trans (half_col 2 0 4 32 i e (by decide) (by decide))
  · show lit1t1_2 i = _; unfold lit1t1_2; rw [e]; exact (half_2 i).trans (half_col 2 0 5 32 i e (by decide) (by decide))
  · show lit1t1_2 i = _; unfold lit1t1_2; rw [e]; exact (half_2 i).trans (half_col 2 0 6 32 i e (by decide) (by decide))
  · show lit1t1_2 i = _; unfold lit1t1_2; rw [e]; exact (half_2 i).trans (half_col 2 0 7 32 i e (by decide) (by decide))

theorem second_33 (i : ℕ) (h : i / 1024 = 33) : lit1t i = if i % 1024 / 64 = 1 then 0x3F80#16 else 0x0000#16 := by
  have e : i / 128 = 264 ∨ i / 128 = 265 ∨ i / 128 = 266 ∨ i / 128 = 267 ∨ i / 128 = 268 ∨ i / 128 = 269 ∨ i / 128 = 270 ∨ i / 128 = 271 := by
    omega
  unfold lit1t
  rw [show i / 16384 = 2 by omega]
  rcases e with e | e | e | e | e | e | e | e
  · show lit1t1_2 i = _; unfold lit1t1_2; rw [e]; exact (half_1 i).trans (half_col 1 1 0 33 i e (by decide) (by decide))
  · show lit1t1_2 i = _; unfold lit1t1_2; rw [e]; exact (half_2 i).trans (half_col 2 1 1 33 i e (by decide) (by decide))
  · show lit1t1_2 i = _; unfold lit1t1_2; rw [e]; exact (half_2 i).trans (half_col 2 1 2 33 i e (by decide) (by decide))
  · show lit1t1_2 i = _; unfold lit1t1_2; rw [e]; exact (half_2 i).trans (half_col 2 1 3 33 i e (by decide) (by decide))
  · show lit1t1_2 i = _; unfold lit1t1_2; rw [e]; exact (half_2 i).trans (half_col 2 1 4 33 i e (by decide) (by decide))
  · show lit1t1_2 i = _; unfold lit1t1_2; rw [e]; exact (half_2 i).trans (half_col 2 1 5 33 i e (by decide) (by decide))
  · show lit1t1_2 i = _; unfold lit1t1_2; rw [e]; exact (half_2 i).trans (half_col 2 1 6 33 i e (by decide) (by decide))
  · show lit1t1_2 i = _; unfold lit1t1_2; rw [e]; exact (half_2 i).trans (half_col 2 1 7 33 i e (by decide) (by decide))

theorem second_34 (i : ℕ) (h : i / 1024 = 34) : lit1t i = if i % 1024 / 64 = 2 then 0x3F80#16 else 0x0000#16 := by
  have e : i / 128 = 272 ∨ i / 128 = 273 ∨ i / 128 = 274 ∨ i / 128 = 275 ∨ i / 128 = 276 ∨ i / 128 = 277 ∨ i / 128 = 278 ∨ i / 128 = 279 := by
    omega
  unfold lit1t
  rw [show i / 16384 = 2 by omega]
  rcases e with e | e | e | e | e | e | e | e
  · show lit1t1_2 i = _; unfold lit1t1_2; rw [e]; exact (half_2 i).trans (half_col 2 2 0 34 i e (by decide) (by decide))
  · show lit1t1_2 i = _; unfold lit1t1_2; rw [e]; exact (half_0 i).trans (half_col 0 2 1 34 i e (by decide) (by decide))
  · show lit1t1_2 i = _; unfold lit1t1_2; rw [e]; exact (half_2 i).trans (half_col 2 2 2 34 i e (by decide) (by decide))
  · show lit1t1_2 i = _; unfold lit1t1_2; rw [e]; exact (half_2 i).trans (half_col 2 2 3 34 i e (by decide) (by decide))
  · show lit1t1_2 i = _; unfold lit1t1_2; rw [e]; exact (half_2 i).trans (half_col 2 2 4 34 i e (by decide) (by decide))
  · show lit1t1_2 i = _; unfold lit1t1_2; rw [e]; exact (half_2 i).trans (half_col 2 2 5 34 i e (by decide) (by decide))
  · show lit1t1_2 i = _; unfold lit1t1_2; rw [e]; exact (half_2 i).trans (half_col 2 2 6 34 i e (by decide) (by decide))
  · show lit1t1_2 i = _; unfold lit1t1_2; rw [e]; exact (half_2 i).trans (half_col 2 2 7 34 i e (by decide) (by decide))

theorem second_35 (i : ℕ) (h : i / 1024 = 35) : lit1t i = if i % 1024 / 64 = 3 then 0x3F80#16 else 0x0000#16 := by
  have e : i / 128 = 280 ∨ i / 128 = 281 ∨ i / 128 = 282 ∨ i / 128 = 283 ∨ i / 128 = 284 ∨ i / 128 = 285 ∨ i / 128 = 286 ∨ i / 128 = 287 := by
    omega
  unfold lit1t
  rw [show i / 16384 = 2 by omega]
  rcases e with e | e | e | e | e | e | e | e
  · show lit1t1_2 i = _; unfold lit1t1_2; rw [e]; exact (half_2 i).trans (half_col 2 3 0 35 i e (by decide) (by decide))
  · show lit1t1_2 i = _; unfold lit1t1_2; rw [e]; exact (half_1 i).trans (half_col 1 3 1 35 i e (by decide) (by decide))
  · show lit1t1_2 i = _; unfold lit1t1_2; rw [e]; exact (half_2 i).trans (half_col 2 3 2 35 i e (by decide) (by decide))
  · show lit1t1_2 i = _; unfold lit1t1_2; rw [e]; exact (half_2 i).trans (half_col 2 3 3 35 i e (by decide) (by decide))
  · show lit1t1_2 i = _; unfold lit1t1_2; rw [e]; exact (half_2 i).trans (half_col 2 3 4 35 i e (by decide) (by decide))
  · show lit1t1_2 i = _; unfold lit1t1_2; rw [e]; exact (half_2 i).trans (half_col 2 3 5 35 i e (by decide) (by decide))
  · show lit1t1_2 i = _; unfold lit1t1_2; rw [e]; exact (half_2 i).trans (half_col 2 3 6 35 i e (by decide) (by decide))
  · show lit1t1_2 i = _; unfold lit1t1_2; rw [e]; exact (half_2 i).trans (half_col 2 3 7 35 i e (by decide) (by decide))

theorem second_36 (i : ℕ) (h : i / 1024 = 36) : lit1t i = if i % 1024 / 64 = 4 then 0x3F80#16 else 0x0000#16 := by
  have e : i / 128 = 288 ∨ i / 128 = 289 ∨ i / 128 = 290 ∨ i / 128 = 291 ∨ i / 128 = 292 ∨ i / 128 = 293 ∨ i / 128 = 294 ∨ i / 128 = 295 := by
    omega
  unfold lit1t
  rw [show i / 16384 = 2 by omega]
  rcases e with e | e | e | e | e | e | e | e
  · show lit1t1_2 i = _; unfold lit1t1_2; rw [e]; exact (half_2 i).trans (half_col 2 4 0 36 i e (by decide) (by decide))
  · show lit1t1_2 i = _; unfold lit1t1_2; rw [e]; exact (half_2 i).trans (half_col 2 4 1 36 i e (by decide) (by decide))
  · show lit1t1_2 i = _; unfold lit1t1_2; rw [e]; exact (half_0 i).trans (half_col 0 4 2 36 i e (by decide) (by decide))
  · show lit1t1_2 i = _; unfold lit1t1_2; rw [e]; exact (half_2 i).trans (half_col 2 4 3 36 i e (by decide) (by decide))
  · show lit1t1_2 i = _; unfold lit1t1_2; rw [e]; exact (half_2 i).trans (half_col 2 4 4 36 i e (by decide) (by decide))
  · show lit1t1_2 i = _; unfold lit1t1_2; rw [e]; exact (half_2 i).trans (half_col 2 4 5 36 i e (by decide) (by decide))
  · show lit1t1_2 i = _; unfold lit1t1_2; rw [e]; exact (half_2 i).trans (half_col 2 4 6 36 i e (by decide) (by decide))
  · show lit1t1_2 i = _; unfold lit1t1_2; rw [e]; exact (half_2 i).trans (half_col 2 4 7 36 i e (by decide) (by decide))

theorem second_37 (i : ℕ) (h : i / 1024 = 37) : lit1t i = if i % 1024 / 64 = 5 then 0x3F80#16 else 0x0000#16 := by
  have e : i / 128 = 296 ∨ i / 128 = 297 ∨ i / 128 = 298 ∨ i / 128 = 299 ∨ i / 128 = 300 ∨ i / 128 = 301 ∨ i / 128 = 302 ∨ i / 128 = 303 := by
    omega
  unfold lit1t
  rw [show i / 16384 = 2 by omega]
  rcases e with e | e | e | e | e | e | e | e
  · show lit1t1_2 i = _; unfold lit1t1_2; rw [e]; exact (half_2 i).trans (half_col 2 5 0 37 i e (by decide) (by decide))
  · show lit1t1_2 i = _; unfold lit1t1_2; rw [e]; exact (half_2 i).trans (half_col 2 5 1 37 i e (by decide) (by decide))
  · show lit1t1_2 i = _; unfold lit1t1_2; rw [e]; exact (half_1 i).trans (half_col 1 5 2 37 i e (by decide) (by decide))
  · show lit1t1_2 i = _; unfold lit1t1_2; rw [e]; exact (half_2 i).trans (half_col 2 5 3 37 i e (by decide) (by decide))
  · show lit1t1_2 i = _; unfold lit1t1_2; rw [e]; exact (half_2 i).trans (half_col 2 5 4 37 i e (by decide) (by decide))
  · show lit1t1_2 i = _; unfold lit1t1_2; rw [e]; exact (half_2 i).trans (half_col 2 5 5 37 i e (by decide) (by decide))
  · show lit1t1_2 i = _; unfold lit1t1_2; rw [e]; exact (half_2 i).trans (half_col 2 5 6 37 i e (by decide) (by decide))
  · show lit1t1_2 i = _; unfold lit1t1_2; rw [e]; exact (half_2 i).trans (half_col 2 5 7 37 i e (by decide) (by decide))

theorem second_38 (i : ℕ) (h : i / 1024 = 38) : lit1t i = if i % 1024 / 64 = 6 then 0x3F80#16 else 0x0000#16 := by
  have e : i / 128 = 304 ∨ i / 128 = 305 ∨ i / 128 = 306 ∨ i / 128 = 307 ∨ i / 128 = 308 ∨ i / 128 = 309 ∨ i / 128 = 310 ∨ i / 128 = 311 := by
    omega
  unfold lit1t
  rw [show i / 16384 = 2 by omega]
  rcases e with e | e | e | e | e | e | e | e
  · show lit1t1_2 i = _; unfold lit1t1_2; rw [e]; exact (half_2 i).trans (half_col 2 6 0 38 i e (by decide) (by decide))
  · show lit1t1_2 i = _; unfold lit1t1_2; rw [e]; exact (half_2 i).trans (half_col 2 6 1 38 i e (by decide) (by decide))
  · show lit1t1_2 i = _; unfold lit1t1_2; rw [e]; exact (half_2 i).trans (half_col 2 6 2 38 i e (by decide) (by decide))
  · show lit1t1_2 i = _; unfold lit1t1_2; rw [e]; exact (half_0 i).trans (half_col 0 6 3 38 i e (by decide) (by decide))
  · show lit1t1_2 i = _; unfold lit1t1_2; rw [e]; exact (half_2 i).trans (half_col 2 6 4 38 i e (by decide) (by decide))
  · show lit1t1_2 i = _; unfold lit1t1_2; rw [e]; exact (half_2 i).trans (half_col 2 6 5 38 i e (by decide) (by decide))
  · show lit1t1_2 i = _; unfold lit1t1_2; rw [e]; exact (half_2 i).trans (half_col 2 6 6 38 i e (by decide) (by decide))
  · show lit1t1_2 i = _; unfold lit1t1_2; rw [e]; exact (half_2 i).trans (half_col 2 6 7 38 i e (by decide) (by decide))

theorem second_39 (i : ℕ) (h : i / 1024 = 39) : lit1t i = if i % 1024 / 64 = 7 then 0x3F80#16 else 0x0000#16 := by
  have e : i / 128 = 312 ∨ i / 128 = 313 ∨ i / 128 = 314 ∨ i / 128 = 315 ∨ i / 128 = 316 ∨ i / 128 = 317 ∨ i / 128 = 318 ∨ i / 128 = 319 := by
    omega
  unfold lit1t
  rw [show i / 16384 = 2 by omega]
  rcases e with e | e | e | e | e | e | e | e
  · show lit1t1_2 i = _; unfold lit1t1_2; rw [e]; exact (half_2 i).trans (half_col 2 7 0 39 i e (by decide) (by decide))
  · show lit1t1_2 i = _; unfold lit1t1_2; rw [e]; exact (half_2 i).trans (half_col 2 7 1 39 i e (by decide) (by decide))
  · show lit1t1_2 i = _; unfold lit1t1_2; rw [e]; exact (half_2 i).trans (half_col 2 7 2 39 i e (by decide) (by decide))
  · show lit1t1_2 i = _; unfold lit1t1_2; rw [e]; exact (half_1 i).trans (half_col 1 7 3 39 i e (by decide) (by decide))
  · show lit1t1_2 i = _; unfold lit1t1_2; rw [e]; exact (half_2 i).trans (half_col 2 7 4 39 i e (by decide) (by decide))
  · show lit1t1_2 i = _; unfold lit1t1_2; rw [e]; exact (half_2 i).trans (half_col 2 7 5 39 i e (by decide) (by decide))
  · show lit1t1_2 i = _; unfold lit1t1_2; rw [e]; exact (half_2 i).trans (half_col 2 7 6 39 i e (by decide) (by decide))
  · show lit1t1_2 i = _; unfold lit1t1_2; rw [e]; exact (half_2 i).trans (half_col 2 7 7 39 i e (by decide) (by decide))

theorem second_40 (i : ℕ) (h : i / 1024 = 40) : lit1t i = if i % 1024 / 64 = 8 then 0x3F80#16 else 0x0000#16 := by
  have e : i / 128 = 320 ∨ i / 128 = 321 ∨ i / 128 = 322 ∨ i / 128 = 323 ∨ i / 128 = 324 ∨ i / 128 = 325 ∨ i / 128 = 326 ∨ i / 128 = 327 := by
    omega
  unfold lit1t
  rw [show i / 16384 = 2 by omega]
  rcases e with e | e | e | e | e | e | e | e
  · show lit1t1_2 i = _; unfold lit1t1_2; rw [e]; exact (half_2 i).trans (half_col 2 8 0 40 i e (by decide) (by decide))
  · show lit1t1_2 i = _; unfold lit1t1_2; rw [e]; exact (half_2 i).trans (half_col 2 8 1 40 i e (by decide) (by decide))
  · show lit1t1_2 i = _; unfold lit1t1_2; rw [e]; exact (half_2 i).trans (half_col 2 8 2 40 i e (by decide) (by decide))
  · show lit1t1_2 i = _; unfold lit1t1_2; rw [e]; exact (half_2 i).trans (half_col 2 8 3 40 i e (by decide) (by decide))
  · show lit1t1_2 i = _; unfold lit1t1_2; rw [e]; exact (half_0 i).trans (half_col 0 8 4 40 i e (by decide) (by decide))
  · show lit1t1_2 i = _; unfold lit1t1_2; rw [e]; exact (half_2 i).trans (half_col 2 8 5 40 i e (by decide) (by decide))
  · show lit1t1_2 i = _; unfold lit1t1_2; rw [e]; exact (half_2 i).trans (half_col 2 8 6 40 i e (by decide) (by decide))
  · show lit1t1_2 i = _; unfold lit1t1_2; rw [e]; exact (half_2 i).trans (half_col 2 8 7 40 i e (by decide) (by decide))

theorem second_41 (i : ℕ) (h : i / 1024 = 41) : lit1t i = if i % 1024 / 64 = 9 then 0x3F80#16 else 0x0000#16 := by
  have e : i / 128 = 328 ∨ i / 128 = 329 ∨ i / 128 = 330 ∨ i / 128 = 331 ∨ i / 128 = 332 ∨ i / 128 = 333 ∨ i / 128 = 334 ∨ i / 128 = 335 := by
    omega
  unfold lit1t
  rw [show i / 16384 = 2 by omega]
  rcases e with e | e | e | e | e | e | e | e
  · show lit1t1_2 i = _; unfold lit1t1_2; rw [e]; exact (half_2 i).trans (half_col 2 9 0 41 i e (by decide) (by decide))
  · show lit1t1_2 i = _; unfold lit1t1_2; rw [e]; exact (half_2 i).trans (half_col 2 9 1 41 i e (by decide) (by decide))
  · show lit1t1_2 i = _; unfold lit1t1_2; rw [e]; exact (half_2 i).trans (half_col 2 9 2 41 i e (by decide) (by decide))
  · show lit1t1_2 i = _; unfold lit1t1_2; rw [e]; exact (half_2 i).trans (half_col 2 9 3 41 i e (by decide) (by decide))
  · show lit1t1_2 i = _; unfold lit1t1_2; rw [e]; exact (half_1 i).trans (half_col 1 9 4 41 i e (by decide) (by decide))
  · show lit1t1_2 i = _; unfold lit1t1_2; rw [e]; exact (half_2 i).trans (half_col 2 9 5 41 i e (by decide) (by decide))
  · show lit1t1_2 i = _; unfold lit1t1_2; rw [e]; exact (half_2 i).trans (half_col 2 9 6 41 i e (by decide) (by decide))
  · show lit1t1_2 i = _; unfold lit1t1_2; rw [e]; exact (half_2 i).trans (half_col 2 9 7 41 i e (by decide) (by decide))

theorem second_42 (i : ℕ) (h : i / 1024 = 42) : lit1t i = if i % 1024 / 64 = 10 then 0x3F80#16 else 0x0000#16 := by
  have e : i / 128 = 336 ∨ i / 128 = 337 ∨ i / 128 = 338 ∨ i / 128 = 339 ∨ i / 128 = 340 ∨ i / 128 = 341 ∨ i / 128 = 342 ∨ i / 128 = 343 := by
    omega
  unfold lit1t
  rw [show i / 16384 = 2 by omega]
  rcases e with e | e | e | e | e | e | e | e
  · show lit1t1_2 i = _; unfold lit1t1_2; rw [e]; exact (half_2 i).trans (half_col 2 10 0 42 i e (by decide) (by decide))
  · show lit1t1_2 i = _; unfold lit1t1_2; rw [e]; exact (half_2 i).trans (half_col 2 10 1 42 i e (by decide) (by decide))
  · show lit1t1_2 i = _; unfold lit1t1_2; rw [e]; exact (half_2 i).trans (half_col 2 10 2 42 i e (by decide) (by decide))
  · show lit1t1_2 i = _; unfold lit1t1_2; rw [e]; exact (half_2 i).trans (half_col 2 10 3 42 i e (by decide) (by decide))
  · show lit1t1_2 i = _; unfold lit1t1_2; rw [e]; exact (half_2 i).trans (half_col 2 10 4 42 i e (by decide) (by decide))
  · show lit1t1_2 i = _; unfold lit1t1_2; rw [e]; exact (half_0 i).trans (half_col 0 10 5 42 i e (by decide) (by decide))
  · show lit1t1_2 i = _; unfold lit1t1_2; rw [e]; exact (half_2 i).trans (half_col 2 10 6 42 i e (by decide) (by decide))
  · show lit1t1_2 i = _; unfold lit1t1_2; rw [e]; exact (half_2 i).trans (half_col 2 10 7 42 i e (by decide) (by decide))

theorem second_43 (i : ℕ) (h : i / 1024 = 43) : lit1t i = if i % 1024 / 64 = 11 then 0x3F80#16 else 0x0000#16 := by
  have e : i / 128 = 344 ∨ i / 128 = 345 ∨ i / 128 = 346 ∨ i / 128 = 347 ∨ i / 128 = 348 ∨ i / 128 = 349 ∨ i / 128 = 350 ∨ i / 128 = 351 := by
    omega
  unfold lit1t
  rw [show i / 16384 = 2 by omega]
  rcases e with e | e | e | e | e | e | e | e
  · show lit1t1_2 i = _; unfold lit1t1_2; rw [e]; exact (half_2 i).trans (half_col 2 11 0 43 i e (by decide) (by decide))
  · show lit1t1_2 i = _; unfold lit1t1_2; rw [e]; exact (half_2 i).trans (half_col 2 11 1 43 i e (by decide) (by decide))
  · show lit1t1_2 i = _; unfold lit1t1_2; rw [e]; exact (half_2 i).trans (half_col 2 11 2 43 i e (by decide) (by decide))
  · show lit1t1_2 i = _; unfold lit1t1_2; rw [e]; exact (half_2 i).trans (half_col 2 11 3 43 i e (by decide) (by decide))
  · show lit1t1_2 i = _; unfold lit1t1_2; rw [e]; exact (half_2 i).trans (half_col 2 11 4 43 i e (by decide) (by decide))
  · show lit1t1_2 i = _; unfold lit1t1_2; rw [e]; exact (half_1 i).trans (half_col 1 11 5 43 i e (by decide) (by decide))
  · show lit1t1_2 i = _; unfold lit1t1_2; rw [e]; exact (half_2 i).trans (half_col 2 11 6 43 i e (by decide) (by decide))
  · show lit1t1_2 i = _; unfold lit1t1_2; rw [e]; exact (half_2 i).trans (half_col 2 11 7 43 i e (by decide) (by decide))

theorem second_44 (i : ℕ) (h : i / 1024 = 44) : lit1t i = if i % 1024 / 64 = 12 then 0x3F80#16 else 0x0000#16 := by
  have e : i / 128 = 352 ∨ i / 128 = 353 ∨ i / 128 = 354 ∨ i / 128 = 355 ∨ i / 128 = 356 ∨ i / 128 = 357 ∨ i / 128 = 358 ∨ i / 128 = 359 := by
    omega
  unfold lit1t
  rw [show i / 16384 = 2 by omega]
  rcases e with e | e | e | e | e | e | e | e
  · show lit1t1_2 i = _; unfold lit1t1_2; rw [e]; exact (half_2 i).trans (half_col 2 12 0 44 i e (by decide) (by decide))
  · show lit1t1_2 i = _; unfold lit1t1_2; rw [e]; exact (half_2 i).trans (half_col 2 12 1 44 i e (by decide) (by decide))
  · show lit1t1_2 i = _; unfold lit1t1_2; rw [e]; exact (half_2 i).trans (half_col 2 12 2 44 i e (by decide) (by decide))
  · show lit1t1_2 i = _; unfold lit1t1_2; rw [e]; exact (half_2 i).trans (half_col 2 12 3 44 i e (by decide) (by decide))
  · show lit1t1_2 i = _; unfold lit1t1_2; rw [e]; exact (half_2 i).trans (half_col 2 12 4 44 i e (by decide) (by decide))
  · show lit1t1_2 i = _; unfold lit1t1_2; rw [e]; exact (half_2 i).trans (half_col 2 12 5 44 i e (by decide) (by decide))
  · show lit1t1_2 i = _; unfold lit1t1_2; rw [e]; exact (half_0 i).trans (half_col 0 12 6 44 i e (by decide) (by decide))
  · show lit1t1_2 i = _; unfold lit1t1_2; rw [e]; exact (half_2 i).trans (half_col 2 12 7 44 i e (by decide) (by decide))

theorem second_45 (i : ℕ) (h : i / 1024 = 45) : lit1t i = if i % 1024 / 64 = 13 then 0x3F80#16 else 0x0000#16 := by
  have e : i / 128 = 360 ∨ i / 128 = 361 ∨ i / 128 = 362 ∨ i / 128 = 363 ∨ i / 128 = 364 ∨ i / 128 = 365 ∨ i / 128 = 366 ∨ i / 128 = 367 := by
    omega
  unfold lit1t
  rw [show i / 16384 = 2 by omega]
  rcases e with e | e | e | e | e | e | e | e
  · show lit1t1_2 i = _; unfold lit1t1_2; rw [e]; exact (half_2 i).trans (half_col 2 13 0 45 i e (by decide) (by decide))
  · show lit1t1_2 i = _; unfold lit1t1_2; rw [e]; exact (half_2 i).trans (half_col 2 13 1 45 i e (by decide) (by decide))
  · show lit1t1_2 i = _; unfold lit1t1_2; rw [e]; exact (half_2 i).trans (half_col 2 13 2 45 i e (by decide) (by decide))
  · show lit1t1_2 i = _; unfold lit1t1_2; rw [e]; exact (half_2 i).trans (half_col 2 13 3 45 i e (by decide) (by decide))
  · show lit1t1_2 i = _; unfold lit1t1_2; rw [e]; exact (half_2 i).trans (half_col 2 13 4 45 i e (by decide) (by decide))
  · show lit1t1_2 i = _; unfold lit1t1_2; rw [e]; exact (half_2 i).trans (half_col 2 13 5 45 i e (by decide) (by decide))
  · show lit1t1_2 i = _; unfold lit1t1_2; rw [e]; exact (half_1 i).trans (half_col 1 13 6 45 i e (by decide) (by decide))
  · show lit1t1_2 i = _; unfold lit1t1_2; rw [e]; exact (half_2 i).trans (half_col 2 13 7 45 i e (by decide) (by decide))

theorem second_46 (i : ℕ) (h : i / 1024 = 46) : lit1t i = if i % 1024 / 64 = 14 then 0x3F80#16 else 0x0000#16 := by
  have e : i / 128 = 368 ∨ i / 128 = 369 ∨ i / 128 = 370 ∨ i / 128 = 371 ∨ i / 128 = 372 ∨ i / 128 = 373 ∨ i / 128 = 374 ∨ i / 128 = 375 := by
    omega
  unfold lit1t
  rw [show i / 16384 = 2 by omega]
  rcases e with e | e | e | e | e | e | e | e
  · show lit1t1_2 i = _; unfold lit1t1_2; rw [e]; exact (half_2 i).trans (half_col 2 14 0 46 i e (by decide) (by decide))
  · show lit1t1_2 i = _; unfold lit1t1_2; rw [e]; exact (half_2 i).trans (half_col 2 14 1 46 i e (by decide) (by decide))
  · show lit1t1_2 i = _; unfold lit1t1_2; rw [e]; exact (half_2 i).trans (half_col 2 14 2 46 i e (by decide) (by decide))
  · show lit1t1_2 i = _; unfold lit1t1_2; rw [e]; exact (half_2 i).trans (half_col 2 14 3 46 i e (by decide) (by decide))
  · show lit1t1_2 i = _; unfold lit1t1_2; rw [e]; exact (half_2 i).trans (half_col 2 14 4 46 i e (by decide) (by decide))
  · show lit1t1_2 i = _; unfold lit1t1_2; rw [e]; exact (half_2 i).trans (half_col 2 14 5 46 i e (by decide) (by decide))
  · show lit1t1_2 i = _; unfold lit1t1_2; rw [e]; exact (half_2 i).trans (half_col 2 14 6 46 i e (by decide) (by decide))
  · show lit1t1_2 i = _; unfold lit1t1_2; rw [e]; exact (half_0 i).trans (half_col 0 14 7 46 i e (by decide) (by decide))

theorem second_47 (i : ℕ) (h : i / 1024 = 47) : lit1t i = if i % 1024 / 64 = 15 then 0x3F80#16 else 0x0000#16 := by
  have e : i / 128 = 376 ∨ i / 128 = 377 ∨ i / 128 = 378 ∨ i / 128 = 379 ∨ i / 128 = 380 ∨ i / 128 = 381 ∨ i / 128 = 382 ∨ i / 128 = 383 := by
    omega
  unfold lit1t
  rw [show i / 16384 = 2 by omega]
  rcases e with e | e | e | e | e | e | e | e
  · show lit1t1_2 i = _; unfold lit1t1_2; rw [e]; exact (half_2 i).trans (half_col 2 15 0 47 i e (by decide) (by decide))
  · show lit1t1_2 i = _; unfold lit1t1_2; rw [e]; exact (half_2 i).trans (half_col 2 15 1 47 i e (by decide) (by decide))
  · show lit1t1_2 i = _; unfold lit1t1_2; rw [e]; exact (half_2 i).trans (half_col 2 15 2 47 i e (by decide) (by decide))
  · show lit1t1_2 i = _; unfold lit1t1_2; rw [e]; exact (half_2 i).trans (half_col 2 15 3 47 i e (by decide) (by decide))
  · show lit1t1_2 i = _; unfold lit1t1_2; rw [e]; exact (half_2 i).trans (half_col 2 15 4 47 i e (by decide) (by decide))
  · show lit1t1_2 i = _; unfold lit1t1_2; rw [e]; exact (half_2 i).trans (half_col 2 15 5 47 i e (by decide) (by decide))
  · show lit1t1_2 i = _; unfold lit1t1_2; rw [e]; exact (half_2 i).trans (half_col 2 15 6 47 i e (by decide) (by decide))
  · show lit1t1_2 i = _; unfold lit1t1_2; rw [e]; exact (half_1 i).trans (half_col 1 15 7 47 i e (by decide) (by decide))

/-- An entry of the first matrix: one where the row's channel belongs to the column's head. -/
theorem lit0_apply (i : Fin 32768) : lit0 i = if i.val / 16 % 1024 / 64 = i.val % 16 then 0x3F80#16 else 0x0000#16 := by
  obtain ⟨i, hi⟩ := i
  have h : lit0t i = rows (i / 1024 % 16) (i % 128) := by
    generalize hp : i / 1024 = p
    have hp32 : p < 32 := by omega
    interval_cases p
    exacts [first_0 i hp, first_1 i hp, first_2 i hp, first_3 i hp, first_4 i hp, first_5 i hp, first_6 i hp, first_7 i hp, first_8 i hp, first_9 i hp, first_10 i hp, first_11 i hp, first_12 i hp, first_13 i hp, first_14 i hp, first_15 i hp, first_16 i hp, first_17 i hp, first_18 i hp, first_19 i hp, first_20 i hp, first_21 i hp, first_22 i hp, first_23 i hp, first_24 i hp, first_25 i hp, first_26 i hp, first_27 i hp, first_28 i hp, first_29 i hp, first_30 i hp, first_31 i hp]
  refine h.trans (if_congr ?_ rfl rfl)
  show i % 128 % 16 = i / 1024 % 16 ↔ i / 16 % 1024 / 64 = i % 16
  have e1 : i % 128 % 16 = i % 16 := by omega
  have e2 : i / 16 % 1024 / 64 = i / 1024 % 16 := by
    have h3 : i / 16 / 64 = i / 1024 := by rw [Nat.div_div_eq_div_mul]
    have h4 : i / 16 % 1024 / 64 = i / 16 / 64 % 16 := Nat.mod_mul_right_div_self (i / 16) 64 16
    rw [h4, h3]
  rw [e1, e2]
  exact eq_comm

/-- An entry of the second matrix: one where the column's channel belongs to the row's head. -/
theorem lit1_apply (i : Fin 49152) : lit1 i = if i.val % 1024 / 64 = i.val / 1024 % 16 then 0x3F80#16 else 0x0000#16 := by
  obtain ⟨i, hi⟩ := i
  show lit1t i = if i % 1024 / 64 = i / 1024 % 16 then 0x3F80#16 else 0x0000#16
  generalize hp : i / 1024 = p
  have hp48 : p < 48 := by omega
  interval_cases p
  exacts [second_0 i hp, second_1 i hp, second_2 i hp, second_3 i hp, second_4 i hp, second_5 i hp, second_6 i hp, second_7 i hp, second_8 i hp, second_9 i hp, second_10 i hp, second_11 i hp, second_12 i hp, second_13 i hp, second_14 i hp, second_15 i hp, second_16 i hp, second_17 i hp, second_18 i hp, second_19 i hp, second_20 i hp, second_21 i hp, second_22 i hp, second_23 i hp, second_24 i hp, second_25 i hp, second_26 i hp, second_27 i hp, second_28 i hp, second_29 i hp, second_30 i hp, second_31 i hp, second_32 i hp, second_33 i hp, second_34 i hp, second_35 i hp, second_36 i hp, second_37 i hp, second_38 i hp, second_39 i hp, second_40 i hp, second_41 i hp, second_42 i hp, second_43 i hp, second_44 i hp, second_45 i hp, second_46 i hp, second_47 i hp]

end Cert.RwkvOutLit
-- ==== Proof.RwkvOutArray.lean ====
module

public import proofs.«01_k».proof.Proof.RwkvOutBlock
public import proofs.«01_k».proof.Proof.RwkvOutLit
public import Idealize.ShloMosaic.Lib.Tactic.CleanTypes

/-! The array that the recurrence's output call leaves. -/

@[expose] public section

set_option maxRecDepth 16384

noncomputable section

namespace Cert.RwkvOutArray

open Idealize.ShloMosaic Idealize.ShloMosaic.TcCoe Idealize.SL.Sem Cert.RwkvMath Cert.RwkvOutBlock Cert.Kernel5Ideal Cert.Kernel5Ideal.Gen
open scoped BigOperators

/-- One output number: the hidden state plus the gate times the projection of the token's prepared outputs. -/
def outAt (y r k v g h : Fin 8 → Fin 4096 → Fin 1024 → EReal) (lw lb rk : Fin 1024 → EReal) (W : Fin 1024 → Fin 1024 → EReal)
    (md : Fin 8 → Fin 9216 → EReal) (b : Fin 8) (s : Fin 4096) (d : Fin 1024) : EReal :=
  h b s d + md b ⟨5120 + d.val, by omega⟩ * ∑ c, outRow (y b s) (r b s) (k b s) (v b s) (g b s) lw lb rk c * W c d

variable (m : (ℓ : Loc nD τ sig) → Buf (Elt Ideal) ℓ)

/-- An argument array, by batch entry, token and channel. -/
def arr (x : Vec Ideal S8x4096x1024 .f32) (b : Fin 8) (s : Fin 4096) (d : Fin 1024) : EReal := x (ix3 b s d)

/-- The bonus weights as one row of channels. -/
def rkRow (x : Vec Ideal S16x64 .f32) (c : Fin 1024) : EReal := x (ix2 ⟨c.val / 64, by omega⟩ ⟨c.val % 64, Nat.mod_lt _ (by decide)⟩)

/-- The array that the launch leaves. -/
def G (c : Dev nD) : S8x4096x1024.Idx → EReal := fun i =>
  outAt (arr (m ((c : Thread nD τ).loc main_arg0))) (arr (m ((c : Thread nD τ).loc main_arg1))) (arr (m ((c : Thread nD τ).loc main_arg2)))
    (arr (m ((c : Thread nD τ).loc main_arg3))) (arr (m ((c : Thread nD τ).loc main_arg4))) (arr (m ((c : Thread nD τ).loc main_arg9)))
    (fun k => m ((c : Thread nD τ).loc main_arg5) (ix1 k)) (fun k => m ((c : Thread nD τ).loc main_arg6) (ix1 k))
    (rkRow (m ((c : Thread nD τ).loc main_arg7))) (fun k d => m ((c : Thread nD τ).loc main_arg8) (ix2 k d))
    (fun b k => m ((c : Thread nD τ).loc main_arg10) (ix2 b k)) (i 0) (i 1) (i 2)

/-- Where the windows' blocks lie: decided over the 128 grid points. -/
theorem idx : ∀ t : Fin cfg0.N, win0_0.index t = ![(grid0.coords t 0).val, (grid0.coords t 1).val, 0]
    ∧ win0_1.index t = ![(grid0.coords t 0).val, (grid0.coords t 1).val, 0]
    ∧ win0_2.index t = ![(grid0.coords t 0).val, (grid0.coords t 1).val, 0]
    ∧ win0_3.index t = ![(grid0.coords t 0).val, (grid0.coords t 1).val, 0]
    ∧ win0_4.index t = ![(grid0.coords t 0).val, (grid0.coords t 1).val, 0]
    ∧ win0_5.index t = ![0, 0] ∧ win0_6.index t = ![0, 0] ∧ win0_7.index t = ![0, 0] ∧ win0_8.index t = ![0, 0]
    ∧ win0_9.index t = ![0, 0] ∧ win0_10.index t = ![0, 0]
    ∧ win0_11.index t = ![(grid0.coords t 0).val, (grid0.coords t 1).val, 0]
    ∧ win0_12.index t = ![(grid0.coords t 0).val, 5, 0, 0]
    ∧ win0_13.index t = ![(grid0.coords t 0).val, (grid0.coords t 1).val, 0] :=
  (by decide +kernel : ∀ t : Fin grid0.N, _)

/-- The batch entry of grid point `t`. -/
def bOf (t : Fin cfg0.N) : Fin 8 := ⟨(grid0.coords t 0).val, (grid0.coords t 0).isLt⟩

/-- Row `r` of grid point `t`'s tile, as a token of the batch entry. -/
def sOf (t : Fin cfg0.N) (r : Fin 256) : Fin 4096 :=
  ⟨(grid0.coords t 1).val * 256 + r.val, by have h : (grid0.coords t 1).val < 16 := (grid0.coords t 1).isLt; omega⟩

/-! The blocks that a grid point reads: its tokens' rows of the six token arrays. -/

theorem read0 (c : Dev nD) (t : Fin cfg0.N) (r : Fin 256) (k : Fin 1024) :
    (iblk m c 0 t : Vec Ideal S1x256x1024 .f32) (ix3 0 r k) = arr (m ((c : Thread nD τ).loc main_arg0)) (bOf t) (sOf t r) k := by
  unfold bOf sOf arr; blk_ext! [iblk, V, idx t]

theorem read1 (c : Dev nD) (t : Fin cfg0.N) (r : Fin 256) (k : Fin 1024) :
    (iblk m c 1 t : Vec Ideal S1x256x1024 .f32) (ix3 0 r k) = arr (m ((c : Thread nD τ).loc main_arg1)) (bOf t) (sOf t r) k := by
  unfold bOf sOf arr; blk_ext! [iblk, V, idx t]

theorem read2 (c : Dev nD) (t : Fin cfg0.N) (r : Fin 256) (k : Fin 1024) :
    (iblk m c 2 t : Vec Ideal S1x256x1024 .f32) (ix3 0 r k) = arr (m ((c : Thread nD τ).loc main_arg2)) (bOf t) (sOf t r) k := by
  unfold bOf sOf arr; blk_ext! [iblk, V, idx t]

theorem read3 (c : Dev nD) (t : Fin cfg0.N) (r : Fin 256) (k : Fin 1024) :
    (iblk m c 3 t : Vec Ideal S1x256x1024 .f32) (ix3 0 r k) = arr (m ((c : Thread nD τ).loc main_arg3)) (bOf t) (sOf t r) k := by
  unfold bOf sOf arr; blk_ext! [iblk, V, idx t]

theorem read4 (c : Dev nD) (t : Fin cfg0.N) (r : Fin 256) (k : Fin 1024) :
    (iblk m c 4 t : Vec Ideal S1x256x1024 .f32) (ix3 0 r k) = arr (m ((c : Thread nD τ).loc main_arg4)) (bOf t) (sOf t r) k := by
  unfold bOf sOf arr; blk_ext! [iblk, V, idx t]

theorem read11 (c : Dev nD) (t : Fin cfg0.N) (r : Fin 256) (k : Fin 1024) :
    (iblk m c 11 t : Vec Ideal S1x256x1024 .f32) (ix3 0 r k) = arr (m ((c : Thread nD τ).loc main_arg9)) (bOf t) (sOf t r) k := by
  unfold bOf sOf arr; blk_ext! [iblk, V, idx t]

/-- The normalisation's scales. -/
theorem read5 (c : Dev nD) (t : Fin cfg0.N) (k : Fin 1024) :
    (iblk m c 5 t : Vec Ideal S1x1024 .f32) (ix2 0 k) = m ((c : Thread nD τ).loc main_arg5) (ix1 k) := by
  blk_ext! [iblk, V, idx t]

/-- The normalisation's shifts. -/
theorem read6 (c : Dev nD) (t : Fin cfg0.N) (k : Fin 1024) :
    (iblk m c 6 t : Vec Ideal S1x1024 .f32) (ix2 0 k) = m ((c : Thread nD τ).loc main_arg6) (ix1 k) := by
  blk_ext! [iblk, V, idx t]

/-- The bonus weights. -/
theorem read7 (c : Dev nD) (t : Fin cfg0.N) (k : Fin 1024) :
    (iblk m c 7 t : Vec Ideal S1x1024 .f32) (ix2 0 k) = rkRow (m ((c : Thread nD τ).loc main_arg7)) k := by
  unfold rkRow; blk_ext! [iblk, V, idx t]

/-- The projection: the whole matrix. -/
theorem read10 (c : Dev nD) (t : Fin cfg0.N) (k d : Fin 1024) :
    (iblk m c 10 t : Vec Ideal S1024x1024 .bf16) (ix2 k d) = m ((c : Thread nD τ).loc main_arg8) (ix2 k d) := by
  blk_ext! [iblk, V, idx t]

/-- The gate's block: the sixth modulation row. -/
theorem read12 (c : Dev nD) (t : Fin cfg0.N) (d : Fin 1024) :
    (iblk m c 12 t : Vec Ideal S1x1x1x1024 .f32) (ix4 0 0 0 d)
      = m ((c : Thread nD τ).loc main_arg10) (ix2 (bOf t) ⟨5120 + d.val, by omega⟩) := by
  unfold bOf; blk_ext! [iblk, V, idx t]

/-- The first indicator matrix, where the operations before the region leave it. -/
theorem cst_at (c : Dev nD) (k : Fin 2048) (j : Fin 16) :
    V m c main_cst (ix2 k j) = Ideal.ofBits .bf16 (lit0 (S2048x16.rowMajor (ix2 k j))) := by
  simp only [V, hostOps0]
  after_results_simp
  rfl

/-- The second indicator matrix, where the operations before the region leave it. -/
theorem cst0_at (c : Dev nD) (x : Fin 48) (k : Fin 1024) :
    V m c main_cst_0 (ix2 x k) = Ideal.ofBits .bf16 (lit1 (S48x1024.rowMajor (ix2 x k))) := by
  simp only [V, hostOps0]
  after_results_simp
  rfl

/-- An entry of the first indicator matrix, as a number. -/
theorem lit0_num (k : Fin 2048) (j : Fin 16) (i : Fin 32768) (hi : i.val = k.val * 16 + j.val) :
    Ideal.ofBits .bf16 (lit0 i) = if k.val % 1024 / 64 = j.val then 1 else 0 := by
  have e1 : i.val / 16 = k.val := by omega
  have e2 : i.val % 16 = j.val := by omega
  rw [Cert.RwkvOutLit.lit0_apply, e1, e2, apply_ite (Ideal.ofBits .bf16), Cert.Consts.one_bf16, Cert.Consts.zero_bf16]

/-- An entry of the second indicator matrix, as a number. -/
theorem lit1_num (x : Fin 48) (c : Fin 1024) (i : Fin 49152) (hi : i.val = x.val * 1024 + c.val) :
    Ideal.ofBits .bf16 (lit1 i) = if c.val / 64 = x.val % 16 then 1 else 0 := by
  have e1 : i.val / 1024 = x.val := by omega
  have e2 : i.val % 1024 = c.val := by omega
  rw [Cert.RwkvOutLit.lit1_apply, e1, e2, apply_ite (Ideal.ofBits .bf16), Cert.Consts.one_bf16, Cert.Consts.zero_bf16]

/-- The first indicator matrix gathers. -/
theorem read8 (c : Dev nD) (t : Fin cfg0.N) : Gathers fun k j => (iblk m c 8 t : Vec Ideal S2048x16 .bf16) (ix2 k j) := fun k j =>
  (congrArg (V m c main_cst) (by blk_ext [idx t] : ((win0_8.blk t).view.emb (ix2 k j) : S2048x16.Idx) = ix2 k j)).trans
    ((cst_at m c k j).trans (lit0_num k j _ (Shape.rowMajor_val_two (d := ![2048, 16]) (ix2 k j))))

/-- The second indicator matrix spreads. -/
theorem read9 (c : Dev nD) (t : Fin cfg0.N) : Spreads fun x k => (iblk m c 9 t : Vec Ideal S48x1024 .bf16) (ix2 x k) := fun x k =>
  (congrArg (V m c main_cst_0) (by blk_ext [idx t] : ((win0_9.blk t).view.emb (ix2 x k) : S48x1024.Idx) = ix2 x k)).trans
    ((cst0_at m c x k).trans (lit1_num x k _ (Shape.rowMajor_val_two (d := ![48, 1024]) (ix2 x k))))

/-- Where the output block lies in the result. -/
theorem place (t : Fin cfg0.N) (r : Fin 256) (d : Fin 1024) :
    ((win0_13.blk t).view.emb (ix3 (0 : Fin 1) r d) : S8x4096x1024.Idx) = ix3 (bOf t) (sOf t r) d := by
  unfold bOf sOf; blk_ext [idx t]

section Finite

variable (c : Dev nD) (hy : ∀ b s k, Fine (arr (m ((c : Thread nD τ).loc main_arg0)) b s k))
  (hr : ∀ b s k, Fine (arr (m ((c : Thread nD τ).loc main_arg1)) b s k)) (hk : ∀ b s k, Fine (arr (m ((c : Thread nD τ).loc main_arg2)) b s k))
  (hrk : ∀ k, Fine (rkRow (m ((c : Thread nD τ).loc main_arg7)) k))

include hy hr hk hrk

/-- A point's block holds the output numbers of its tokens. -/
theorem block_eq (t : Fin cfg0.N) (r : Fin 256) (d : Fin 1024) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix3 0 r d) = G m c (ix3 (bOf t) (sOf t r) d) := by
  refine (out_apply _ _ _ _ _ _ _ _ _ _ _ _ _ (read8 m c t) (read9 m c t) r (fun k => ?_) (fun k => ?_) d).trans ?_
  · rw [read0]; exact hy _ _ _
  · rw [read1, read2, read7]; exact ((hr _ _ _).mul (hk _ _ _)).mul (hrk _)
  · simp only [read0, read1, read2, read3, read4, read5, read6, read7, read10, read11, read12, G, outAt, ix3_0, ix3_1, ix3_2]

/-- The call's result array holds the output of every token. -/
theorem array_eq : (dats m 0 c).arrAt 13 cfg0.N = G m c := by
  refine (dats m 0 c).arrAt_eq_of_covers 13 _ (by decide +kernel) fun t hf y => ?_
  blk_simp
  rw [after0_13]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block_eq m c hy hr hk hrk t r d).trans (congrArg (G m c) (place t r d).symm)

end Finite

end Cert.RwkvOutArray

end
-- ==== Proof.RwkvOutCall.lean ====
module

public import proofs.«01_k».proof.Defs
public import proofs.«01_k».proof.Proof.RwkvOutArray
public import proofs.«01_k».proof.Proof.Gen.Reference5Ideal.Run
public import proofs.«01_k».proof.Proof.Gen.Pre_finite5
public import Idealize.ShloMosaic.Adequacy
public import Idealize.ShloMosaic.Init
public import Idealize.ShloMosaic.Lib.Quiescent

/-! The recurrence's output call: the tiled call against the plain lines. -/

@[expose] public section

set_option maxRecDepth 16384

noncomputable section

namespace Cert.RwkvOutCall

open Idealize.ShloMosaic Idealize.ShloMosaic.TcCoe Idealize.SL.Sem Cert.RwkvMath Cert.RwkvOutBlock Cert.RwkvOutArray
open scoped BigOperators

/-- A number whose absolute value compares below infinity is finite. -/
theorem fine_of_lt {x : EReal} (h : BitVec.ofBool (decide ((FloatOps.absf (F := Ideal) (φ := .f32) x : EReal) < Ideal.ofBits .f32 0x7F800000#32)) = 1#1) : Fine x := by
  rw [Cert.Consts.top_f32] at h
  refine Fine.of_abs ?_
  by_contra hn
  have e : decide ((FloatOps.absf (F := Ideal) (φ := .f32) x : EReal) < ⊤) = false := decide_eq_false hn
  rw [e] at h
  exact absurd h (by decide)

section Pre

variable [Cert.Pre_finite5.Facts] {y r k v g : FVec Ideal Cert.Pre_finite5.S8x4096x1024 .f32} {lw lb : FVec Ideal Cert.Pre_finite5.S1024 .f32}
  {rk : FVec Ideal Cert.Pre_finite5.S16x64 .f32} {W : FVec Ideal Cert.Pre_finite5.S1024x1024 .f32}
  {h : FVec Ideal Cert.Pre_finite5.S8x4096x1024 .f32} {md : FVec Ideal Cert.Pre_finite5.S8x9216 .f32}

theorem fine_y (hp : (Cert.Pre_finite5.fn (F := Ideal) y r k v g lw lb rk W h md).1 = fun _ => 1#1) (b s c) : Fine (arr y b s c) := by
  have h0 := congrFun hp (ix3 b s c)
  refine fine_of_lt (Eq.trans ?_ h0)
  pointwise [Cert.Pre_finite5.fn, arr]

theorem fine_r (hp : (Cert.Pre_finite5.fn (F := Ideal) y r k v g lw lb rk W h md).2.1 = fun _ => 1#1) (b s c) : Fine (arr r b s c) := by
  have h0 := congrFun hp (ix3 b s c)
  refine fine_of_lt (Eq.trans ?_ h0)
  pointwise [Cert.Pre_finite5.fn, arr]

theorem fine_k (hp : (Cert.Pre_finite5.fn (F := Ideal) y r k v g lw lb rk W h md).2.2.1 = fun _ => 1#1) (b s c) : Fine (arr k b s c) := by
  have h0 := congrFun hp (ix3 b s c)
  refine fine_of_lt (Eq.trans ?_ h0)
  pointwise [Cert.Pre_finite5.fn, arr]

theorem fine_rk (hp : (Cert.Pre_finite5.fn (F := Ideal) y r k v g lw lb rk W h md).2.2.2 = fun _ => 1#1) (c) : Fine (rkRow rk c) := by
  have h0 := congrFun hp (ix2 ⟨c.val / 64, by omega⟩ ⟨c.val % 64, Nat.mod_lt _ (by decide)⟩)
  refine fine_of_lt (Eq.trans ?_ h0)
  pointwise [Cert.Pre_finite5.fn, rkRow]

end Pre

/-- A head's bonus weight, as the row of channels has it. -/
theorem rkRow_at (a : Vec Ideal Cert.Kernel5Ideal.S16x64 .f32) (x : Fin 1024) (e : Fin 64) (h : x.val / 64 * 64 + e.val < 1024) :
    rkRow a ⟨x.val / 64 * 64 + e.val, h⟩ = a (ix2 ⟨x.val / 64, by omega⟩ e) :=
  congrArg₂ (fun i j => a (ix2 i j)) (Fin.ext (by show (x.val / 64 * 64 + e.val) / 64 = x.val / 64; omega))
    (Fin.ext (by show (x.val / 64 * 64 + e.val) % 64 = e.val; omega))

/-- A channel's head, found again from any channel of the head. -/
theorem head_again (x : Fin 1024) (e : Fin 64) : (x.val / 64 * 64 + e.val) / 64 = x.val / 64 := by omega

/-- The plain lines end with their arguments unchanged and no counter raised. -/
theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- So they do when the finiteness condition holds. -/
theorem quiescent_Reference5Ideal_pre : quiescent_Reference5Ideal_pre_finite5 := fun m ρ _ =>
  (θ_run Cert.Reference5Ideal.defs _ _).mono (fun r h => ⟨fun c => (h c).2, sem_eq_zero_of_no_sems (by decide) r.2⟩)
    (Cert.Reference5Ideal.Value.run (F := Ideal) m ρ)

/-- From memories that agree on the arguments and whose `y`, `r`, `k` and `r_k` are finite, the call and the plain lines leave the same array. -/
theorem algebraic_Kernel5Ideal_Reference5Ideal_pre_finite5 : algebraic_Kernel5Ideal_Reference5Ideal_pre_finite5 := by
  intro m ρ m' ρ' hpre hagree
  refine ⟨_, Cert.Kernel5Ideal.Value.run_blocks (F := Ideal) m ρ, ?_⟩
  refine (θ_run Cert.Reference5Ideal.defs _ _).mono (fun _ h c => ⟨?_, (h c).2⟩) (Cert.Reference5Ideal.Value.run (F := Ideal) m' ρ')
  rw [(h c).1, array_eq m c (fine_y (hpre c).1) (fine_r (hpre c).2.1) (fine_k (hpre c).2.2.1) (fine_rk (hpre c).2.2.2)]
  funext i
  obtain ⟨b, s, d, rfl⟩ : ∃ (b : Fin 8) (s : Fin 4096) (d : Fin 1024), i = ix3 b s d :=
    ⟨i 0, i 1, i 2, eq_ix3 (n0 := 8) (n1 := 4096) (n2 := 1024) i⟩
  clean_types
  pointwise [G, outAt, outRow, centred, spreadOf, headSum, headOf]
  simp only [hagree c, arr, rkRow_at, head_again, Cert.Consts.sixtyfourth]

end Cert.RwkvOutCall

end
-- ==== Proof.RwkvInMath.lean ====
module

public import proofs.«01_k».proof.Proof.FfnMath
public import proofs.«01_k».proof.Proof.RwkvMath

/-! The numbers that the recurrence's input call computes for one token, as plain functions over the extended reals. -/

@[expose] public section

noncomputable section

namespace Cert.RwkvInMath

open Idealize.ShloMosaic Cert.RwkvMath Cert.FfnMath
open scoped BigOperators

/-- A channel moved towards the token before by `mu`. -/
def mix (u xx mu : Fin 1024 → EReal) (c : Fin 1024) : EReal := u c + xx c * mu c

/-- A row times a matrix. -/
def lin {n p : Nat} (x : Fin n → EReal) (W : Fin n → Fin p → EReal) (d : Fin p) : EReal := ∑ c, x c * W c d

/-- The logistic function. -/
def sigm (x : EReal) : EReal := Ideal.div 1 (1 + Ideal.exp (-x))

/-- Minus the exponential of minus the softplus of `-x`, less a half. -/
def logDecay (x : EReal) : EReal :=
  -Ideal.exp (-(max (-x) 0 + Ideal.log (1 + Ideal.exp (-max (-x) (-(-x))))) - Ideal.ofBits .f32 0x3F000000#32)

/-- A key divided by its head's length. -/
def unit (k : Fin 1024 → EReal) (c : Fin 1024) : EReal :=
  Ideal.div (k c) (max (Ideal.sqrt (headSum (fun j => k j * k j) (headOf c))) (Ideal.ofBits .f32 0x2B8CBCCC#32))

/-- A key changed by the learning rate `a`. -/
def renewed (k a ka : EReal) : EReal := k * (1 + (a - 1) * ka)

theorem Fine.div {x : EReal} (hx : Fine x) {y : ℝ} (hy : y ≠ 0) : Fine (Ideal.div x (y : EReal)) := by
  obtain ⟨a, rfl⟩ := hx
  refine ⟨a * y⁻¹, ?_⟩
  unfold Ideal.div
  rw [if_neg (by exact_mod_cast hy), ← EReal.coe_inv, ← EReal.coe_mul]

theorem Fine.one : Fine 1 := ⟨1, EReal.coe_one.symm⟩

/-- The reciprocal root of a sum of squares' mean with a positive addend is finite. -/
theorem fine_rsqrt {f : Fin 1024 → EReal} (hf : ∀ k, Fine (f k)) :
    Fine (Ideal.rsqrt (Ideal.div (∑ j, f j * f j) (Ideal.ofBits .f32 0x44800000#32) + Ideal.ofBits .f32 0x358637BD#32)) := by
  obtain ⟨e, he, h⟩ := Cert.Consts.addend
  choose g hg using hf
  have hs : ∑ j, f j * f j = ((∑ j, g j * g j : ℝ) : EReal) := by
    refine Finset.sum_hom_rel (r := fun (x : EReal) (y : ℝ) => x = (y : EReal)) EReal.coe_zero.symm fun j b c hb => ?_
    rw [hb, hg, EReal.coe_add, EReal.coe_mul]
  have hd : Ideal.div (∑ j, f j * f j) (Ideal.ofBits .f32 0x44800000#32) = (((∑ j, g j * g j) * (1024 : ℝ)⁻¹ : ℝ) : EReal) := by
    rw [hs, Cert.Consts.c1024]
    unfold Ideal.div
    rw [if_neg (by exact_mod_cast (by norm_num : (1024 : ℝ) ≠ 0)), ← EReal.coe_inv, ← EReal.coe_mul]
  have hp : 0 < (∑ j, g j * g j) * (1024 : ℝ)⁻¹ + e :=
    add_pos_of_nonneg_of_pos (mul_nonneg (Finset.sum_nonneg fun j _ => mul_self_nonneg _) (by norm_num)) he
  rw [hd, h, ← EReal.coe_add]
  refine ⟨(Real.sqrt ((∑ j, g j * g j) * (1024 : ℝ)⁻¹ + e))⁻¹, ?_⟩
  show (if _ < (0 : ℝ) then ⊥ else if _ = (0 : ℝ) then ⊤ else _) = _
  rw [if_neg (not_lt.mpr hp.le), if_neg hp.ne']

theorem fine_modRow {h sh sc : Fin 1024 → EReal} (hh : ∀ k, Fine (h k)) (h1 : ∀ k, Fine (sh k)) (h2 : ∀ k, Fine (sc k)) (k : Fin 1024) :
    Fine (modRow h sh sc k) := (((hh k).mul (fine_rsqrt hh)).mul (Fine.one.add (h2 k))).add (h1 k)

theorem fine_lin {n p : Nat} {x : Fin n → EReal} {W : Fin n → Fin p → EReal} (hx : ∀ c, Fine (x c)) (hW : ∀ c d, Fine (W c d)) (d : Fin p) :
    Fine (lin x W d) := Fine.sum fun c => (hx c).mul (hW c d)

end Cert.RwkvInMath

end
-- ==== Proof.RwkvInBlock.lean ====
module

public import proofs.«01_k».proof.Proof.RwkvInMath
public import proofs.«01_k».proof.Proof.Gen.Kernel6Ideal.Value
public import Idealize.ShloMosaic.Lib.Pipeline.ValueKit
public import Idealize.ShloMosaic.Lib.Pointwise

/-! What one grid point of the recurrence's input call leaves in its output blocks, number by number. -/

@[expose] public section

set_option maxRecDepth 16384

noncomputable section

namespace Cert.RwkvInBlock

open Idealize.ShloMosaic Idealize.SL.Sem Cert.RwkvMath Cert.FfnMath Cert.RwkvInMath Cert.Kernel6Ideal Cert.Kernel6Ideal.Gen
open scoped BigOperators

section Payloads

/-- A modulated row of the tile. -/
theorem pay5_apply (v0 v2 : Vec Ideal S1x1x1x1024 .f32) (v4 : Vec Ideal S1x256x1024 .f32) (r : Fin 256) (c : Fin 1024) :
    k0_pay5 v0 v2 v4 (ix2 r c)
      = modRow (fun k => v4 (ix3 0 r k)) (fun k => v0 (ix4 0 0 0 k)) (fun k => v2 (ix4 0 0 0 k)) c := by
  pointwise [k0_pay5, k0_pay3, k0_pay4, modRow]

/-- The last row of the eight before the tile, modulated. -/
theorem before_apply (v0 v2 : Vec Ideal S1x1x1x1024 .f32) (v22 : Vec Ideal S1x8x1024 .f32) (c : Fin 1024) :
    k0_pay6 v22 (ix2 7 c) * k0_pay7 v2 (ix2 0 c) + k0_pay3 v0 (ix2 0 c)
      = modRow (fun k => v22 (ix3 0 7 k)) (fun k => v0 (ix4 0 0 0 k)) (fun k => v2 (ix4 0 0 0 k)) c := by
  pointwise [k0_pay6, k0_pay7, k0_pay3, k0_pay4, modRow]

/-- Choosing by a comparison of words for equality. -/
theorem select_eq {α : Type} (a b : BitVec 32) (x y : α) : Scalar.select (IntOp.cmpi .eq a b) x y = if a = b then x else y := by
  by_cases h : a = b
  · subst h
    simp [Scalar.select, IntOp.cmpi]
  · have e : (a == b) = false := beq_eq_false_iff_ne.mpr h
    simp [Scalar.select, IntOp.cmpi, e, h]

/-- A row number of the tile, as a word, is nought only for the first row. -/
theorem word_eq (r : Fin 256) : BitVec.ofNat 32 r.val = 0#32 ↔ r.val = 0 := by
  constructor
  · intro h
    have e := congrArg BitVec.toNat h
    rw [BitVec.toNat_ofNat, BitVec.toNat_ofNat] at e
    omega
  · intro h
    rw [h]

/-- The row before less the row. -/
theorem pay8_apply (arg1 : BitVec 32) (v1 : Vec Ideal S1x1024 .f32) (v21 : Vec Ideal S256x1024 .f32) (v33 : Vec Ideal S8x1024 .f32)
    (v35 : Vec Ideal S1x1024 .f32) (r : Fin 256) (c : Fin 1024) :
    k0_pay8 (F := Ideal) arg1 v1 v21 v33 v35 (ix2 r c)
      = (if r.val = 0 then (if arg1 = 0#32 then 0 else v33 (ix2 7 c) * v35 (ix2 0 c) + v1 (ix2 0 c))
          else v21 (ix2 ⟨(r.val + 256 - 1) % 256, Nat.mod_lt _ (by decide)⟩ c)) - v21 (ix2 r c) := by
  pointwise [k0_pay8, Scalar.cmpi]
  simp only [select_eq, word_eq]

end Payloads

/-- A mixed row times a matrix. -/
theorem pay14_apply (v21 v53 : Vec Ideal S256x1024 .f32) (v91 : Vec Ideal S1x1024 .f32) (v96 : Vec Ideal S1x1024x1024 .bf16) (r : Fin 256) (d : Fin 1024) :
    k0_pay14 v21 v53 v91 v96 (ix2 r d)
      = lin (mix (fun k => v21 (ix2 r k)) (fun k => v53 (ix2 r k)) (fun k => v91 (ix2 0 k))) (fun k d => v96 (ix3 0 k d)) d := by
  pointwise [k0_pay14, lin, mix]

theorem pay17_apply (v21 v53 : Vec Ideal S256x1024 .f32) (v91 : Vec Ideal S1x1024 .f32) (v96 : Vec Ideal S1x1024x1024 .bf16) (r : Fin 256) (d : Fin 1024) :
    k0_pay17 v21 v53 v91 v96 (ix3 0 r d)
      = lin (mix (fun k => v21 (ix2 r k)) (fun k => v53 (ix2 r k)) (fun k => v91 (ix2 0 k))) (fun k d => v96 (ix3 0 k d)) d := by
  pointwise [k0_pay17, lin, mix]

theorem pay2_apply (v21 v53 : Vec Ideal S256x1024 .f32) (v91 : Vec Ideal S1x1024 .f32) (v96 : Vec Ideal S1x1024x1024 .bf16) (r : Fin 256) (d : Fin 1024) :
    k0_pay2 v21 v53 v91 v96 (ix3 0 r d)
      = lin (mix (fun k => v21 (ix2 r k)) (fun k => v53 (ix2 r k)) (fun k => v91 (ix2 0 k))) (fun k d => v96 (ix3 0 k d)) d := by
  pointwise [k0_pay2, lin, mix]

/-- The low-rank learning rate of a mixed row. -/
theorem rate_apply (arg1 : BitVec 32) (v1 : Vec Ideal S1x1024 .f32) (v21 : Vec Ideal S256x1024 .f32) (v33 : Vec Ideal S8x1024 .f32)
    (v35 : Vec Ideal S1x1024 .f32) (v71 : Vec Ideal S1x1024 .f32) (v76 : Vec Ideal S1024x64 .bf16) (v80 : Vec Ideal S64x1024 .bf16)
    (v132 : Vec Ideal S1x1024 .f32) (r : Fin 256) (d : Fin 1024) :
    k0_pay18 (k0_pay12 (k0_pay10 arg1 v1 v21 v33 v35 v71) (k0_pay11 v76) v80) v132 (ix2 r d)
      = sigm (v132 (ix2 0 d) + lin (lin (mix (fun k => v21 (ix2 r k)) (fun k => k0_pay8 (F := Ideal) arg1 v1 v21 v33 v35 (ix2 r k))
          (fun k => v71 (ix2 0 k))) (fun k j => v76 (ix2 k j))) (fun j d => v80 (ix2 j d)) d) := by
  pointwise [k0_pay18, k0_pay12, k0_pay10, k0_pay11, lin, mix, sigm, Ideal.logistic]

/-- The gate of a mixed row. -/
theorem gate_apply (v21 v53 : Vec Ideal S256x1024 .f32) (v83 : Vec Ideal S1x1024 .f32) (v88 : Vec Ideal S1024x160 .bf16)
    (v139 : Vec Ideal S160x1024 .bf16) (r : Fin 256) (d : Fin 1024) :
    k0_pay19 (k0_pay13 v21 v53 v83 v88) v139 (ix3 0 r d)
      = lin (fun j => sigm (lin (mix (fun k => v21 (ix2 r k)) (fun k => v53 (ix2 r k)) (fun k => v83 (ix2 0 k))) (fun k j => v88 (ix2 k j)) j))
          (fun j d => v139 (ix2 j d)) d := by
  pointwise [k0_pay19, k0_pay13, lin, mix, sigm, Ideal.logistic]

/-- The logarithm of the decay. -/
theorem decay_apply (arg1 : BitVec 32) (v1 : Vec Ideal S1x1024 .f32) (v21 : Vec Ideal S256x1024 .f32) (v33 : Vec Ideal S8x1024 .f32)
    (v35 : Vec Ideal S1x1024 .f32) (v54 v56 : Vec Ideal S1x1024 .f32) (v61 : Vec Ideal S1024x64 .bf16) (v66 : Vec Ideal S64x1024 .bf16)
    (r : Fin 256) (d : Fin 1024) :
    k0_pay16 (k0_pay15 (k0_pay9 arg1 v1 v21 v33 v35 v54 v56 v61 v66)) (Scalar.ofBits .f32 0x00000000#32) (ix3 0 r d)
      = logDecay (v54 (ix2 0 d) + lin (fun j => Ideal.tanh (lin (mix (fun k => v21 (ix2 r k)) (fun k => k0_pay8 (F := Ideal) arg1 v1 v21 v33 v35 (ix2 r k))
          (fun k => v56 (ix2 0 k))) (fun k j => v61 (ix2 k j)) j)) (fun j d => v66 (ix2 j d)) d) := by
  pointwise [k0_pay16, k0_pay15, k0_pay9, lin, mix, logDecay]
  simp only [zero_sub]
  rfl

/-- A key divided by its head's length. -/
theorem pay23_apply {v155 : Vec Ideal S2048x16 .bf16} {v165 : Vec Ideal S48x1024 .bf16} (h7 : Gathers fun k j => v155 (ix2 k j))
    (h17 : Spreads fun x c => v165 (ix2 x c)) (v98 : Vec Ideal S256x1024 .f32) (v145 : Vec Ideal S1x1024 .f32) (r : Fin 256)
    (hf : ∀ k, Fine (v98 (ix2 r k) * v145 (ix2 0 k))) (c : Fin 1024) :
    k0_pay23 (k0_pay20 v98 v145) (k0_pay21 v98 v145) (k0_pay22 v98 v145) v155 v165 (ix2 r c)
      = unit (fun k => v98 (ix2 r k) * v145 (ix2 0 k)) c := by
  have hq : ∀ k, Fine (v98 (ix2 r k) * v145 (ix2 0 k) * (v98 (ix2 r k) * v145 (ix2 0 k))) := fun k => (hf k).mul (hf k)
  pointwise [k0_pay23, k0_pay22, k0_pay21, k0_pay20, unit]
  simp only [gather hq h7]
  rw [spread (fun j => Fine.headSum hq j) h17]

theorem pay24_apply (v98 v136 : Vec Ideal S256x1024 .f32) (v173 : Vec Ideal S1x1024 .f32) (r : Fin 256) (d : Fin 1024) :
    k0_pay24 v98 v136 v173 (ix3 0 r d) = renewed (v98 (ix2 r d)) (v136 (ix2 r d)) (v173 (ix2 0 d)) := by
  pointwise [k0_pay24, renewed]

section Loads

/-! A load of a whole block is the block; a load of one row of the weights, or of one matrix of the stack, is that row or matrix. -/

theorem ld_0 (x : Vec Ideal S1x1x1x1024 .f32) : View.ld x r0_0 = x := View.ld_unit_zero (by decide) _ _

theorem ld_1 (x : Vec Ideal S1x256x1024 .f32) : View.ld x r0_1 = x := View.ld_unit_zero (by decide) _ _

theorem ld_2 (x : Vec Ideal S1x8x1024 .f32) : View.ld x r0_2 = x := View.ld_unit_zero (by decide) _ _

theorem ld_3 (x : Vec Ideal S1x1024 .f32) : View.ld x r0_3 = x := View.ld_unit_zero (by decide) _ _

theorem ld_5 (x : Vec Ideal S1024x64 .bf16) : View.ld x r0_5 = x := View.ld_unit_zero (by decide) _ _

theorem ld_6 (x : Vec Ideal S64x1024 .bf16) : View.ld x r0_6 = x := View.ld_unit_zero (by decide) _ _

theorem ld_9 (x : Vec Ideal S1024x160 .bf16) : View.ld x r0_9 = x := View.ld_unit_zero (by decide) _ _

theorem ld_14 (x : Vec Ideal S160x1024 .bf16) : View.ld x r0_14 = x := View.ld_unit_zero (by decide) _ _

theorem ld_15 (x : Vec Ideal S2048x16 .bf16) : View.ld x r0_15 = x := View.ld_unit_zero (by decide) _ _

theorem ld_16 (x : Vec Ideal S48x1024 .bf16) : View.ld x r0_16 = x := View.ld_unit_zero (by decide) _ _

theorem ld_mu0 (x : Vec Ideal S6x1024 .f32) (k : Fin 1024) : (View.ld x r0_12 : Vec Ideal S1x1024 .f32) (ix2 0 k) = x (ix2 0 k) := by pointwise []

theorem ld_mu1 (x : Vec Ideal S6x1024 .f32) (k : Fin 1024) : (View.ld x r0_10 : Vec Ideal S1x1024 .f32) (ix2 0 k) = x (ix2 1 k) := by pointwise []

theorem ld_mu2 (x : Vec Ideal S6x1024 .f32) (k : Fin 1024) : (View.ld x r0_17 : Vec Ideal S1x1024 .f32) (ix2 0 k) = x (ix2 2 k) := by pointwise []

theorem ld_mu3 (x : Vec Ideal S6x1024 .f32) (k : Fin 1024) : (View.ld x r0_4 : Vec Ideal S1x1024 .f32) (ix2 0 k) = x (ix2 3 k) := by pointwise []

theorem ld_mu4 (x : Vec Ideal S6x1024 .f32) (k : Fin 1024) : (View.ld x r0_7 : Vec Ideal S1x1024 .f32) (ix2 0 k) = x (ix2 4 k) := by pointwise []

theorem ld_mu5 (x : Vec Ideal S6x1024 .f32) (k : Fin 1024) : (View.ld x r0_8 : Vec Ideal S1x1024 .f32) (ix2 0 k) = x (ix2 5 k) := by pointwise []

theorem ld_w0 (x : Vec Ideal S3x1024x1024 .bf16) (k d : Fin 1024) : (View.ld x r0_13 : Vec Ideal S1x1024x1024 .bf16) (ix3 0 k d) = x (ix3 0 k d) := by pointwise []

theorem ld_w1 (x : Vec Ideal S3x1024x1024 .bf16) (k d : Fin 1024) : (View.ld x r0_11 : Vec Ideal S1x1024x1024 .bf16) (ix3 0 k d) = x (ix3 1 k d) := by pointwise []

theorem ld_w2 (x : Vec Ideal S3x1024x1024 .bf16) (k d : Fin 1024) : (View.ld x r0_18 : Vec Ideal S1x1024x1024 .bf16) (ix3 0 k d) = x (ix3 2 k d) := by pointwise []

end Loads

section Outs

variable (i : grid0.Coords) (x0 : Vec Ideal S1x256x1024 .f32) (x1 : Vec Ideal S1x8x1024 .f32) (x2 : Vec Ideal S1x1x1x1024 .f32)
  (x3 : Vec Ideal S1x1x1x1024 .f32) (x4 : Vec Ideal S6x1024 .f32) (x5 : Vec Ideal S3x1024x1024 .bf16) (x6 : Vec Ideal S1x1024 .f32)
  (x7 : Vec Ideal S1024x64 .bf16) (x8 : Vec Ideal S64x1024 .bf16) (x9 : Vec Ideal S1x1024 .f32) (x10 : Vec Ideal S1024x64 .bf16)
  (x11 : Vec Ideal S64x1024 .bf16) (x12 : Vec Ideal S1024x160 .bf16) (x13 : Vec Ideal S160x1024 .bf16) (x14 : Vec Ideal S1x1024 .f32)
  (x15 : Vec Ideal S1x1024 .f32) (x16 : Vec Ideal S2048x16 .bf16) (x17 : Vec Ideal S48x1024 .bf16)

/-- A row of the tile, modulated. -/
def uRow (x0 : Vec Ideal S1x256x1024 .f32) (x2 x3 : Vec Ideal S1x1x1x1024 .f32) (r : Fin 256) : Fin 1024 → EReal :=
  modRow (fun k => x0 (ix3 0 r k)) (fun k => x2 (ix4 0 0 0 k)) (fun k => x3 (ix4 0 0 0 k))

/-- The row before less the row, both modulated; before the first token there are noughts. -/
def backRow (i : grid0.Coords) (x0 : Vec Ideal S1x256x1024 .f32) (x1 : Vec Ideal S1x8x1024 .f32) (x2 x3 : Vec Ideal S1x1x1x1024 .f32)
    (r : Fin 256) (c : Fin 1024) : EReal :=
  (if r.val = 0 then (if BitVec.ofNat 32 (i 1).val = 0#32 then 0
      else modRow (fun k => x1 (ix3 0 7 k)) (fun k => x2 (ix4 0 0 0 k)) (fun k => x3 (ix4 0 0 0 k)) c)
    else uRow x0 x2 x3 ⟨(r.val + 256 - 1) % 256, Nat.mod_lt _ (by decide)⟩ c) - uRow x0 x2 x3 r c

theorem pay28_apply (r : Fin 256) (c : Fin 1024) : k0_pay28 i x0 x1 x2 x3 x4 x5 x6 x7 x8 x9 x10 x11 x12 x13 x14 x15 x16 x17 (ix2 r c) = uRow x0 x2 x3 r c := by
  unfold k0_pay28
  rw [ld_0, ld_0, ld_1]
  exact pay5_apply _ _ _ _ _

theorem back_apply (r : Fin 256) (c : Fin 1024) :
    k0_pay8 (F := Ideal) (BitVec.ofNat 32 (i 1).val) (k0_pay27 i x0 x1 x2 x3 x4 x5 x6 x7 x8 x9 x10 x11 x12 x13 x14 x15 x16 x17) (k0_pay28 i x0 x1 x2 x3 x4 x5 x6 x7 x8 x9 x10 x11 x12 x13 x14 x15 x16 x17) (k0_pay29 i x0 x1 x2 x3 x4 x5 x6 x7 x8 x9 x10 x11 x12 x13 x14 x15 x16 x17) (k0_pay30 i x0 x1 x2 x3 x4 x5 x6 x7 x8 x9 x10 x11 x12 x13 x14 x15 x16 x17) (ix2 r c)
      = backRow i x0 x1 x2 x3 r c := by
  rw [pay8_apply]
  simp only [pay28_apply, backRow]
  unfold k0_pay27 k0_pay29 k0_pay30
  rw [ld_0, ld_0, ld_2, before_apply]

theorem pay31_apply (r : Fin 256) (c : Fin 1024) : k0_pay31 i x0 x1 x2 x3 x4 x5 x6 x7 x8 x9 x10 x11 x12 x13 x14 x15 x16 x17 (ix2 r c) = backRow i x0 x1 x2 x3 r c := by
  unfold k0_pay31
  exact back_apply i x0 x1 x2 x3 x4 x5 x6 x7 x8 x9 x10 x11 x12 x13 x14 x15 x16 x17 r c

/-- The tile's row moved towards the row before by row `n` of the weights. -/
def mixRow (i : grid0.Coords) (x0 : Vec Ideal S1x256x1024 .f32) (x1 : Vec Ideal S1x8x1024 .f32) (x2 x3 : Vec Ideal S1x1x1x1024 .f32)
    (x4 : Vec Ideal S6x1024 .f32) (n : Fin 6) (r : Fin 256) : Fin 1024 → EReal :=
  mix (uRow x0 x2 x3 r) (backRow i x0 x1 x2 x3 r) (fun k => x4 (ix2 n k))

/-- The keys of a point, before their renewal. -/
theorem pay32_apply (r : Fin 256) (d : Fin 1024) :
    k0_pay32 i x0 x1 x2 x3 x4 x5 x6 x7 x8 x9 x10 x11 x12 x13 x14 x15 x16 x17 (ix2 r d) = lin (mixRow i x0 x1 x2 x3 x4 1 r) (fun k d => x5 (ix3 1 k d)) d := by
  unfold k0_pay32
  rw [pay14_apply]
  simp only [pay28_apply, pay31_apply]
  exact congrArg₂ (fun a b => lin (mix (uRow x0 x2 x3 r) (backRow i x0 x1 x2 x3 r) a) b d) (funext (ld_mu1 x4)) (funext₂ (ld_w1 x5))

/-- The learning rates of a point. -/
theorem pay33_apply (r : Fin 256) (d : Fin 1024) :
    k0_pay33 i x0 x1 x2 x3 x4 x5 x6 x7 x8 x9 x10 x11 x12 x13 x14 x15 x16 x17 (ix2 r d)
      = sigm (x9 (ix2 0 d) + lin (lin (mixRow i x0 x1 x2 x3 x4 4 r) (fun k j => x10 (ix2 k j))) (fun j d => x11 (ix2 j d)) d) := by
  unfold k0_pay33
  rw [ld_3, ld_5, ld_6, rate_apply]
  simp only [pay28_apply, back_apply]
  exact congrArg (fun a => sigm (x9 (ix2 0 d) + lin (lin (mix (uRow x0 x2 x3 r) (backRow i x0 x1 x2 x3 r) a) (fun k j => x10 (ix2 k j)))
    (fun j d => x11 (ix2 j d)) d)) (funext (ld_mu4 x4))

/-- The receptances of a point. -/
theorem out18_apply (r : Fin 256) (d : Fin 1024) :
    out0_18 i x0 x1 x2 x3 x4 x5 x6 x7 x8 x9 x10 x11 x12 x13 x14 x15 x16 x17 (ix3 0 r d) = lin (mixRow i x0 x1 x2 x3 x4 0 r) (fun k d => x5 (ix3 0 k d)) d := by
  unfold out0_18
  frame_out
  rw [pay17_apply]
  simp only [pay28_apply, pay31_apply]
  exact congrArg₂ (fun a b => lin (mix (uRow x0 x2 x3 r) (backRow i x0 x1 x2 x3 r) a) b d) (funext (ld_mu0 x4)) (funext₂ (ld_w0 x5))

/-- The logarithms of a point's decays. -/
theorem out19_apply (r : Fin 256) (d : Fin 1024) :
    out0_19 i x0 x1 x2 x3 x4 x5 x6 x7 x8 x9 x10 x11 x12 x13 x14 x15 x16 x17 (ix3 0 r d)
      = logDecay (x6 (ix2 0 d) + lin (fun j => Ideal.tanh (lin (mixRow i x0 x1 x2 x3 x4 3 r) (fun k j => x7 (ix2 k j)) j))
          (fun j d => x8 (ix2 j d)) d) := by
  unfold out0_19
  frame_out
  rw [decay_apply]
  simp only [pay28_apply, back_apply]
  exact congrArg (fun a => logDecay (x6 (ix2 0 d) + lin (fun j => Ideal.tanh (lin (mix (uRow x0 x2 x3 r) (backRow i x0 x1 x2 x3 r) a)
    (fun k j => x7 (ix2 k j)) j)) (fun j d => x8 (ix2 j d)) d)) (funext (ld_mu3 x4))

/-- The renewed keys of a point. -/
theorem out20_apply (r : Fin 256) (d : Fin 1024) :
    out0_20 i x0 x1 x2 x3 x4 x5 x6 x7 x8 x9 x10 x11 x12 x13 x14 x15 x16 x17 (ix3 0 r d)
      = renewed (lin (mixRow i x0 x1 x2 x3 x4 1 r) (fun k d => x5 (ix3 1 k d)) d)
          (sigm (x9 (ix2 0 d) + lin (lin (mixRow i x0 x1 x2 x3 x4 4 r) (fun k j => x10 (ix2 k j))) (fun j d => x11 (ix2 j d)) d))
          (x15 (ix2 0 d)) := by
  unfold out0_20
  frame_out
  rw [pay24_apply, pay32_apply, pay33_apply]

/-- The values of a point. -/
theorem out21_apply (r : Fin 256) (d : Fin 1024) :
    out0_21 i x0 x1 x2 x3 x4 x5 x6 x7 x8 x9 x10 x11 x12 x13 x14 x15 x16 x17 (ix3 0 r d) = lin (mixRow i x0 x1 x2 x3 x4 2 r) (fun k d => x5 (ix3 2 k d)) d := by
  unfold out0_21
  frame_out
  rw [pay2_apply]
  simp only [pay28_apply, pay31_apply]
  exact congrArg₂ (fun a b => lin (mix (uRow x0 x2 x3 r) (backRow i x0 x1 x2 x3 r) a) b d) (funext (ld_mu2 x4)) (funext₂ (ld_w2 x5))

/-- The gates of a point. -/
theorem out24_apply (r : Fin 256) (d : Fin 1024) :
    out0_24 i x0 x1 x2 x3 x4 x5 x6 x7 x8 x9 x10 x11 x12 x13 x14 x15 x16 x17 (ix3 0 r d)
      = lin (fun j => sigm (lin (mixRow i x0 x1 x2 x3 x4 5 r) (fun k j => x12 (ix2 k j)) j)) (fun j d => x13 (ix2 j d)) d := by
  unfold out0_24
  frame_out
  rw [gate_apply]
  simp only [pay28_apply, pay31_apply]
  exact congrArg (fun a => lin (fun j => sigm (lin (mix (uRow x0 x2 x3 r) (backRow i x0 x1 x2 x3 r) a) (fun k j => x12 (ix2 k j)) j))
    (fun j d => x13 (ix2 j d)) d) (funext (ld_mu5 x4))

/-- A key of a point times its weight, as its length is taken of. -/
def keyRow (i : grid0.Coords) (x0 : Vec Ideal S1x256x1024 .f32) (x1 : Vec Ideal S1x8x1024 .f32) (x2 x3 : Vec Ideal S1x1x1x1024 .f32)
    (x4 : Vec Ideal S6x1024 .f32) (x5 : Vec Ideal S3x1024x1024 .bf16) (x14 : Vec Ideal S1x1024 .f32) (r : Fin 256) (d : Fin 1024) : EReal :=
  lin (mixRow i x0 x1 x2 x3 x4 1 r) (fun k d => x5 (ix3 1 k d)) d * x14 (ix2 0 d)

variable {x16 x17} in
/-- The unit keys of a point. -/
theorem unit_apply (h16 : Gathers fun k j => x16 (ix2 k j)) (h17 : Spreads fun x c => x17 (ix2 x c)) (r : Fin 256)
    (hf : ∀ k, Fine (keyRow i x0 x1 x2 x3 x4 x5 x14 r k)) (d : Fin 1024) :
    k0_pay23 (k0_pay34 i x0 x1 x2 x3 x4 x5 x6 x7 x8 x9 x10 x11 x12 x13 x14 x15 x16 x17) (k0_pay35 i x0 x1 x2 x3 x4 x5 x6 x7 x8 x9 x10 x11 x12 x13 x14 x15 x16 x17) (k0_pay36 i x0 x1 x2 x3 x4 x5 x6 x7 x8 x9 x10 x11 x12 x13 x14 x15 x16 x17) x16 x17 (ix2 r d)
      = unit (keyRow i x0 x1 x2 x3 x4 x5 x14 r) d := by
  unfold k0_pay34 k0_pay35 k0_pay36
  rw [ld_3, pay23_apply h16 h17 _ _ r (fun k => by rw [pay32_apply]; exact hf k)]
  simp only [pay32_apply]
  rfl

variable {x16 x17} in
theorem out22_apply (h16 : Gathers fun k j => x16 (ix2 k j)) (h17 : Spreads fun x c => x17 (ix2 x c)) (r : Fin 256)
    (hf : ∀ k, Fine (keyRow i x0 x1 x2 x3 x4 x5 x14 r k)) (d : Fin 1024) :
    out0_22 i x0 x1 x2 x3 x4 x5 x6 x7 x8 x9 x10 x11 x12 x13 x14 x15 x16 x17 (ix3 0 r d) = unit (keyRow i x0 x1 x2 x3 x4 x5 x14 r) d := by
  unfold out0_22
  frame_out
  refine Eq.trans ?_ (unit_apply i x0 x1 x2 x3 x4 x5 x6 x7 x8 x9 x10 x11 x12 x13 x14 x15 h16 h17 r hf d)
  pointwise [k0_pay25]

variable {x16 x17} in
/-- The unit keys of a point times the learning rates. -/
theorem out23_apply (h16 : Gathers fun k j => x16 (ix2 k j)) (h17 : Spreads fun x c => x17 (ix2 x c)) (r : Fin 256)
    (hf : ∀ k, Fine (keyRow i x0 x1 x2 x3 x4 x5 x14 r k)) (d : Fin 1024) :
    out0_23 i x0 x1 x2 x3 x4 x5 x6 x7 x8 x9 x10 x11 x12 x13 x14 x15 x16 x17 (ix3 0 r d) = unit (keyRow i x0 x1 x2 x3 x4 x5 x14 r) d
      * sigm (x9 (ix2 0 d) + lin (lin (mixRow i x0 x1 x2 x3 x4 4 r) (fun k j => x10 (ix2 k j))) (fun j d => x11 (ix2 j d)) d) := by
  unfold out0_23
  frame_out
  refine Eq.trans ?_ (congrArg₂ (· * ·) (unit_apply i x0 x1 x2 x3 x4 x5 x6 x7 x8 x9 x10 x11 x12 x13 x14 x15 h16 h17 r hf d)
    (pay33_apply i x0 x1 x2 x3 x4 x5 x6 x7 x8 x9 x10 x11 x12 x13 x14 x15 x16 x17 r d))
  pointwise [k0_pay1, k0_pay26]

end Outs

end Cert.RwkvInBlock

end
-- ==== Proof.RwkvInArray.lean ====
module

public import proofs.«01_k».proof.Proof.RwkvInBlock
public import proofs.«01_k».proof.Proof.RwkvOutArray
public import Idealize.ShloMosaic.Lib.Tactic.CleanTypes

/-! The arrays that the recurrence's input call leaves. -/

@[expose] public section

set_option maxRecDepth 16384

noncomputable section

namespace Cert.RwkvInArray

open Idealize.ShloMosaic Idealize.ShloMosaic.TcCoe Idealize.SL.Sem Cert.RwkvMath Cert.FfnMath Cert.RwkvInMath Cert.RwkvInBlock
open Cert.Kernel6Ideal Cert.Kernel6Ideal.Gen
open scoped BigOperators

section Spec

variable (h : Fin 8 → Fin 4096 → Fin 1024 → EReal) (md : Fin 8 → Fin 9216 → EReal) (mu : Fin 6 → Fin 1024 → EReal)
  (W : Fin 3 → Fin 1024 → Fin 1024 → EReal)

/-- A token's row, modulated by the second step's shift and scale. -/
def uAt (b : Fin 8) (s : Fin 4096) : Fin 1024 → EReal :=
  modRow (h b s) (fun k => md b ⟨3072 + k.val, by omega⟩) (fun k => md b ⟨4096 + k.val, by omega⟩)

/-- The token before, noughts before the first, less the token; both modulated. -/
def xAt (b : Fin 8) (s : Fin 4096) (c : Fin 1024) : EReal :=
  (if s.val = 0 then 0 else uAt h md b ⟨s.val - 1, by omega⟩ c) - uAt h md b s c

/-- A token's row moved towards the token before by row `n` of the weights. -/
def mAt (n : Fin 6) (b : Fin 8) (s : Fin 4096) : Fin 1024 → EReal := mix (uAt h md b s) (xAt h md b s) (mu n)

/-- A token's receptance, key or value, by the number `n` of its projection. -/
def projAt (n : Fin 3) (b : Fin 8) (s : Fin 4096) : Fin 1024 → EReal := lin (mAt h md mu ⟨n.val, by omega⟩ b s) (W n)

/-- The logarithm of a token's decay. -/
def lwAt (w0 : Fin 1024 → EReal) (w1 : Fin 1024 → Fin 64 → EReal) (w2 : Fin 64 → Fin 1024 → EReal) (b : Fin 8) (s : Fin 4096)
    (d : Fin 1024) : EReal :=
  logDecay (w0 d + lin (fun j => Ideal.tanh (lin (mAt h md mu 3 b s) w1 j)) w2 d)

/-- A token's learning rate. -/
def aAt (a0 : Fin 1024 → EReal) (a1 : Fin 1024 → Fin 64 → EReal) (a2 : Fin 64 → Fin 1024 → EReal) (b : Fin 8) (s : Fin 4096)
    (d : Fin 1024) : EReal :=
  sigm (a0 d + lin (lin (mAt h md mu 4 b s) a1) a2 d)

/-- A token's gate. -/
def gAt (g1 : Fin 1024 → Fin 160 → EReal) (g2 : Fin 160 → Fin 1024 → EReal) (b : Fin 8) (s : Fin 4096) (d : Fin 1024) : EReal :=
  lin (fun j => sigm (lin (mAt h md mu 5 b s) g1 j)) g2 d

/-- A token's unit key. -/
def kkAt (kk : Fin 1024 → EReal) (b : Fin 8) (s : Fin 4096) : Fin 1024 → EReal := unit fun d => projAt h md mu W 1 b s d * kk d

end Spec

variable (m : (ℓ : Loc nD τ sig) → Buf (Elt Ideal) ℓ)

/-- The hidden states, by coordinates. -/
def aH (x : Vec Ideal S8x4096x1024 .f32) (b : Fin 8) (s : Fin 4096) (k : Fin 1024) : EReal := x (ix3 b s k)

/-- The modulation, by coordinates. -/
def aMd (x : Vec Ideal S8x9216 .f32) (b : Fin 8) (k : Fin 9216) : EReal := x (ix2 b k)

/-- The mixing weights, by coordinates. -/
def aMu (x : Vec Ideal S6x1024 .f32) (n : Fin 6) (k : Fin 1024) : EReal := x (ix2 n k)

/-- The three projections, by coordinates. -/
def aW (x : Vec Ideal S3x1024x1024 .f32) (n : Fin 3) (k d : Fin 1024) : EReal := x (ix3 n k d)

/-- A row of weights, by coordinates. -/
def row (x : Vec Ideal S1024 .f32) (k : Fin 1024) : EReal := x (ix1 k)

/-- A first low-rank factor, by coordinates. -/
def down (x : Vec Ideal S1024x64 .f32) (k : Fin 1024) (j : Fin 64) : EReal := x (ix2 k j)

/-- A second low-rank factor, by coordinates. -/
def up (x : Vec Ideal S64x1024 .f32) (j : Fin 64) (k : Fin 1024) : EReal := x (ix2 j k)

/-- The gate's first factor, by coordinates. -/
def downG (x : Vec Ideal S1024x160 .f32) (k : Fin 1024) (j : Fin 160) : EReal := x (ix2 k j)

/-- The gate's second factor, by coordinates. -/
def upG (x : Vec Ideal S160x1024 .f32) (j : Fin 160) (k : Fin 1024) : EReal := x (ix2 j k)

/-- The array of receptances. -/
def G18 (c : Dev nD) : S8x4096x1024.Idx → EReal := fun i =>
  projAt (aH (m ((c : Thread nD τ).loc main_arg0))) (aMd (m ((c : Thread nD τ).loc main_arg1))) (aMu (m ((c : Thread nD τ).loc main_arg2))) (aW (m ((c : Thread nD τ).loc main_arg3))) 0 (i 0) (i 1) (i 2)

/-- The array of decays' logarithms. -/
def G19 (c : Dev nD) : S8x4096x1024.Idx → EReal := fun i =>
  lwAt (aH (m ((c : Thread nD τ).loc main_arg0))) (aMd (m ((c : Thread nD τ).loc main_arg1))) (aMu (m ((c : Thread nD τ).loc main_arg2))) (row (m ((c : Thread nD τ).loc main_arg4))) (down (m ((c : Thread nD τ).loc main_arg5))) (up (m ((c : Thread nD τ).loc main_arg6))) (i 0) (i 1) (i 2)

/-- The array of renewed keys. -/
def G20 (c : Dev nD) : S8x4096x1024.Idx → EReal := fun i =>
  renewed (projAt (aH (m ((c : Thread nD τ).loc main_arg0))) (aMd (m ((c : Thread nD τ).loc main_arg1))) (aMu (m ((c : Thread nD τ).loc main_arg2))) (aW (m ((c : Thread nD τ).loc main_arg3))) 1 (i 0) (i 1) (i 2)) (aAt (aH (m ((c : Thread nD τ).loc main_arg0))) (aMd (m ((c : Thread nD τ).loc main_arg1))) (aMu (m ((c : Thread nD τ).loc main_arg2))) (row (m ((c : Thread nD τ).loc main_arg7))) (down (m ((c : Thread nD τ).loc main_arg8))) (up (m ((c : Thread nD τ).loc main_arg9))) (i 0) (i 1) (i 2)) (row (m ((c : Thread nD τ).loc main_arg13)) (i 2))

/-- The array of values. -/
def G21 (c : Dev nD) : S8x4096x1024.Idx → EReal := fun i =>
  projAt (aH (m ((c : Thread nD τ).loc main_arg0))) (aMd (m ((c : Thread nD τ).loc main_arg1))) (aMu (m ((c : Thread nD τ).loc main_arg2))) (aW (m ((c : Thread nD τ).loc main_arg3))) 2 (i 0) (i 1) (i 2)

/-- The array of unit keys. -/
def G22 (c : Dev nD) : S8x4096x1024.Idx → EReal := fun i =>
  kkAt (aH (m ((c : Thread nD τ).loc main_arg0))) (aMd (m ((c : Thread nD τ).loc main_arg1))) (aMu (m ((c : Thread nD τ).loc main_arg2))) (aW (m ((c : Thread nD τ).loc main_arg3))) (row (m ((c : Thread nD τ).loc main_arg12))) (i 0) (i 1) (i 2)

/-- The array of unit keys times learning rates. -/
def G23 (c : Dev nD) : S8x4096x1024.Idx → EReal := fun i =>
  kkAt (aH (m ((c : Thread nD τ).loc main_arg0))) (aMd (m ((c : Thread nD τ).loc main_arg1))) (aMu (m ((c : Thread nD τ).loc main_arg2))) (aW (m ((c : Thread nD τ).loc main_arg3))) (row (m ((c : Thread nD τ).loc main_arg12))) (i 0) (i 1) (i 2) * aAt (aH (m ((c : Thread nD τ).loc main_arg0))) (aMd (m ((c : Thread nD τ).loc main_arg1))) (aMu (m ((c : Thread nD τ).loc main_arg2))) (row (m ((c : Thread nD τ).loc main_arg7))) (down (m ((c : Thread nD τ).loc main_arg8))) (up (m ((c : Thread nD τ).loc main_arg9))) (i 0) (i 1) (i 2)

/-- The array of gates. -/
def G24 (c : Dev nD) : S8x4096x1024.Idx → EReal := fun i =>
  gAt (aH (m ((c : Thread nD τ).loc main_arg0))) (aMd (m ((c : Thread nD τ).loc main_arg1))) (aMu (m ((c : Thread nD τ).loc main_arg2))) (downG (m ((c : Thread nD τ).loc main_arg10))) (upG (m ((c : Thread nD τ).loc main_arg11))) (i 0) (i 1) (i 2)

/-- Where the windows' blocks lie: decided over the 128 grid points. -/
theorem idx : ∀ t : Fin cfg0.N, win0_0.index t = ![(grid0.coords t 0).val, (grid0.coords t 1).val, 0]
    ∧ win0_1.index t = ![(grid0.coords t 0).val, (grid0.coords t 1).val * 32 - 1, 0]
    ∧ win0_2.index t = ![(grid0.coords t 0).val, 3, 0, 0]
    ∧ win0_3.index t = ![(grid0.coords t 0).val, 4, 0, 0]
    ∧ win0_4.index t = ![0, 0]
    ∧ win0_5.index t = ![0, 0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![(grid0.coords t 0).val, (grid0.coords t 1).val, 0]
    ∧ win0_19.index t = ![(grid0.coords t 0).val, (grid0.coords t 1).val, 0]
    ∧ win0_20.index t = ![(grid0.coords t 0).val, (grid0.coords t 1).val, 0]
    ∧ win0_21.index t = ![(grid0.coords t 0).val, (grid0.coords t 1).val, 0]
    ∧ win0_22.index t = ![(grid0.coords t 0).val, (grid0.coords t 1).val, 0]
    ∧ win0_23.index t = ![(grid0.coords t 0).val, (grid0.coords t 1).val, 0]
    ∧ win0_24.index t = ![(grid0.coords t 0).val, (grid0.coords t 1).val, 0] :=
  (by decide +kernel : ∀ t : Fin grid0.N, _)

/-- The batch entry of grid point `t`. -/
def bOf (t : Fin cfg0.N) : Fin 8 := ⟨(grid0.coords t 0).val, (grid0.coords t 0).isLt⟩

theorem tile_lt (t : Fin cfg0.N) : (grid0.coords t 1).val < 16 := (grid0.coords t 1).isLt

/-- Row `r` of grid point `t`'s tile, as a token of the batch entry. -/
def sOf (t : Fin cfg0.N) (r : Fin 256) : Fin 4096 := ⟨(grid0.coords t 1).val * 256 + r.val, by have h := tile_lt t; omega⟩

/-! The blocks that a grid point reads. -/

/-- The hidden states of the tile's tokens. -/
theorem read0 (c : Dev nD) (t : Fin cfg0.N) (r : Fin 256) (k : Fin 1024) :
    (iblk m c 0 t : Vec Ideal S1x256x1024 .f32) (ix3 0 r k) = aH (m ((c : Thread nD τ).loc main_arg0)) (bOf t) (sOf t r) k := by
  unfold bOf sOf aH; blk_ext! [iblk, V, idx t]

/-- The hidden states of the last token before the tile. -/
theorem read1 (c : Dev nD) (t : Fin cfg0.N) (k : Fin 1024) (q : Fin 4096) (hq : q.val = ((grid0.coords t 1).val * 32 - 1) * 8 + 7) :
    (iblk m c 1 t : Vec Ideal S1x8x1024 .f32) (ix3 0 7 k) = aH (m ((c : Thread nD τ).loc main_arg0)) (bOf t) q k := by
  obtain ⟨q, hl⟩ := q
  obtain rfl : q = ((grid0.coords t 1).val * 32 - 1) * 8 + 7 := hq
  unfold bOf aH; blk_ext! [iblk, V, idx t]

/-- The shift's row. -/
theorem read2 (c : Dev nD) (t : Fin cfg0.N) (k : Fin 1024) :
    (iblk m c 2 t : Vec Ideal S1x1x1x1024 .f32) (ix4 0 0 0 k) = aMd (m ((c : Thread nD τ).loc main_arg1)) (bOf t) ⟨3072 + k.val, by omega⟩ := by
  unfold bOf aMd; blk_ext! [iblk, V, idx t]

/-- The scale's row. -/
theorem read3 (c : Dev nD) (t : Fin cfg0.N) (k : Fin 1024) :
    (iblk m c 3 t : Vec Ideal S1x1x1x1024 .f32) (ix4 0 0 0 k) = aMd (m ((c : Thread nD τ).loc main_arg1)) (bOf t) ⟨4096 + k.val, by omega⟩ := by
  unfold bOf aMd; blk_ext! [iblk, V, idx t]

/-! The weights: each window is the whole array. -/

theorem read4 (c : Dev nD) (t : Fin cfg0.N) (n : Fin 6) (k : Fin 1024) :
    (iblk m c 4 t : Vec Ideal S6x1024 .f32) (ix2 n k) = aMu (m ((c : Thread nD τ).loc main_arg2)) n k := by
  unfold aMu; blk_ext! [iblk, V, idx t]

theorem read5 (c : Dev nD) (t : Fin cfg0.N) (n : Fin 3) (k d : Fin 1024) :
    (iblk m c 5 t : Vec Ideal S3x1024x1024 .bf16) (ix3 n k d) = aW (m ((c : Thread nD τ).loc main_arg3)) n k d := by
  unfold aW; blk_ext! [iblk, V, idx t]

theorem read6 (c : Dev nD) (t : Fin cfg0.N) (k : Fin 1024) :
    (iblk m c 6 t : Vec Ideal S1x1024 .f32) (ix2 0 k) = row (m ((c : Thread nD τ).loc main_arg4)) k := by
  unfold row; blk_ext! [iblk, V, idx t]

theorem read7 (c : Dev nD) (t : Fin cfg0.N) (k : Fin 1024) (j : Fin 64) :
    (iblk m c 7 t : Vec Ideal S1024x64 .bf16) (ix2 k j) = down (m ((c : Thread nD τ).loc main_arg5)) k j := by
  unfold down; blk_ext! [iblk, V, idx t]

theorem read8 (c : Dev nD) (t : Fin cfg0.N) (j : Fin 64) (k : Fin 1024) :
    (iblk m c 8 t : Vec Ideal S64x1024 .bf16) (ix2 j k) = up (m ((c : Thread nD τ).loc main_arg6)) j k := by
  unfold up; blk_ext! [iblk, V, idx t]

theorem read9 (c : Dev nD) (t : Fin cfg0.N) (k : Fin 1024) :
    (iblk m c 9 t : Vec Ideal S1x1024 .f32) (ix2 0 k) = row (m ((c : Thread nD τ).loc main_arg7)) k := by
  unfold row; blk_ext! [iblk, V, idx t]

theorem read10 (c : Dev nD) (t : Fin cfg0.N) (k : Fin 1024) (j : Fin 64) :
    (iblk m c 10 t : Vec Ideal S1024x64 .bf16) (ix2 k j) = down (m ((c : Thread nD τ).loc main_arg8)) k j := by
  unfold down; blk_ext! [iblk, V, idx t]

theorem read11 (c : Dev nD) (t : Fin cfg0.N) (j : Fin 64) (k : Fin 1024) :
    (iblk m c 11 t : Vec Ideal S64x1024 .bf16) (ix2 j k) = up (m ((c : Thread nD τ).loc main_arg9)) j k := by
  unfold up; blk_ext! [iblk, V, idx t]

theorem read12 (c : Dev nD) (t : Fin cfg0.N) (k : Fin 1024) (j : Fin 160) :
    (iblk m c 12 t : Vec Ideal S1024x160 .bf16) (ix2 k j) = downG (m ((c : Thread nD τ).loc main_arg10)) k j := by
  unfold downG; blk_ext! [iblk, V, idx t]

theorem read13 (c : Dev nD) (t : Fin cfg0.N) (j : Fin 160) (k : Fin 1024) :
    (iblk m c 13 t : Vec Ideal S160x1024 .bf16) (ix2 j k) = upG (m ((c : Thread nD τ).loc main_arg11)) j k := by
  unfold upG; blk_ext! [iblk, V, idx t]

theorem read14 (c : Dev nD) (t : Fin cfg0.N) (k : Fin 1024) :
    (iblk m c 14 t : Vec Ideal S1x1024 .f32) (ix2 0 k) = row (m ((c : Thread nD τ).loc main_arg12)) k := by
  unfold row; blk_ext! [iblk, V, idx t]

theorem read15 (c : Dev nD) (t : Fin cfg0.N) (k : Fin 1024) :
    (iblk m c 15 t : Vec Ideal S1x1024 .f32) (ix2 0 k) = row (m ((c : Thread nD τ).loc main_arg13)) k := by
  unfold row; blk_ext! [iblk, V, idx t]

set_option maxRecDepth 100000 in
/-- The first indicator matrix is the one that the output call has. -/
theorem lit0_same : lit0 = Cert.Kernel5Ideal.lit0 := funext fun ⟨i, _⟩ => by
  show lit0t i = Cert.Kernel5Ideal.lit0t i
  rfl

set_option maxRecDepth 100000 in
/-- The second indicator matrix is the one that the output call has. -/
theorem lit1_same : lit1 = Cert.Kernel5Ideal.lit1 := rfl

/-- The first indicator matrix, where the operations before the region leave it. -/
theorem cst_at (c : Dev nD) (k : Fin 2048) (j : Fin 16) :
    V m c main_cst (ix2 k j) = Ideal.ofBits .bf16 (lit0 (S2048x16.rowMajor (ix2 k j))) := by
  simp only [V, hostOps0]
  after_results_simp
  rfl

/-- The second indicator matrix, where the operations before the region leave it. -/
theorem cst0_at (c : Dev nD) (x : Fin 48) (k : Fin 1024) :
    V m c main_cst_0 (ix2 x k) = Ideal.ofBits .bf16 (lit1 (S48x1024.rowMajor (ix2 x k))) := by
  simp only [V, hostOps0]
  after_results_simp
  rfl

theorem cst_same (c : Dev nD) (k : Fin 2048) (j : Fin 16) :
    V m c main_cst (ix2 k j) = Ideal.ofBits .bf16 (Cert.Kernel5Ideal.lit0 (S2048x16.rowMajor (ix2 k j))) :=
  (cst_at m c k j).trans (congrArg (Ideal.ofBits .bf16) (congrFun lit0_same _))

theorem cst0_same (c : Dev nD) (x : Fin 48) (k : Fin 1024) :
    V m c main_cst_0 (ix2 x k) = Ideal.ofBits .bf16 (Cert.Kernel5Ideal.lit1 (S48x1024.rowMajor (ix2 x k))) :=
  (cst0_at m c x k).trans (congrArg (Ideal.ofBits .bf16) (congrFun lit1_same _))

/-- The first indicator matrix gathers. -/
theorem read16 (c : Dev nD) (t : Fin cfg0.N) : Gathers fun k j => (iblk m c 16 t : Vec Ideal S2048x16 .bf16) (ix2 k j) := fun k j =>
  (congrArg (V m c main_cst) (by blk_ext [idx t] : ((win0_16.blk t).view.emb (ix2 k j) : S2048x16.Idx) = ix2 k j)).trans
    ((cst_same m c k j).trans
      (Cert.RwkvOutArray.lit0_num k j _ (Shape.rowMajor_val_two (d := ![2048, 16]) (ix2 k j))))

/-- The second indicator matrix spreads. -/
theorem read17 (c : Dev nD) (t : Fin cfg0.N) : Spreads fun x k => (iblk m c 17 t : Vec Ideal S48x1024 .bf16) (ix2 x k) := fun x k =>
  (congrArg (V m c main_cst_0) (by blk_ext [idx t] : ((win0_17.blk t).view.emb (ix2 x k) : S48x1024.Idx) = ix2 x k)).trans
    ((cst0_same m c x k).trans
      (Cert.RwkvOutArray.lit1_num x k _ (Shape.rowMajor_val_two (d := ![48, 1024]) (ix2 x k))))

/-- A word made of a tile's number is nought only for the first tile. -/
theorem word_tile (t : Fin cfg0.N) : BitVec.ofNat 32 (grid0.coords t 1).val = 0#32 ↔ (grid0.coords t 1).val = 0 := by
  have hl := tile_lt t
  constructor
  · intro h
    have e := congrArg BitVec.toNat h
    rw [BitVec.toNat_ofNat, BitVec.toNat_ofNat] at e
    omega
  · intro h
    rw [h]

/-- A tile's modulated row is its token's. -/
theorem uRow_eq (c : Dev nD) (t : Fin cfg0.N) (r : Fin 256) :
    uRow (iblk m c 0 t) (iblk m c 2 t) (iblk m c 3 t) r = uAt (aH (m ((c : Thread nD τ).loc main_arg0))) (aMd (m ((c : Thread nD τ).loc main_arg1))) (bOf t) (sOf t r) := by
  funext k
  simp only [uRow, uAt, read0, read2, read3]

/-- A tile's row before less its row is its token's. -/
theorem backRow_eq (c : Dev nD) (t : Fin cfg0.N) (r : Fin 256) :
    backRow (grid0.coords t) (iblk m c 0 t) (iblk m c 1 t) (iblk m c 2 t) (iblk m c 3 t) r = xAt (aH (m ((c : Thread nD τ).loc main_arg0))) (aMd (m ((c : Thread nD τ).loc main_arg1))) (bOf t) (sOf t r) := by
  have hl := tile_lt t
  funext k
  have hs : (sOf t r).val = (grid0.coords t 1).val * 256 + r.val := rfl
  unfold backRow xAt
  rw [uRow_eq, uRow_eq]
  refine congrArg (· - _) ?_
  by_cases hr : r.val = 0
  · rw [if_pos hr]
    by_cases hi : (grid0.coords t 1).val = 0
    · rw [if_pos ((word_tile t).mpr hi), if_pos (by omega)]
    · rw [if_neg (fun h => hi ((word_tile t).mp h)), if_neg (by omega)]
      have hq : (⟨(sOf t r).val - 1, by omega⟩ : Fin 4096).val = ((grid0.coords t 1).val * 32 - 1) * 8 + 7 := by
        show (sOf t r).val - 1 = _
        omega
      simp only [read1 m c t _ _ hq, read2, read3, uAt]
  · rw [if_neg hr, if_neg (by omega)]
    refine congrArg (fun q => uAt (aH (m ((c : Thread nD τ).loc main_arg0))) (aMd (m ((c : Thread nD τ).loc main_arg1))) (bOf t) q k) (Fin.ext ?_)
    show (grid0.coords t 1).val * 256 + (r.val + 256 - 1) % 256 = (sOf t r).val - 1
    omega

/-- A tile's mixed row is its token's. -/
theorem mixRow_eq (c : Dev nD) (t : Fin cfg0.N) (n : Fin 6) (r : Fin 256) :
    mixRow (grid0.coords t) (iblk m c 0 t) (iblk m c 1 t) (iblk m c 2 t) (iblk m c 3 t) (iblk m c 4 t) n r
      = mAt (aH (m ((c : Thread nD τ).loc main_arg0))) (aMd (m ((c : Thread nD τ).loc main_arg1))) (aMu (m ((c : Thread nD τ).loc main_arg2))) n (bOf t) (sOf t r) := by
  unfold mixRow mAt
  rw [uRow_eq, backRow_eq]
  simp only [read4]

section Finite

variable (c : Dev nD) (hh : ∀ b s k, Fine (aH (m ((c : Thread nD τ).loc main_arg0)) b s k)) (hm : ∀ b k, Fine (aMd (m ((c : Thread nD τ).loc main_arg1)) b k)) (hu : ∀ n k, Fine (aMu (m ((c : Thread nD τ).loc main_arg2)) n k))
  (hw : ∀ n k d, Fine (aW (m ((c : Thread nD τ).loc main_arg3)) n k d)) (hk : ∀ k, Fine (row (m ((c : Thread nD τ).loc main_arg12)) k))

include hh hm in
theorem fine_u (b : Fin 8) (s : Fin 4096) (k : Fin 1024) : Fine (uAt (aH (m ((c : Thread nD τ).loc main_arg0))) (aMd (m ((c : Thread nD τ).loc main_arg1))) b s k) :=
  fine_modRow (hh b s) (fun _ => hm _ _) (fun _ => hm _ _) k

include hh hm in
theorem fine_x (b : Fin 8) (s : Fin 4096) (k : Fin 1024) : Fine (xAt (aH (m ((c : Thread nD τ).loc main_arg0))) (aMd (m ((c : Thread nD τ).loc main_arg1))) b s k) := by
  unfold xAt
  refine Fine.sub ?_ (fine_u m c hh hm _ _ _)
  split
  · exact ⟨0, EReal.coe_zero.symm⟩
  · exact fine_u m c hh hm _ _ _

include hh hm hu hw hk in
/-- From finite arguments the weighted keys are finite. -/
theorem fine_key (b : Fin 8) (s : Fin 4096) (k : Fin 1024) : Fine (projAt (aH (m ((c : Thread nD τ).loc main_arg0))) (aMd (m ((c : Thread nD τ).loc main_arg1))) (aMu (m ((c : Thread nD τ).loc main_arg2))) (aW (m ((c : Thread nD τ).loc main_arg3))) 1 b s k * row (m ((c : Thread nD τ).loc main_arg12)) k) :=
  (fine_lin (fun k => (fine_u m c hh hm b s k).add ((fine_x m c hh hm b s k).mul (hu _ _))) (hw 1) k).mul (hk k)

/-- A tile's weighted keys are its tokens'. -/
theorem keyRow_eq (t : Fin cfg0.N) (r : Fin 256) :
    keyRow (grid0.coords t) (iblk m c 0 t) (iblk m c 1 t) (iblk m c 2 t) (iblk m c 3 t) (iblk m c 4 t) (iblk m c 5 t) (iblk m c 14 t) r
      = fun k => projAt (aH (m ((c : Thread nD τ).loc main_arg0))) (aMd (m ((c : Thread nD τ).loc main_arg1))) (aMu (m ((c : Thread nD τ).loc main_arg2))) (aW (m ((c : Thread nD τ).loc main_arg3))) 1 (bOf t) (sOf t r) k * row (m ((c : Thread nD τ).loc main_arg12)) k := by
  funext k
  simp only [keyRow, mixRow_eq, read5, read14]
  rfl

/-- Where the block of receptances lies in its array. -/
theorem place18 (t : Fin cfg0.N) (r : Fin 256) (d : Fin 1024) :
    ((win0_18.blk t).view.emb (ix3 (0 : Fin 1) r d) : S8x4096x1024.Idx) = ix3 (bOf t) (sOf t r) d := by
  unfold bOf sOf; blk_ext [idx t]

/-- A point's block of receptances. -/
theorem block18 (t : Fin cfg0.N) (r : Fin 256) (d : Fin 1024) :
    out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G18 m c (ix3 (bOf t) (sOf t r) d) := by
  refine (out18_apply _ _ _ _ _ _ _ _ _ _ _ _ _ _ _ _ _ _ _ r d).trans ?_
  simp only [mixRow_eq, read5]
  rfl

/-- The array of receptances. -/
theorem array18 : (dats m 0 c).arrAt 18 cfg0.N = G18 m c := by
  refine (dats m 0 c).arrAt_eq_of_covers 18 _ (by decide +kernel) fun t hf y => ?_
  blk_simp
  rw [after0_18]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block18 m c t r d).trans (congrArg (G18 m c) (place18 t r d).symm)

/-- Where the block of decays' logarithms lies in its array. -/
theorem place19 (t : Fin cfg0.N) (r : Fin 256) (d : Fin 1024) :
    ((win0_19.blk t).view.emb (ix3 (0 : Fin 1) r d) : S8x4096x1024.Idx) = ix3 (bOf t) (sOf t r) d := by
  unfold bOf sOf; blk_ext [idx t]

/-- A point's block of decays' logarithms. -/
theorem block19 (t : Fin cfg0.N) (r : Fin 256) (d : Fin 1024) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G19 m c (ix3 (bOf t) (sOf t r) d) := by
  refine (out19_apply _ _ _ _ _ _ _ _ _ _ _ _ _ _ _ _ _ _ _ r d).trans ?_
  simp only [mixRow_eq, read6, read7, read8]
  rfl

/-- The array of decays' logarithms. -/
theorem array19 : (dats m 0 c).arrAt 19 cfg0.N = G19 m c := by
  refine (dats m 0 c).arrAt_eq_of_covers 19 _ (by decide +kernel) fun t hf y => ?_
  blk_simp
  rw [after0_19]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block19 m c t r d).trans (congrArg (G19 m c) (place19 t r d).symm)

/-- Where the block of renewed keys lies in its array. -/
theorem place20 (t : Fin cfg0.N) (r : Fin 256) (d : Fin 1024) :
    ((win0_20.blk t).view.emb (ix3 (0 : Fin 1) r d) : S8x4096x1024.Idx) = ix3 (bOf t) (sOf t r) d := by
  unfold bOf sOf; blk_ext [idx t]

/-- A point's block of renewed keys. -/
theorem block20 (t : Fin cfg0.N) (r : Fin 256) (d : Fin 1024) :
    out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G20 m c (ix3 (bOf t) (sOf t r) d) := by
  refine (out20_apply _ _ _ _ _ _ _ _ _ _ _ _ _ _ _ _ _ _ _ r d).trans ?_
  simp only [mixRow_eq, read5, read9, read10, read11, read15]
  rfl

/-- The array of renewed keys. -/
theorem array20 : (dats m 0 c).arrAt 20 cfg0.N = G20 m c := by
  refine (dats m 0 c).arrAt_eq_of_covers 20 _ (by decide +kernel) fun t hf y => ?_
  blk_simp
  rw [after0_20]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block20 m c t r d).trans (congrArg (G20 m c) (place20 t r d).symm)

/-- Where the block of values lies in its array. -/
theorem place21 (t : Fin cfg0.N) (r : Fin 256) (d : Fin 1024) :
    ((win0_21.blk t).view.emb (ix3 (0 : Fin 1) r d) : S8x4096x1024.Idx) = ix3 (bOf t) (sOf t r) d := by
  unfold bOf sOf; blk_ext [idx t]

/-- A point's block of values. -/
theorem block21 (t : Fin cfg0.N) (r : Fin 256) (d : Fin 1024) :
    out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G21 m c (ix3 (bOf t) (sOf t r) d) := by
  refine (out21_apply _ _ _ _ _ _ _ _ _ _ _ _ _ _ _ _ _ _ _ r d).trans ?_
  simp only [mixRow_eq, read5]
  rfl

/-- The array of values. -/
theorem array21 : (dats m 0 c).arrAt 21 cfg0.N = G21 m c := by
  refine (dats m 0 c).arrAt_eq_of_covers 21 _ (by decide +kernel) fun t hf y => ?_
  blk_simp
  rw [after0_21]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block21 m c t r d).trans (congrArg (G21 m c) (place21 t r d).symm)

/-- Where the block of unit keys lies in its array. -/
theorem place22 (t : Fin cfg0.N) (r : Fin 256) (d : Fin 1024) :
    ((win0_22.blk t).view.emb (ix3 (0 : Fin 1) r d) : S8x4096x1024.Idx) = ix3 (bOf t) (sOf t r) d := by
  unfold bOf sOf; blk_ext [idx t]

include hh hm hu hw hk in
/-- A point's block of unit keys. -/
theorem block22 (t : Fin cfg0.N) (r : Fin 256) (d : Fin 1024) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G22 m c (ix3 (bOf t) (sOf t r) d) := by
  refine (out22_apply _ _ _ _ _ _ _ _ _ _ _ _ _ _ _ _ _ (read16 m c t) (read17 m c t) r (fun k => by rw [keyRow_eq]; exact fine_key m c hh hm hu hw hk _ _ _) d).trans ?_
  simp only [keyRow_eq]
  rfl

include hh hm hu hw hk in
/-- The array of unit keys. -/
theorem array22 : (dats m 0 c).arrAt 22 cfg0.N = G22 m c := by
  refine (dats m 0 c).arrAt_eq_of_covers 22 _ (by decide +kernel) fun t hf y => ?_
  blk_simp
  rw [after0_22]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block22 m c hh hm hu hw hk t r d).trans (congrArg (G22 m c) (place22 t r d).symm)

/-- Where the block of unit keys times learning rates lies in its array. -/
theorem place23 (t : Fin cfg0.N) (r : Fin 256) (d : Fin 1024) :
    ((win0_23.blk t).view.emb (ix3 (0 : Fin 1) r d) : S8x4096x1024.Idx) = ix3 (bOf t) (sOf t r) d := by
  unfold bOf sOf; blk_ext [idx t]

include hh hm hu hw hk in
/-- A point's block of unit keys times learning rates. -/
theorem block23 (t : Fin cfg0.N) (r : Fin 256) (d : Fin 1024) :
    out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G23 m c (ix3 (bOf t) (sOf t r) d) := by
  refine (out23_apply _ _ _ _ _ _ _ _ _ _ _ _ _ _ _ _ _ (read16 m c t) (read17 m c t) r (fun k => by rw [keyRow_eq]; exact fine_key m c hh hm hu hw hk _ _ _) d).trans ?_
  simp only [keyRow_eq, mixRow_eq, read9, read10, read11]
  rfl

include hh hm hu hw hk in
/-- The array of unit keys times learning rates. -/
theorem array23 : (dats m 0 c).arrAt 23 cfg0.N = G23 m c := by
  refine (dats m 0 c).arrAt_eq_of_covers 23 _ (by decide +kernel) fun t hf y => ?_
  blk_simp
  rw [after0_23]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block23 m c hh hm hu hw hk t r d).trans (congrArg (G23 m c) (place23 t r d).symm)

/-- Where the block of gates lies in its array. -/
theorem place24 (t : Fin cfg0.N) (r : Fin 256) (d : Fin 1024) :
    ((win0_24.blk t).view.emb (ix3 (0 : Fin 1) r d) : S8x4096x1024.Idx) = ix3 (bOf t) (sOf t r) d := by
  unfold bOf sOf; blk_ext [idx t]

/-- A point's block of gates. -/
theorem block24 (t : Fin cfg0.N) (r : Fin 256) (d : Fin 1024) :
    out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix3 0 r d) = G24 m c (ix3 (bOf t) (sOf t r) d) := by
  refine (out24_apply _ _ _ _ _ _ _ _ _ _ _ _ _ _ _ _ _ _ _ r d).trans ?_
  simp only [mixRow_eq, read12, read13]
  rfl

/-- The array of gates. -/
theorem array24 : (dats m 0 c).arrAt 24 cfg0.N = G24 m c := by
  refine (dats m 0 c).arrAt_eq_of_covers 24 _ (by decide +kernel) fun t hf y => ?_
  blk_simp
  rw [after0_24]
  revert y
  show ∀ y : S1x256x1024.Idx, _
  intro y
  obtain ⟨r, d, rfl⟩ : ∃ (r : Fin 256) (d : Fin 1024), y = ix3 0 r d :=
    ⟨y 1, y 2, (eq_ix3 (n0 := 1) (n1 := 256) (n2 := 1024) y).trans
      (congrArg (fun a => ix3 a _ _) (Subsingleton.elim (α := Fin 1) _ _))⟩
  exact (block24 m c t r d).trans (congrArg (G24 m c) (place24 t r d).symm)

end Finite

end Cert.RwkvInArray

end
-- ==== Proof.RwkvInRef.lean ====
module

public import proofs.«01_k».proof.Proof.RwkvInArray
public import proofs.«01_k».proof.Proof.Gen.Reference6Ideal.Run

/-! The plain lines of the recurrence's input, step by step: each step's array, and its entries. -/

@[expose] public section

set_option maxRecDepth 16384

noncomputable section

namespace Cert.RwkvInRef

open Idealize.ShloMosaic Idealize.ShloMosaic.TcCoe Idealize.SL.Sem Cert.FfnMath Cert.RwkvMath Cert.RwkvInMath Cert.RwkvInArray
open Cert.Reference6Ideal Cert.Reference6Ideal.Gen
open scoped BigOperators

/-- The modulated tokens. -/
def rU (h : FVec Ideal S8x4096x1024 .f32) (md : FVec Ideal S8x9216 .f32) : FVec Ideal S8x4096x1024 .f32 :=
  addf (mulf (mulf h (broadcastInDim S8x4096x1024 ![0, 1, 2] bcast_S8x4096x1_S8x4096x1024_0_1_2 (Host.rsqrt (addf (Host.divf (broadcastInDim
    S8x4096x1 ![0, 1] bcast_S8x4096_S8x4096x1_0_1 (Host.reduceAdd (mulf h h) (constant S_ .f32 0x00000000#32)
    reducesTo_S8x4096x1024_S8x4096_d2 h_S_)) (broadcastInDim S8x4096x1 ![] bcast_S_S8x4096x1 (constant S_ .f32 0x44800000#32)))
    (broadcastInDim S8x4096x1 ![] bcast_S_S8x4096x1 (constant S_ .f32 0x358637BD#32)))))) (broadcastInDim S8x4096x1024 ![0, 1, 2]
    bcast_S8x1x1024_S8x4096x1024_0_1_2 (addf (broadcastInDim S8x1x1024 ![] bcast_S_S8x1x1024 (constant S_ .f32 0x3F800000#32))
    (broadcastInDim S8x1x1024 ![0, 2] bcast_S8x1024_S8x1x1024_0_2 (extractStridedSlice S8x1024 ![0, 4096] md
    slices_S8x9216_S8x1024_0_4096))))) (broadcastInDim S8x4096x1024 ![0, 1, 2] bcast_S8x1x1024_S8x4096x1024_0_1_2 (broadcastInDim S8x1x1024
    ![0, 2] bcast_S8x1024_S8x1x1024_0_2 (extractStridedSlice S8x1024 ![0, 3072] md slices_S8x9216_S8x1024_0_3072)))

/-- The tokens before less the tokens. -/
def rX (u : FVec Ideal S8x4096x1024 .f32) : FVec Ideal S8x4096x1024 .f32 :=
  subf (concatenate S8x4096x1024 1 [⟨S8x1x1024, (broadcastInDim S8x1x1024 ![] bcast_S_S8x1x1024 (constant S_ .f32 0x00000000#32))⟩,
    ⟨S8x4095x1024, (extractStridedSlice S8x4095x1024 ![0, 0, 0] u slices_S8x4096x1024_S8x4095x1024_0_0_0)⟩]
    concatenates_S8x1x1024_S8x4095x1024_S8x4096x1024_d1) u

/-- The six mixes, stacked. -/
def rM (u x : FVec Ideal S8x4096x1024 .f32) (mu : FVec Ideal S6x1024 .f32) : FVec Ideal S6x8x4096x1024 .f32 :=
  addf (broadcastInDim S6x8x4096x1024 ![0, 1, 2, 3] bcast_S1x8x4096x1024_S6x8x4096x1024_0_1_2_3 (broadcastInDim S1x8x4096x1024 ![1, 2, 3]
    bcast_S8x4096x1024_S1x8x4096x1024_1_2_3 u)) (mulf (broadcastInDim S6x8x4096x1024 ![0, 1, 2, 3]
    bcast_S1x8x4096x1024_S6x8x4096x1024_0_1_2_3 (broadcastInDim S1x8x4096x1024 ![1, 2, 3] bcast_S8x4096x1024_S1x8x4096x1024_1_2_3 x))
    (broadcastInDim S6x8x4096x1024 ![0, 1, 2, 3] bcast_S6x1x1x1024_S6x8x4096x1024_0_1_2_3 (broadcastInDim S6x1x1x1024 ![0, 3]
    bcast_S6x1024_S6x1x1x1024_0_3 mu)))

/-- The three projections, stacked. -/
def rP (X : FVec Ideal S6x8x4096x1024 .f32) (W : FVec Ideal S3x1024x1024 .f32) : FVec Ideal S3x8x4096x1024 .f32 :=
  Host.dotGeneral dot_S3x8x4096x1024_S3x1024x1024_S3x8x4096x1024_3_1_12_2_0_0 none (extractStridedSlice S3x8x4096x1024 ![0, 0, 0, 0] X
    slices_S6x8x4096x1024_S3x8x4096x1024_0_0_0_0) W

/-- Projection 0. -/
def rP0 (P : FVec Ideal S3x8x4096x1024 .f32) : FVec Ideal S8x4096x1024 .f32 :=
  shapeCast _ (extractStridedSlice S1x8x4096x1024 ![0, 0, 0, 0] P slices_S3x8x4096x1024_S1x8x4096x1024_0_0_0_0)
    shapeCasts_S1x8x4096x1024_S8x4096x1024

/-- Projection 1. -/
def rP1 (P : FVec Ideal S3x8x4096x1024 .f32) : FVec Ideal S8x4096x1024 .f32 :=
  shapeCast _ (extractStridedSlice S1x8x4096x1024 ![1, 0, 0, 0] P slices_S3x8x4096x1024_S1x8x4096x1024_1_0_0_0)
    shapeCasts_S1x8x4096x1024_S8x4096x1024

/-- Projection 2. -/
def rP2 (P : FVec Ideal S3x8x4096x1024 .f32) : FVec Ideal S8x4096x1024 .f32 :=
  shapeCast _ (extractStridedSlice S1x8x4096x1024 ![2, 0, 0, 0] P slices_S3x8x4096x1024_S1x8x4096x1024_2_0_0_0)
    shapeCasts_S1x8x4096x1024_S8x4096x1024

/-- Minus the decays' low-rank numbers. -/
def rZ (X : FVec Ideal S6x8x4096x1024 .f32) (w0 : FVec Ideal S1024 .f32) (w1 : FVec Ideal S1024x64 .f32) (w2 : FVec Ideal S64x1024 .f32) : FVec Ideal S8x4096x1024 .f32 :=
  Host.negf (addf (broadcastInDim S8x4096x1024 ![0, 1, 2] bcast_S1x1x1024_S8x4096x1024_0_1_2 (broadcastInDim S1x1x1024 ![2]
    bcast_S1024_S1x1x1024_2 w0)) (Host.dotGeneral dot_S8x4096x64_S64x1024_S8x4096x1024_2_0_01_1_n_n none (Host.tanh (Host.dotGeneral
    dot_S8x4096x1024_S1024x64_S8x4096x64_2_0_01_1_n_n none (shapeCast _ (extractStridedSlice S1x8x4096x1024 ![3, 0, 0, 0] X
    slices_S6x8x4096x1024_S1x8x4096x1024_3_0_0_0) shapeCasts_S1x8x4096x1024_S8x4096x1024 : FVec Ideal S8x4096x1024 .f32) w1)) w2))

/-- The decays' logarithms. -/
def rL (z : FVec Ideal S8x4096x1024 .f32) : FVec Ideal S8x4096x1024 .f32 :=
  Host.negf (Host.exp (subf (Host.negf (addf (maximumf z (broadcastInDim S8x4096x1024 ![] bcast_S_S8x4096x1024 (constant S_ .f32
    0x00000000#32))) (Host.log1p (Host.exp (Host.negf (Host.absf z)))))) (broadcastInDim S8x4096x1024 ![] bcast_S_S8x4096x1024 (constant S_
    .f32 0x3F000000#32))))

/-- The learning rates. -/
def rA (X : FVec Ideal S6x8x4096x1024 .f32) (a0 : FVec Ideal S1024 .f32) (a1 : FVec Ideal S1024x64 .f32) (a2 : FVec Ideal S64x1024 .f32) : FVec Ideal S8x4096x1024 .f32 :=
  Host.divf (broadcastInDim S8x4096x1024 ![] bcast_S_S8x4096x1024 (constant S_ .f32 0x3F800000#32)) (addf (broadcastInDim S8x4096x1024 ![]
    bcast_S_S8x4096x1024 (constant S_ .f32 0x3F800000#32)) (Host.exp (Host.negf (addf (broadcastInDim S8x4096x1024 ![0, 1, 2]
    bcast_S1x1x1024_S8x4096x1024_0_1_2 (broadcastInDim S1x1x1024 ![2] bcast_S1024_S1x1x1024_2 a0)) (Host.dotGeneral
    dot_S8x4096x64_S64x1024_S8x4096x1024_2_0_01_1_n_n none (Host.dotGeneral dot_S8x4096x1024_S1024x64_S8x4096x64_2_0_01_1_n_n none
    (shapeCast _ (extractStridedSlice S1x8x4096x1024 ![4, 0, 0, 0] X slices_S6x8x4096x1024_S1x8x4096x1024_4_0_0_0)
    shapeCasts_S1x8x4096x1024_S8x4096x1024 : FVec Ideal S8x4096x1024 .f32) a1) a2)))))

/-- The gates. -/
def rG (X : FVec Ideal S6x8x4096x1024 .f32) (g1 : FVec Ideal S1024x160 .f32) (g2 : FVec Ideal S160x1024 .f32) : FVec Ideal S8x4096x1024 .f32 :=
  Host.dotGeneral dot_S8x4096x160_S160x1024_S8x4096x1024_2_0_01_1_n_n none (Host.divf (broadcastInDim S8x4096x160 ![] bcast_S_S8x4096x160
    (constant S_ .f32 0x3F800000#32)) (addf (broadcastInDim S8x4096x160 ![] bcast_S_S8x4096x160 (constant S_ .f32 0x3F800000#32)) (Host.exp
    (Host.negf (Host.dotGeneral dot_S8x4096x1024_S1024x160_S8x4096x160_2_0_01_1_n_n none (shapeCast _ (extractStridedSlice S1x8x4096x1024
    ![5, 0, 0, 0] X slices_S6x8x4096x1024_S1x8x4096x1024_5_0_0_0) shapeCasts_S1x8x4096x1024_S8x4096x1024 : FVec Ideal S8x4096x1024 .f32)
    g1))))) g2

/-- The weighted keys by head. -/
def rH (k : FVec Ideal S8x4096x1024 .f32) (kk : FVec Ideal S1024 .f32) : FVec Ideal S8x4096x16x64 .f32 :=
  shapeCast _ (mulf k (broadcastInDim S8x4096x1024 ![0, 1, 2] bcast_S1x1x1024_S8x4096x1024_0_1_2 (broadcastInDim S1x1x1024 ![2]
    bcast_S1024_S1x1x1024_2 kk))) shapeCasts_S8x4096x1024_S8x4096x16x64

/-- The unit keys. -/
def rK (x : FVec Ideal S8x4096x16x64 .f32) : FVec Ideal S8x4096x1024 .f32 :=
  shapeCast _ (Host.divf x (broadcastInDim S8x4096x16x64 ![0, 1, 2, 3] bcast_S8x4096x16x1_S8x4096x16x64_0_1_2_3 (maximumf (Host.sqrt
    (broadcastInDim S8x4096x16x1 ![0, 1, 2] bcast_S8x4096x16_S8x4096x16x1_0_1_2 (Host.reduceAdd (mulf x x) (constant S_ .f32 0x00000000#32)
    reducesTo_S8x4096x16x64_S8x4096x16_d3 h_S_))) (broadcastInDim S8x4096x16x1 ![] bcast_S_S8x4096x16x1 (constant S_ .f32 0x2B8CBCCC#32)))))
    shapeCasts_S8x4096x16x64_S8x4096x1024

/-- The renewed keys. -/
def rN (k a : FVec Ideal S8x4096x1024 .f32) (ka : FVec Ideal S1024 .f32) : FVec Ideal S8x4096x1024 .f32 :=
  mulf k (addf (broadcastInDim S8x4096x1024 ![] bcast_S_S8x4096x1024 (constant S_ .f32 0x3F800000#32)) (mulf (subf a (broadcastInDim
    S8x4096x1024 ![] bcast_S_S8x4096x1024 (constant S_ .f32 0x3F800000#32))) (broadcastInDim S8x4096x1024 ![0, 1, 2]
    bcast_S1x1x1024_S8x4096x1024_0_1_2 (broadcastInDim S1x1x1024 ![2] bcast_S1024_S1x1x1024_2 ka))))

/-! The steps' entries. -/

theorem rU_at (h : FVec Ideal S8x4096x1024 .f32) (md : FVec Ideal S8x9216 .f32) (b : Fin 8) (s : Fin 4096) (d : Fin 1024) : rU h md (ix3 b s d) = uAt (aH h) (aMd md) b s d := by
  pointwise [rU, uAt, aH, aMd, modRow]

theorem rX_at (u : FVec Ideal S8x4096x1024 .f32) (b : Fin 8) (s : Fin 4096) (d : Fin 1024) :
    rX u (ix3 b s d) = (if s.val = 0 then 0 else u (ix3 b ⟨s.val - 1, by omega⟩ d)) - u (ix3 b s d) := by
  pointwise [rX]
  by_cases h0 : s.val = 0 <;> simp only [Nat.lt_one_iff, h0, ↓reduceDIte, ↓reduceIte]

theorem rM_at (u x : FVec Ideal S8x4096x1024 .f32) (mu : FVec Ideal S6x1024 .f32) (n : Fin 6) (b : Fin 8) (s : Fin 4096) (d : Fin 1024) :
    rM u x mu (ix4 n b s d) = u (ix3 b s d) + x (ix3 b s d) * mu (ix2 n d) := by
  pointwise [rM]

theorem rP_at (X : FVec Ideal S6x8x4096x1024 .f32) (W : FVec Ideal S3x1024x1024 .f32) (n : Fin 3) (b : Fin 8) (s : Fin 4096) (d : Fin 1024) :
    rP X W (ix4 n b s d) = ∑ k, X (ix4 ⟨n.val, by omega⟩ b s k) * W (ix3 n k d) := by
  pointwise [rP]

theorem rP0_at (P : FVec Ideal S3x8x4096x1024 .f32) (b : Fin 8) (s : Fin 4096) (d : Fin 1024) : rP0 P (ix3 b s d) = P (ix4 0 b s d) := by
  pointwise [rP0]

theorem rP1_at (P : FVec Ideal S3x8x4096x1024 .f32) (b : Fin 8) (s : Fin 4096) (d : Fin 1024) : rP1 P (ix3 b s d) = P (ix4 1 b s d) := by
  pointwise [rP1]

theorem rP2_at (P : FVec Ideal S3x8x4096x1024 .f32) (b : Fin 8) (s : Fin 4096) (d : Fin 1024) : rP2 P (ix3 b s d) = P (ix4 2 b s d) := by
  pointwise [rP2]

theorem rZ_at (X : FVec Ideal S6x8x4096x1024 .f32) (w0 : FVec Ideal S1024 .f32) (w1 : FVec Ideal S1024x64 .f32) (w2 : FVec Ideal S64x1024 .f32) (b : Fin 8) (s : Fin 4096) (d : Fin 1024) :
    rZ X w0 w1 w2 (ix3 b s d) = -(row w0 d + lin (fun j => Ideal.tanh (lin (fun k => X (ix4 3 b s k)) (down w1) j)) (up w2) d) := by
  pointwise [rZ, row, down, up, lin]

theorem rL_at (z : FVec Ideal S8x4096x1024 .f32) (x : EReal) (b : Fin 8) (s : Fin 4096) (d : Fin 1024) (h : z (ix3 b s d) = -x) : rL z (ix3 b s d) = logDecay x := by
  pointwise [rL, logDecay, h]
  rfl

theorem rA_at (X : FVec Ideal S6x8x4096x1024 .f32) (a0 : FVec Ideal S1024 .f32) (a1 : FVec Ideal S1024x64 .f32) (a2 : FVec Ideal S64x1024 .f32) (b : Fin 8) (s : Fin 4096) (d : Fin 1024) :
    rA X a0 a1 a2 (ix3 b s d) = sigm (row a0 d + lin (lin (fun k => X (ix4 4 b s k)) (down a1)) (up a2) d) := by
  pointwise [rA, row, down, up, lin, sigm]

theorem rG_at (X : FVec Ideal S6x8x4096x1024 .f32) (g1 : FVec Ideal S1024x160 .f32) (g2 : FVec Ideal S160x1024 .f32) (b : Fin 8) (s : Fin 4096) (d : Fin 1024) :
    rG X g1 g2 (ix3 b s d) = lin (fun j => sigm (lin (fun k => X (ix4 5 b s k)) (downG g1) j)) (upG g2) d := by
  pointwise [rG, downG, upG, lin, sigm]

theorem rK_at (k : FVec Ideal S8x4096x1024 .f32) (kk : FVec Ideal S1024 .f32) (b : Fin 8) (s : Fin 4096) (d : Fin 1024) :
    rK (rH k kk) (ix3 b s d) = unit (fun j => k (ix3 b s j) * row kk j) d := by
  pointwise [rK, rH, row, unit, headSum, headOf]

theorem rN_at (k a : FVec Ideal S8x4096x1024 .f32) (ka : FVec Ideal S1024 .f32) (b : Fin 8) (s : Fin 4096) (d : Fin 1024) :
    rN k a ka (ix3 b s d) = renewed (k (ix3 b s d)) (a (ix3 b s d)) (row ka d) := by
  pointwise [rN, row, renewed]

theorem mul_at (x y : FVec Ideal S8x4096x1024 .f32) (b : Fin 8) (s : Fin 4096) (d : Fin 1024) : mulf x y (ix3 b s d) = x (ix3 b s d) * y (ix3 b s d) := by
  pointwise []

section Mixed

variable (h : FVec Ideal S8x4096x1024 .f32) (md : FVec Ideal S8x9216 .f32) (mu : FVec Ideal S6x1024 .f32) (W : FVec Ideal S3x1024x1024 .f32)

/-- The stacked mixes of the arguments. -/
def rMix : FVec Ideal S6x8x4096x1024 .f32 := rM (rU h md) (rX (rU h md)) mu

theorem rMix_at (n : Fin 6) (b : Fin 8) (s : Fin 4096) : (fun k => rMix h md mu (ix4 n b s k)) = mAt (aH h) (aMd md) (aMu mu) n b s := by
  funext k
  unfold rMix mAt mix xAt
  rw [rM_at, rX_at]
  simp only [rU_at]
  rfl

/-- A projection of the arguments. -/
theorem proj_at (n : Fin 3) (b : Fin 8) (s : Fin 4096) (d : Fin 1024) : rP (rMix h md mu) W (ix4 n b s d) = projAt (aH h) (aMd md) (aMu mu) (aW W) n b s d := by
  rw [rP_at]
  unfold projAt lin
  rw [← rMix_at]
  rfl

end Mixed

section Results

variable (m : (ℓ : Loc nD τ sig) → Buf (Elt Ideal) ℓ) (c : Dev nD)

theorem v35_eq : (Cert.Reference6Ideal.Value.res_main_v35 m c : FVec Ideal S8x4096x1024 .f32)
    = rP0 (rP (rMix (m ((c : Thread nD τ).loc main_arg0)) (m ((c : Thread nD τ).loc main_arg1)) (m ((c : Thread nD τ).loc main_arg2))) (m ((c : Thread nD τ).loc main_arg3))) := rfl

theorem v35_at (b : Fin 8) (s : Fin 4096) (d : Fin 1024) : (Cert.Reference6Ideal.Value.res_main_v35 m c : FVec Ideal S8x4096x1024 .f32) (ix3 b s d)
    = projAt (aH (m ((c : Thread nD τ).loc main_arg0))) (aMd (m ((c : Thread nD τ).loc main_arg1))) (aMu (m ((c : Thread nD τ).loc main_arg2))) (aW (m ((c : Thread nD τ).loc main_arg3))) 0 b s d := by
  rw [v35_eq]
  rw [rP0_at, proj_at]

theorem v104_eq : (Cert.Reference6Ideal.Value.res_main_v104 m c : FVec Ideal S8x4096x1024 .f32)
    = rL (rZ (rMix (m ((c : Thread nD τ).loc main_arg0)) (m ((c : Thread nD τ).loc main_arg1)) (m ((c : Thread nD τ).loc main_arg2))) (m ((c : Thread nD τ).loc main_arg4)) (m ((c : Thread nD τ).loc main_arg5)) (m ((c : Thread nD τ).loc main_arg6))) := rfl

theorem v104_at (b : Fin 8) (s : Fin 4096) (d : Fin 1024) : (Cert.Reference6Ideal.Value.res_main_v104 m c : FVec Ideal S8x4096x1024 .f32) (ix3 b s d)
    = lwAt (aH (m ((c : Thread nD τ).loc main_arg0))) (aMd (m ((c : Thread nD τ).loc main_arg1))) (aMu (m ((c : Thread nD τ).loc main_arg2))) (row (m ((c : Thread nD τ).loc main_arg4))) (down (m ((c : Thread nD τ).loc main_arg5))) (up (m ((c : Thread nD τ).loc main_arg6))) b s d := by
  rw [v104_eq]
  unfold lwAt
  refine rL_at _ _ b s d ?_
  rw [rZ_at, rMix_at]

theorem v102_eq : (Cert.Reference6Ideal.Value.res_main_v102 m c : FVec Ideal S8x4096x1024 .f32)
    = rN (rP1 (rP (rMix (m ((c : Thread nD τ).loc main_arg0)) (m ((c : Thread nD τ).loc main_arg1)) (m ((c : Thread nD τ).loc main_arg2))) (m ((c : Thread nD τ).loc main_arg3)))) (rA (rMix (m ((c : Thread nD τ).loc main_arg0)) (m ((c : Thread nD τ).loc main_arg1)) (m ((c : Thread nD τ).loc main_arg2))) (m ((c : Thread nD τ).loc main_arg7)) (m ((c : Thread nD τ).loc main_arg8)) (m ((c : Thread nD τ).loc main_arg9))) (m ((c : Thread nD τ).loc main_arg13)) := rfl

theorem v102_at (b : Fin 8) (s : Fin 4096) (d : Fin 1024) : (Cert.Reference6Ideal.Value.res_main_v102 m c : FVec Ideal S8x4096x1024 .f32) (ix3 b s d)
    = renewed (projAt (aH (m ((c : Thread nD τ).loc main_arg0))) (aMd (m ((c : Thread nD τ).loc main_arg1))) (aMu (m ((c : Thread nD τ).loc main_arg2))) (aW (m ((c : Thread nD τ).loc main_arg3))) 1 b s d) (aAt (aH (m ((c : Thread nD τ).loc main_arg0))) (aMd (m ((c : Thread nD τ).loc main_arg1))) (aMu (m ((c : Thread nD τ).loc main_arg2))) (row (m ((c : Thread nD τ).loc main_arg7))) (down (m ((c : Thread nD τ).loc main_arg8))) (up (m ((c : Thread nD τ).loc main_arg9))) b s d) (row (m ((c : Thread nD τ).loc main_arg13)) d) := by
  rw [v102_eq]
  rw [rN_at, rP1_at, proj_at, rA_at, rMix_at]
  rfl

theorem v39_eq : (Cert.Reference6Ideal.Value.res_main_v39 m c : FVec Ideal S8x4096x1024 .f32)
    = rP2 (rP (rMix (m ((c : Thread nD τ).loc main_arg0)) (m ((c : Thread nD τ).loc main_arg1)) (m ((c : Thread nD τ).loc main_arg2))) (m ((c : Thread nD τ).loc main_arg3))) := rfl

theorem v39_at (b : Fin 8) (s : Fin 4096) (d : Fin 1024) : (Cert.Reference6Ideal.Value.res_main_v39 m c : FVec Ideal S8x4096x1024 .f32) (ix3 b s d)
    = projAt (aH (m ((c : Thread nD τ).loc main_arg0))) (aMd (m ((c : Thread nD τ).loc main_arg1))) (aMu (m ((c : Thread nD τ).loc main_arg2))) (aW (m ((c : Thread nD τ).loc main_arg3))) 2 b s d := by
  rw [v39_eq]
  rw [rP2_at, proj_at]

theorem v94_eq : (Cert.Reference6Ideal.Value.res_main_v94 m c : FVec Ideal S8x4096x1024 .f32)
    = rK (rH (rP1 (rP (rMix (m ((c : Thread nD τ).loc main_arg0)) (m ((c : Thread nD τ).loc main_arg1)) (m ((c : Thread nD τ).loc main_arg2))) (m ((c : Thread nD τ).loc main_arg3)))) (m ((c : Thread nD τ).loc main_arg12))) := rfl

theorem v94_at (b : Fin 8) (s : Fin 4096) (d : Fin 1024) : (Cert.Reference6Ideal.Value.res_main_v94 m c : FVec Ideal S8x4096x1024 .f32) (ix3 b s d)
    = kkAt (aH (m ((c : Thread nD τ).loc main_arg0))) (aMd (m ((c : Thread nD τ).loc main_arg1))) (aMu (m ((c : Thread nD τ).loc main_arg2))) (aW (m ((c : Thread nD τ).loc main_arg3))) (row (m ((c : Thread nD τ).loc main_arg12))) b s d := by
  rw [v94_eq]
  rw [rK_at]
  simp only [rP1_at, proj_at]
  rfl

theorem v105_eq : (Cert.Reference6Ideal.Value.res_main_v105 m c : FVec Ideal S8x4096x1024 .f32)
    = mulf (rK (rH (rP1 (rP (rMix (m ((c : Thread nD τ).loc main_arg0)) (m ((c : Thread nD τ).loc main_arg1)) (m ((c : Thread nD τ).loc main_arg2))) (m ((c : Thread nD τ).loc main_arg3)))) (m ((c : Thread nD τ).loc main_arg12)))) (rA (rMix (m ((c : Thread nD τ).loc main_arg0)) (m ((c : Thread nD τ).loc main_arg1)) (m ((c : Thread nD τ).loc main_arg2))) (m ((c : Thread nD τ).loc main_arg7)) (m ((c : Thread nD τ).loc main_arg8)) (m ((c : Thread nD τ).loc main_arg9))) := rfl

theorem v105_at (b : Fin 8) (s : Fin 4096) (d : Fin 1024) : (Cert.Reference6Ideal.Value.res_main_v105 m c : FVec Ideal S8x4096x1024 .f32) (ix3 b s d)
    = kkAt (aH (m ((c : Thread nD τ).loc main_arg0))) (aMd (m ((c : Thread nD τ).loc main_arg1))) (aMu (m ((c : Thread nD τ).loc main_arg2))) (aW (m ((c : Thread nD τ).loc main_arg3))) (row (m ((c : Thread nD τ).loc main_arg12))) b s d * aAt (aH (m ((c : Thread nD τ).loc main_arg0))) (aMd (m ((c : Thread nD τ).loc main_arg1))) (aMu (m ((c : Thread nD τ).loc main_arg2))) (row (m ((c : Thread nD τ).loc main_arg7))) (down (m ((c : Thread nD τ).loc main_arg8))) (up (m ((c : Thread nD τ).loc main_arg9))) b s d := by
  rw [v105_eq]
  rw [mul_at, rK_at, rA_at, rMix_at]
  simp only [rP1_at, proj_at]
  unfold kkAt aAt
  rfl

theorem v81_eq : (Cert.Reference6Ideal.Value.res_main_v81 m c : FVec Ideal S8x4096x1024 .f32)
    = rG (rMix (m ((c : Thread nD τ).loc main_arg0)) (m ((c : Thread nD τ).loc main_arg1)) (m ((c : Thread nD τ).loc main_arg2))) (m ((c : Thread nD τ).loc main_arg10)) (m ((c : Thread nD τ).loc main_arg11)) := rfl

theorem v81_at (b : Fin 8) (s : Fin 4096) (d : Fin 1024) : (Cert.Reference6Ideal.Value.res_main_v81 m c : FVec Ideal S8x4096x1024 .f32) (ix3 b s d)
    = gAt (aH (m ((c : Thread nD τ).loc main_arg0))) (aMd (m ((c : Thread nD τ).loc main_arg1))) (aMu (m ((c : Thread nD τ).loc main_arg2))) (downG (m ((c : Thread nD τ).loc main_arg10))) (upG (m ((c : Thread nD τ).loc main_arg11))) b s d := by
  rw [v81_eq]
  rw [rG_at, rMix_at]
  rfl

end Results

end Cert.RwkvInRef

end
-- ==== Proof.RwkvInCall.lean ====
module

public import proofs.«01_k».proof.Defs
public import proofs.«01_k».proof.Proof.RwkvInArray
public import proofs.«01_k».proof.Proof.RwkvInRef
public import proofs.«01_k».proof.Proof.RwkvOutCall
public import proofs.«01_k».proof.Proof.Gen.Reference6Ideal.Run
public import proofs.«01_k».proof.Proof.Gen.Pre_finite6
public import Idealize.ShloMosaic.Adequacy
public import Idealize.ShloMosaic.Init
public import Idealize.ShloMosaic.Lib.Quiescent

/-! The recurrence's input call: the tiled call against the plain lines. -/

@[expose] public section

set_option maxRecDepth 16384

noncomputable section

namespace Cert.RwkvInCall

open Idealize.ShloMosaic Idealize.ShloMosaic.TcCoe Idealize.SL.Sem Cert.FfnMath Cert.RwkvMath Cert.RwkvInMath Cert.RwkvInArray
open Cert.RwkvOutCall (fine_of_lt)
open scoped BigOperators

section Pre

variable [Cert.Pre_finite6.Facts]
  {h : FVec Ideal Cert.Pre_finite6.S8x4096x1024 .f32}
  {md : FVec Ideal Cert.Pre_finite6.S8x9216 .f32}
  {mu : FVec Ideal Cert.Pre_finite6.S6x1024 .f32}
  {W : FVec Ideal Cert.Pre_finite6.S3x1024x1024 .f32}
  {w0 : FVec Ideal Cert.Pre_finite6.S1024 .f32}
  {w1 : FVec Ideal Cert.Pre_finite6.S1024x64 .f32}
  {w2 : FVec Ideal Cert.Pre_finite6.S64x1024 .f32}
  {a0 : FVec Ideal Cert.Pre_finite6.S1024 .f32}
  {a1 : FVec Ideal Cert.Pre_finite6.S1024x64 .f32}
  {a2 : FVec Ideal Cert.Pre_finite6.S64x1024 .f32}
  {g1 : FVec Ideal Cert.Pre_finite6.S1024x160 .f32}
  {g2 : FVec Ideal Cert.Pre_finite6.S160x1024 .f32}
  {kk : FVec Ideal Cert.Pre_finite6.S1024 .f32}
  {ka : FVec Ideal Cert.Pre_finite6.S1024 .f32}

theorem fine_h (hp : (Cert.Pre_finite6.fn (F := Ideal) h md mu W w0 w1 w2 a0 a1 a2 g1 g2 kk ka).1 = fun _ => 1#1) (b s k) : Fine (aH h b s k) := by
  have h0 := congrFun hp (ix3 b s k)
  refine fine_of_lt (Eq.trans ?_ h0)
  pointwise [Cert.Pre_finite6.fn, aH]

theorem fine_md (hp : (Cert.Pre_finite6.fn (F := Ideal) h md mu W w0 w1 w2 a0 a1 a2 g1 g2 kk ka).2.1 = fun _ => 1#1) (b k) : Fine (aMd md b k) := by
  have h0 := congrFun hp (ix2 b k)
  refine fine_of_lt (Eq.trans ?_ h0)
  pointwise [Cert.Pre_finite6.fn, aMd]

theorem fine_mu (hp : (Cert.Pre_finite6.fn (F := Ideal) h md mu W w0 w1 w2 a0 a1 a2 g1 g2 kk ka).2.2.1 = fun _ => 1#1) (n k) : Fine (aMu mu n k) := by
  have h0 := congrFun hp (ix2 n k)
  refine fine_of_lt (Eq.trans ?_ h0)
  pointwise [Cert.Pre_finite6.fn, aMu]

theorem fine_W (hp : (Cert.Pre_finite6.fn (F := Ideal) h md mu W w0 w1 w2 a0 a1 a2 g1 g2 kk ka).2.2.2.1 = fun _ => 1#1) (n k d) : Fine (aW W n k d) := by
  have h0 := congrFun hp (ix3 n k d)
  refine fine_of_lt (Eq.trans ?_ h0)
  pointwise [Cert.Pre_finite6.fn, aW]

theorem fine_kk (hp : (Cert.Pre_finite6.fn (F := Ideal) h md mu W w0 w1 w2 a0 a1 a2 g1 g2 kk ka).2.2.2.2 = fun _ => 1#1) (k) : Fine (row kk k) := by
  have h0 := congrFun hp (ix1 k)
  refine fine_of_lt (Eq.trans ?_ h0)
  pointwise [Cert.Pre_finite6.fn, row]

end Pre

/-- The plain lines end with their arguments unchanged and no counter raised. -/
theorem quiescent_Reference6Ideal : quiescent_Reference6Ideal := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

/-- So they do when the finiteness condition holds. -/
theorem quiescent_Reference6Ideal_pre : quiescent_Reference6Ideal_pre_finite6 := fun m ρ _ =>
  (θ_run Cert.Reference6Ideal.defs _ _).mono (fun r h => ⟨fun c => (h c).2.2.2.2.2.2.2, sem_eq_zero_of_no_sems (by decide) r.2⟩)
    (Cert.Reference6Ideal.Value.run (F := Ideal) m ρ)

/-- From memories that agree on the arguments and whose hidden states, modulation, mixing weights, projections and key weights are finite,
the call and the plain lines leave the same seven arrays. -/
theorem algebraic_Kernel6Ideal_Reference6Ideal_pre_finite6 : algebraic_Kernel6Ideal_Reference6Ideal_pre_finite6 := by
  intro m ρ m' ρ' hpre hagree
  refine ⟨_, _, _, _, _, _, _, Cert.Kernel6Ideal.Value.run_blocks (F := Ideal) m ρ, ?_⟩
  refine (θ_run Cert.Reference6Ideal.defs _ _).mono
    (fun _ h c => ⟨?_, ?_, ?_, ?_, ?_, ?_, ?_, (h c).2.2.2.2.2.2.2⟩) (Cert.Reference6Ideal.Value.run (F := Ideal) m' ρ')
  · rw [(h c).1, array18]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v35_at m' c b s d).trans ?_
    simp only [hagree c, G18]
    first | done | rfl
  · rw [(h c).2.1, array19]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v104_at m' c b s d).trans ?_
    simp only [hagree c, G19]
    first | done | rfl
  · rw [(h c).2.2.1, array20]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v102_at m' c b s d).trans ?_
    simp only [hagree c, G20]
    first | done | rfl
  · rw [(h c).2.2.2.1, array21]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v39_at m' c b s d).trans ?_
    simp only [hagree c, G21]
    first | done | rfl
  · rw [(h c).2.2.2.2.1, array22 m c (fine_h (hpre c).1) (fine_md (hpre c).2.1) (fine_mu (hpre c).2.2.1) (fine_W (hpre c).2.2.2.1) (fine_kk (hpre c).2.2.2.2)]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v94_at m' c b s d).trans ?_
    simp only [hagree c, G22]
    first | done | rfl
  · rw [(h c).2.2.2.2.2.1, array23 m c (fine_h (hpre c).1) (fine_md (hpre c).2.1) (fine_mu (hpre c).2.2.1) (fine_W (hpre c).2.2.2.1) (fine_kk (hpre c).2.2.2.2)]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v105_at m' c b s d).trans ?_
    simp only [hagree c, G23]
    first | done | rfl
  · rw [(h c).2.2.2.2.2.2.1, array24]
    funext i
    obtain ⟨b, s, d, rfl⟩ : ∃ (b : Fin 8) (s : Fin 4096) (d : Fin 1024), i = ix3 b s d :=
      ⟨i 0, i 1, i 2, eq_ix3 (n0 := 8) (n1 := 4096) (n2 := 1024) i⟩
    refine (Cert.RwkvInRef.v81_at m' c b s d).trans ?_
    simp only [hagree c, G24]
    first | done | rfl

end Cert.RwkvInCall

end
-- ==== Proof.lean ====
module

public import proofs.«01_k».proof.Defs
public import proofs.«01_k».proof.Proof.Gen.Kernel.Frame
public import proofs.«01_k».proof.Proof.FfnArray
public import proofs.«01_k».proof.Proof.FfnRef
public import proofs.«01_k».proof.Proof.Gen.Kernel2.Frame
public import proofs.«01_k».proof.Proof.DsaInCall
public import proofs.«01_k».proof.Proof.Gen.Kernel3.Frame
public import proofs.«01_k».proof.Proof.DsaOutCall
public import proofs.«01_k».proof.Proof.Gen.Kernel4.Frame
public import proofs.«01_k».proof.Proof.AdaCall
public import proofs.«01_k».proof.Proof.Gen.Kernel5.Frame
public import proofs.«01_k».proof.Proof.RwkvOutCall
public import proofs.«01_k».proof.Proof.Gen.Pre_finite5
public import proofs.«01_k».proof.Proof.Gen.Pre_finite6
public import proofs.«01_k».proof.Proof.Gen.Kernel6.Frame
public import proofs.«01_k».proof.Proof.RwkvInCall
public import proofs.«01_k».proof.Proof.Gen.Kernel7.Frame
public import proofs.«01_k».proof.Proof.Gen.Kernel7Ideal.Frame
public import Idealize.ShloMosaic.Adequacy
public import Idealize.ShloMosaic.Init
public import Idealize.ShloMosaic.Lib.Quiescent

@[expose] public section

noncomputable section

namespace Cert.Proof

open Idealize.ShloMosaic Idealize.SL.Sem

/-- The plain feed-forward block ends with its arguments unchanged and no counter raised. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the feed-forward kernel and the plain block leave the same array. -/
theorem algebraic_KernelIdeal_ReferenceIdeal : algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, Cert.KernelIdeal.Array.array_eq]
  funext i
  rw [eq_ix3 (n0 := 8) (n1 := 4096) (n2 := 1024) i]
  refine (Cert.ReferenceIdeal.Read.result_eq m' c _ _ _).trans ?_
  simp only [hagree c]
  rfl

/-- All the claims. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts,
  Cert.Pre_finite5.Gen.facts,
  Cert.Pre_finite6.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, Cert.DsaInCall.quiescent_Reference2Ideal,
  fun m ρ _ => Cert.Kernel3.Gen.frame m ρ, fun m ρ _ => Cert.Kernel3Ideal.Gen.frame m ρ, Cert.DsaOutCall.quiescent_Reference3Ideal,
  fun m ρ _ => Cert.Kernel4.Gen.frame m ρ, fun m ρ _ => Cert.Kernel4Ideal.Gen.frame m ρ, Cert.AdaCall.quiescent_Reference4Ideal,
  fun m ρ _ => Cert.Kernel5.Gen.frame m ρ, fun m ρ _ => Cert.Kernel5Ideal.Gen.frame m ρ, fun m ρ _ => Cert.Kernel5Ideal.Gen.frame m ρ, Cert.RwkvOutCall.quiescent_Reference5Ideal, Cert.RwkvOutCall.quiescent_Reference5Ideal_pre,
  fun m ρ _ => Cert.Kernel6.Gen.frame m ρ, fun m ρ _ => Cert.Kernel6Ideal.Gen.frame m ρ, fun m ρ _ => Cert.Kernel6Ideal.Gen.frame m ρ, Cert.RwkvInCall.quiescent_Reference6Ideal, Cert.RwkvInCall.quiescent_Reference6Ideal_pre,
  fun m ρ _ => Cert.Kernel7.Gen.frame m ρ, fun m ρ _ => Cert.Kernel7Ideal.Gen.frame m ρ,
  (trivial : preserves_Kernel_KernelIdeal), algebraic_KernelIdeal_ReferenceIdeal,
  (trivial : preserves_Kernel2_Kernel2Ideal), Cert.DsaInCall.algebraic_Kernel2Ideal_Reference2Ideal,
  (trivial : preserves_Kernel3_Kernel3Ideal), Cert.DsaOutCall.algebraic_Kernel3Ideal_Reference3Ideal,
  (trivial : preserves_Kernel4_Kernel4Ideal), Cert.AdaCall.algebraic_Kernel4Ideal_Reference4Ideal,
  (trivial : preserves_Kernel5_Kernel5Ideal), Cert.RwkvOutCall.algebraic_Kernel5Ideal_Reference5Ideal_pre_finite5,
  (trivial : preserves_Kernel6_Kernel6Ideal), Cert.RwkvInCall.algebraic_Kernel6Ideal_Reference6Ideal_pre_finite6,
  (trivial : preserves_Kernel7_Kernel7Ideal)⟩

end Cert.Proof

end
